-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_GwDownRefIdeal (m : (ℓ : Loc Cert.GwDownRefIdeal.nD Cert.GwDownRefIdeal.τ Cert.GwDownRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_GwUpRefIdeal (m : (ℓ : Loc Cert.GwUpRefIdeal.nD Cert.GwUpRefIdeal.τ Cert.GwUpRefIdeal.sig) → Buf (Elt Ideal) ℓ) : Prop :=
  True

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_DmergedRefIdeal (m : (ℓ : Loc Cert.DmergedRefIdeal.nD Cert.DmergedRefIdeal.τ Cert.DmergedRefIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutRefIdeal (m : (ℓ : Loc Cert.GwOutRefIdeal.nD Cert.GwOutRefIdeal.τ Cert.GwOutRefIdeal.sig) → Buf (Elt Ideal) ℓ) : Prop :=
  True

def Pre_Dz (m : (ℓ : Loc Cert.Dz.nD Cert.Dz.τ Cert.Dz.sig) → Buf (Elt Bits) ℓ) : Prop :=
  True

def Pre_DzIdeal (m : (ℓ : Loc Cert.DzIdeal.nD Cert.DzIdeal.τ Cert.DzIdeal.sig) → Buf (Elt Ideal) ℓ) : Prop :=
  True

def Pre_DzRefIdeal (m : (ℓ : Loc Cert.DzRefIdeal.nD Cert.DzRefIdeal.τ Cert.DzRefIdeal.sig) → Buf (Elt Ideal) ℓ) : Prop :=
  True

def Pre_GwPs5 (m : (ℓ : Loc Cert.GwPs5.nD Cert.GwPs5.τ Cert.GwPs5.sig) → Buf (Elt Bits) ℓ) : Prop :=
  True

def Pre_GwPs5Ideal (m : (ℓ : Loc Cert.GwPs5Ideal.nD Cert.GwPs5Ideal.τ Cert.GwPs5Ideal.sig) → Buf (Elt Ideal) ℓ) : Prop :=
  True

def Pre_GwPs5RefIdeal (m : (ℓ : Loc Cert.GwPs5RefIdeal.nD Cert.GwPs5RefIdeal.τ Cert.GwPs5RefIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRefIdeal (m : (ℓ : Loc Cert.GwInRefIdeal.nD Cert.GwInRefIdeal.τ Cert.GwInRefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ps5 (m : (ℓ : Loc Cert.Ps5.nD Cert.Ps5.τ Cert.Ps5.sig) → Buf (Elt Bits) ℓ) : Prop :=
  True

def Pre_Ps5Ideal (m : (ℓ : Loc Cert.Ps5Ideal.nD Cert.Ps5Ideal.τ Cert.Ps5Ideal.sig) → Buf (Elt Ideal) ℓ) : Prop :=
  True

def Pre_Ps5RefIdeal (m : (ℓ : Loc Cert.Ps5RefIdeal.nD Cert.Ps5RefIdeal.τ Cert.Ps5RefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamPs5 (m : (ℓ : Loc Cert.AdamPs5.nD Cert.AdamPs5.τ Cert.AdamPs5.sig) → Buf (Elt Bits) ℓ) : Prop :=
  True

def Pre_AdamPs5Ideal (m : (ℓ : Loc Cert.AdamPs5Ideal.nD Cert.AdamPs5Ideal.τ Cert.AdamPs5Ideal.sig) → Buf (Elt Ideal) ℓ) : Prop :=
  True

def Pre_AdamPs5RefIdeal (m : (ℓ : Loc Cert.AdamPs5RefIdeal.nD Cert.AdamPs5RefIdeal.τ Cert.AdamPs5RefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_Bounds (m : (ℓ : Loc Cert.Bounds.nD Cert.Bounds.τ Cert.Bounds.sig) → Buf (Elt Bits) ℓ) : Prop :=
  True

def Pre_BoundsIdeal (m : (ℓ : Loc Cert.BoundsIdeal.nD Cert.BoundsIdeal.τ Cert.BoundsIdeal.sig) → Buf (Elt Ideal) ℓ) : Prop :=
  True

def Pre_BoundsRefIdeal (m : (ℓ : Loc Cert.BoundsRefIdeal.nD Cert.BoundsRefIdeal.τ Cert.BoundsRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumNorm (m : (ℓ : Loc Cert.SumNorm.nD Cert.SumNorm.τ Cert.SumNorm.sig) → Buf (Elt Bits) ℓ) : Prop :=
  True

def Pre_SumNormIdeal (m : (ℓ : Loc Cert.SumNormIdeal.nD Cert.SumNormIdeal.τ Cert.SumNormIdeal.sig) → Buf (Elt Ideal) ℓ) : Prop :=
  True

def Pre_SumNormRefIdeal (m : (ℓ : Loc Cert.SumNormRefIdeal.nD Cert.SumNormRefIdeal.τ Cert.SumNormRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite [hPre_finite : Cert.Pre_finite.Facts] (m : (ℓ : Loc Cert.ConvIdeal.nD Cert.ConvIdeal.τ Cert.ConvIdeal.sig) → Buf (Elt Ideal) ℓ) : Prop :=
  ∀ c : Dev Cert.ConvIdeal.nD,
    (Cert.Pre_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).1 = (fun _ => 1#1)
    ∧ (Cert.Pre_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.1 = (fun _ => 1#1)
    ∧ (Cert.Pre_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.2.1 = (fun _ => 1#1)
    ∧ (Cert.Pre_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.2.2 = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite [hPre_finite : Cert.Pre_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).1 = (fun _ => 1#1)
    ∧ (Cert.Pre_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.1 = (fun _ => 1#1)
    ∧ (Cert.Pre_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.2.1 = (fun _ => 1#1)
    ∧ (Cert.Pre_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.2.2 = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_GwDownRefIdeal [hGwDownRefIdeal : Cert.GwDownRefIdeal.Facts] : Prop :=
  ∀ (m : (ℓ : Loc Cert.GwDownRefIdeal.nD Cert.GwDownRefIdeal.τ Cert.GwDownRefIdeal.sig) → Buf (Elt Ideal) ℓ) (g : Dev Cert.GwDownRefIdeal.nD → PrngReg), Pre_GwDownRefIdeal m →
    θ_run (Cert.GwDownRefIdeal.defs (F := Ideal)) (onTc (τ := Cert.GwDownRefIdeal.τ) (Cert.GwDownRefIdeal.main (F := Ideal))) ⟨m, fun _ => 0, g⟩ (fun r => (∀ c : Dev Cert.GwDownRefIdeal.nD,
      r.2.mem ((c.tc : Thread Cert.GwDownRefIdeal.nD Cert.GwDownRefIdeal.τ).loc Cert.GwDownRefIdeal.main_arg0) = m ((c.tc : Thread Cert.GwDownRefIdeal.nD Cert.GwDownRefIdeal.τ).loc Cert.GwDownRefIdeal.main_arg0)
      ∧ r.2.mem ((c.tc : Thread Cert.GwDownRefIdeal.nD Cert.GwDownRefIdeal.τ).loc Cert.GwDownRefIdeal.main_arg1) = m ((c.tc : Thread Cert.GwDownRefIdeal.nD Cert.GwDownRefIdeal.τ).loc Cert.GwDownRefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_GwUpRefIdeal [hGwUpRefIdeal : Cert.GwUpRefIdeal.Facts] : Prop :=
  ∀ (m : (ℓ : Loc Cert.GwUpRefIdeal.nD Cert.GwUpRefIdeal.τ Cert.GwUpRefIdeal.sig) → Buf (Elt Ideal) ℓ) (g : Dev Cert.GwUpRefIdeal.nD → PrngReg), Pre_GwUpRefIdeal m →
    θ_run (Cert.GwUpRefIdeal.defs (F := Ideal)) (onTc (τ := Cert.GwUpRefIdeal.τ) (Cert.GwUpRefIdeal.main (F := Ideal))) ⟨m, fun _ => 0, g⟩ (fun r => (∀ c : Dev Cert.GwUpRefIdeal.nD,
      r.2.mem ((c.tc : Thread Cert.GwUpRefIdeal.nD Cert.GwUpRefIdeal.τ).loc Cert.GwUpRefIdeal.main_arg0) = m ((c.tc : Thread Cert.GwUpRefIdeal.nD Cert.GwUpRefIdeal.τ).loc Cert.GwUpRefIdeal.main_arg0)
      ∧ r.2.mem ((c.tc : Thread Cert.GwUpRefIdeal.nD Cert.GwUpRefIdeal.τ).loc Cert.GwUpRefIdeal.main_arg1) = m ((c.tc : Thread Cert.GwUpRefIdeal.nD Cert.GwUpRefIdeal.τ).loc Cert.GwUpRefIdeal.main_arg1))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ r.2.sem = fun _ => 0)

def quiescent_DmergedRefIdeal [hDmergedRefIdeal : Cert.DmergedRefIdeal.Facts] : Prop :=
  ∀ (m : (ℓ : Loc Cert.DmergedRefIdeal.nD Cert.DmergedRefIdeal.τ Cert.DmergedRefIdeal.sig) → Buf (Elt Ideal) ℓ) (g : Dev Cert.DmergedRefIdeal.nD → PrngReg), Pre_DmergedRefIdeal m →
    θ_run (Cert.DmergedRefIdeal.defs (F := Ideal)) (onTc (τ := Cert.DmergedRefIdeal.τ) (Cert.DmergedRefIdeal.main (F := Ideal))) ⟨m, fun _ => 0, g⟩ (fun r => (∀ c : Dev Cert.DmergedRefIdeal.nD,
      r.2.mem ((c.tc : Thread Cert.DmergedRefIdeal.nD Cert.DmergedRefIdeal.τ).loc Cert.DmergedRefIdeal.main_arg0) = m ((c.tc : Thread Cert.DmergedRefIdeal.nD Cert.DmergedRefIdeal.τ).loc Cert.DmergedRefIdeal.main_arg0)
      ∧ r.2.mem ((c.tc : Thread Cert.DmergedRefIdeal.nD Cert.DmergedRefIdeal.τ).loc Cert.DmergedRefIdeal.main_arg1) = m ((c.tc : Thread Cert.DmergedRefIdeal.nD Cert.DmergedRefIdeal.τ).loc Cert.DmergedRefIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutRefIdeal [hGwOutRefIdeal : Cert.GwOutRefIdeal.Facts] : Prop :=
  ∀ (m : (ℓ : Loc Cert.GwOutRefIdeal.nD Cert.GwOutRefIdeal.τ Cert.GwOutRefIdeal.sig) → Buf (Elt Ideal) ℓ) (g : Dev Cert.GwOutRefIdeal.nD → PrngReg), Pre_GwOutRefIdeal m →
    θ_run (Cert.GwOutRefIdeal.defs (F := Ideal)) (onTc (τ := Cert.GwOutRefIdeal.τ) (Cert.GwOutRefIdeal.main (F := Ideal))) ⟨m, fun _ => 0, g⟩ (fun r => (∀ c : Dev Cert.GwOutRefIdeal.nD,
      r.2.mem ((c.tc : Thread Cert.GwOutRefIdeal.nD Cert.GwOutRefIdeal.τ).loc Cert.GwOutRefIdeal.main_arg0) = m ((c.tc : Thread Cert.GwOutRefIdeal.nD Cert.GwOutRefIdeal.τ).loc Cert.GwOutRefIdeal.main_arg0)
      ∧ r.2.mem ((c.tc : Thread Cert.GwOutRefIdeal.nD Cert.GwOutRefIdeal.τ).loc Cert.GwOutRefIdeal.main_arg1) = m ((c.tc : Thread Cert.GwOutRefIdeal.nD Cert.GwOutRefIdeal.τ).loc Cert.GwOutRefIdeal.main_arg1))
      ∧ r.2.sem = fun _ => 0)

def quiescent_Dz [hDz : Cert.Dz.Facts] : Prop :=
  ∀ (m : (ℓ : Loc Cert.Dz.nD Cert.Dz.τ Cert.Dz.sig) → Buf (Elt Bits) ℓ) (g : Dev Cert.Dz.nD → PrngReg), Pre_Dz m →
    θ_run (Cert.Dz.defs (F := Bits)) (onTc (τ := Cert.Dz.τ) (Cert.Dz.main (F := Bits))) ⟨m, fun _ => 0, g⟩ (fun r => (∀ c : Dev Cert.Dz.nD,
      r.2.mem ((c.tc : Thread Cert.Dz.nD Cert.Dz.τ).loc Cert.Dz.main_arg0) = m ((c.tc : Thread Cert.Dz.nD Cert.Dz.τ).loc Cert.Dz.main_arg0)
      ∧ r.2.mem ((c.tc : Thread Cert.Dz.nD Cert.Dz.τ).loc Cert.Dz.main_arg1) = m ((c.tc : Thread Cert.Dz.nD Cert.Dz.τ).loc Cert.Dz.main_arg1))
      ∧ r.2.sem = fun _ => 0)

def quiescent_DzIdeal [hDzIdeal : Cert.DzIdeal.Facts] : Prop :=
  ∀ (m : (ℓ : Loc Cert.DzIdeal.nD Cert.DzIdeal.τ Cert.DzIdeal.sig) → Buf (Elt Ideal) ℓ) (g : Dev Cert.DzIdeal.nD → PrngReg), Pre_DzIdeal m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1))
      ∧ r.2.sem = fun _ => 0)

def quiescent_DzRefIdeal [hDzRefIdeal : Cert.DzRefIdeal.Facts] : Prop :=
  ∀ (m : (ℓ : Loc Cert.DzRefIdeal.nD Cert.DzRefIdeal.τ Cert.DzRefIdeal.sig) → Buf (Elt Ideal) ℓ) (g : Dev Cert.DzRefIdeal.nD → PrngReg), Pre_DzRefIdeal m →
    θ_run (Cert.DzRefIdeal.defs (F := Ideal)) (onTc (τ := Cert.DzRefIdeal.τ) (Cert.DzRefIdeal.main (F := Ideal))) ⟨m, fun _ => 0, g⟩ (fun r => (∀ c : Dev Cert.DzRefIdeal.nD,
      r.2.mem ((c.tc : Thread Cert.DzRefIdeal.nD Cert.DzRefIdeal.τ).loc Cert.DzRefIdeal.main_arg0) = m ((c.tc : Thread Cert.DzRefIdeal.nD Cert.DzRefIdeal.τ).loc Cert.DzRefIdeal.main_arg0)
      ∧ r.2.mem ((c.tc : Thread Cert.DzRefIdeal.nD Cert.DzRefIdeal.τ).loc Cert.DzRefIdeal.main_arg1) = m ((c.tc : Thread Cert.DzRefIdeal.nD Cert.DzRefIdeal.τ).loc Cert.DzRefIdeal.main_arg1))
      ∧ r.2.sem = fun _ => 0)

def quiescent_GwPs5 [hGwPs5 : Cert.GwPs5.Facts] : Prop :=
  ∀ (m : (ℓ : Loc Cert.GwPs5.nD Cert.GwPs5.τ Cert.GwPs5.sig) → Buf (Elt Bits) ℓ) (g : Dev Cert.GwPs5.nD → PrngReg), Pre_GwPs5 m →
    θ_run (Cert.GwPs5.defs (F := Bits)) (onTc (τ := Cert.GwPs5.τ) (Cert.GwPs5.main (F := Bits))) ⟨m, fun _ => 0, g⟩ (fun r => (∀ c : Dev Cert.GwPs5.nD,
      r.2.mem ((c.tc : Thread Cert.GwPs5.nD Cert.GwPs5.τ).loc Cert.GwPs5.main_arg0) = m ((c.tc : Thread Cert.GwPs5.nD Cert.GwPs5.τ).loc Cert.GwPs5.main_arg0)
      ∧ r.2.mem ((c.tc : Thread Cert.GwPs5.nD Cert.GwPs5.τ).loc Cert.GwPs5.main_arg1) = m ((c.tc : Thread Cert.GwPs5.nD Cert.GwPs5.τ).loc Cert.GwPs5.main_arg1))
      ∧ r.2.sem = fun _ => 0)

def quiescent_GwPs5Ideal [hGwPs5Ideal : Cert.GwPs5Ideal.Facts] : Prop :=
  ∀ (m : (ℓ : Loc Cert.GwPs5Ideal.nD Cert.GwPs5Ideal.τ Cert.GwPs5Ideal.sig) → Buf (Elt Ideal) ℓ) (g : Dev Cert.GwPs5Ideal.nD → PrngReg), Pre_GwPs5Ideal m →
    θ_run (Cert.GwPs5Ideal.defs (F := Ideal)) (onTc (τ := Cert.GwPs5Ideal.τ) (Cert.GwPs5Ideal.main (F := Ideal))) ⟨m, fun _ => 0, g⟩ (fun r => (∀ c : Dev Cert.GwPs5Ideal.nD,
      r.2.mem ((c.tc : Thread Cert.GwPs5Ideal.nD Cert.GwPs5Ideal.τ).loc Cert.GwPs5Ideal.main_arg0) = m ((c.tc : Thread Cert.GwPs5Ideal.nD Cert.GwPs5Ideal.τ).loc Cert.GwPs5Ideal.main_arg0)
      ∧ r.2.mem ((c.tc : Thread Cert.GwPs5Ideal.nD Cert.GwPs5Ideal.τ).loc Cert.GwPs5Ideal.main_arg1) = m ((c.tc : Thread Cert.GwPs5Ideal.nD Cert.GwPs5Ideal.τ).loc Cert.GwPs5Ideal.main_arg1))
      ∧ r.2.sem = fun _ => 0)

def quiescent_GwPs5RefIdeal [hGwPs5RefIdeal : Cert.GwPs5RefIdeal.Facts] : Prop :=
  ∀ (m : (ℓ : Loc Cert.GwPs5RefIdeal.nD Cert.GwPs5RefIdeal.τ Cert.GwPs5RefIdeal.sig) → Buf (Elt Ideal) ℓ) (g : Dev Cert.GwPs5RefIdeal.nD → PrngReg), Pre_GwPs5RefIdeal m →
    θ_run (Cert.GwPs5RefIdeal.defs (F := Ideal)) (onTc (τ := Cert.GwPs5RefIdeal.τ) (Cert.GwPs5RefIdeal.main (F := Ideal))) ⟨m, fun _ => 0, g⟩ (fun r => (∀ c : Dev Cert.GwPs5RefIdeal.nD,
      r.2.mem ((c.tc : Thread Cert.GwPs5RefIdeal.nD Cert.GwPs5RefIdeal.τ).loc Cert.GwPs5RefIdeal.main_arg0) = m ((c.tc : Thread Cert.GwPs5RefIdeal.nD Cert.GwPs5RefIdeal.τ).loc Cert.GwPs5RefIdeal.main_arg0)
      ∧ r.2.mem ((c.tc : Thread Cert.GwPs5RefIdeal.nD Cert.GwPs5RefIdeal.τ).loc Cert.GwPs5RefIdeal.main_arg1) = m ((c.tc : Thread Cert.GwPs5RefIdeal.nD Cert.GwPs5RefIdeal.τ).loc Cert.GwPs5RefIdeal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInRefIdeal [hGwInRefIdeal : Cert.GwInRefIdeal.Facts] : Prop :=
  ∀ (m : (ℓ : Loc Cert.GwInRefIdeal.nD Cert.GwInRefIdeal.τ Cert.GwInRefIdeal.sig) → Buf (Elt Ideal) ℓ) (g : Dev Cert.GwInRefIdeal.nD → PrngReg), Pre_GwInRefIdeal m →
    θ_run (Cert.GwInRefIdeal.defs (F := Ideal)) (onTc (τ := Cert.GwInRefIdeal.τ) (Cert.GwInRefIdeal.main (F := Ideal))) ⟨m, fun _ => 0, g⟩ (fun r => (∀ c : Dev Cert.GwInRefIdeal.nD,
      r.2.mem ((c.tc : Thread Cert.GwInRefIdeal.nD Cert.GwInRefIdeal.τ).loc Cert.GwInRefIdeal.main_arg0) = m ((c.tc : Thread Cert.GwInRefIdeal.nD Cert.GwInRefIdeal.τ).loc Cert.GwInRefIdeal.main_arg0)
      ∧ r.2.mem ((c.tc : Thread Cert.GwInRefIdeal.nD Cert.GwInRefIdeal.τ).loc Cert.GwInRefIdeal.main_arg1) = m ((c.tc : Thread Cert.GwInRefIdeal.nD Cert.GwInRefIdeal.τ).loc Cert.GwInRefIdeal.main_arg1))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Ps5 [hPs5 : Cert.Ps5.Facts] : Prop :=
  ∀ (m : (ℓ : Loc Cert.Ps5.nD Cert.Ps5.τ Cert.Ps5.sig) → Buf (Elt Bits) ℓ) (g : Dev Cert.Ps5.nD → PrngReg), Pre_Ps5 m →
    θ_run (Cert.Ps5.defs (F := Bits)) (onTc (τ := Cert.Ps5.τ) (Cert.Ps5.main (F := Bits))) ⟨m, fun _ => 0, g⟩ (fun r => (∀ c : Dev Cert.Ps5.nD,
      r.2.mem ((c.tc : Thread Cert.Ps5.nD Cert.Ps5.τ).loc Cert.Ps5.main_arg0) = m ((c.tc : Thread Cert.Ps5.nD Cert.Ps5.τ).loc Cert.Ps5.main_arg0)
      ∧ r.2.mem ((c.tc : Thread Cert.Ps5.nD Cert.Ps5.τ).loc Cert.Ps5.main_arg1) = m ((c.tc : Thread Cert.Ps5.nD Cert.Ps5.τ).loc Cert.Ps5.main_arg1))
      ∧ r.2.sem = fun _ => 0)

def quiescent_Ps5Ideal [hPs5Ideal : Cert.Ps5Ideal.Facts] : Prop :=
  ∀ (m : (ℓ : Loc Cert.Ps5Ideal.nD Cert.Ps5Ideal.τ Cert.Ps5Ideal.sig) → Buf (Elt Ideal) ℓ) (g : Dev Cert.Ps5Ideal.nD → PrngReg), Pre_Ps5Ideal m →
    θ_run (Cert.Ps5Ideal.defs (F := Ideal)) (onTc (τ := Cert.Ps5Ideal.τ) (Cert.Ps5Ideal.main (F := Ideal))) ⟨m, fun _ => 0, g⟩ (fun r => (∀ c : Dev Cert.Ps5Ideal.nD,
      r.2.mem ((c.tc : Thread Cert.Ps5Ideal.nD Cert.Ps5Ideal.τ).loc Cert.Ps5Ideal.main_arg0) = m ((c.tc : Thread Cert.Ps5Ideal.nD Cert.Ps5Ideal.τ).loc Cert.Ps5Ideal.main_arg0)
      ∧ r.2.mem ((c.tc : Thread Cert.Ps5Ideal.nD Cert.Ps5Ideal.τ).loc Cert.Ps5Ideal.main_arg1) = m ((c.tc : Thread Cert.Ps5Ideal.nD Cert.Ps5Ideal.τ).loc Cert.Ps5Ideal.main_arg1))
      ∧ r.2.sem = fun _ => 0)

def quiescent_Ps5RefIdeal [hPs5RefIdeal : Cert.Ps5RefIdeal.Facts] : Prop :=
  ∀ (m : (ℓ : Loc Cert.Ps5RefIdeal.nD Cert.Ps5RefIdeal.τ Cert.Ps5RefIdeal.sig) → Buf (Elt Ideal) ℓ) (g : Dev Cert.Ps5RefIdeal.nD → PrngReg), Pre_Ps5RefIdeal m →
    θ_run (Cert.Ps5RefIdeal.defs (F := Ideal)) (onTc (τ := Cert.Ps5RefIdeal.τ) (Cert.Ps5RefIdeal.main (F := Ideal))) ⟨m, fun _ => 0, g⟩ (fun r => (∀ c : Dev Cert.Ps5RefIdeal.nD,
      r.2.mem ((c.tc : Thread Cert.Ps5RefIdeal.nD Cert.Ps5RefIdeal.τ).loc Cert.Ps5RefIdeal.main_arg0) = m ((c.tc : Thread Cert.Ps5RefIdeal.nD Cert.Ps5RefIdeal.τ).loc Cert.Ps5RefIdeal.main_arg0)
      ∧ r.2.mem ((c.tc : Thread Cert.Ps5RefIdeal.nD Cert.Ps5RefIdeal.τ).loc Cert.Ps5RefIdeal.main_arg1) = m ((c.tc : Thread Cert.Ps5RefIdeal.nD Cert.Ps5RefIdeal.τ).loc Cert.Ps5RefIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamPs5 [hAdamPs5 : Cert.AdamPs5.Facts] : Prop :=
  ∀ (m : (ℓ : Loc Cert.AdamPs5.nD Cert.AdamPs5.τ Cert.AdamPs5.sig) → Buf (Elt Bits) ℓ) (g : Dev Cert.AdamPs5.nD → PrngReg), Pre_AdamPs5 m →
    θ_run (Cert.AdamPs5.defs (F := Bits)) (onTc (τ := Cert.AdamPs5.τ) (Cert.AdamPs5.main (F := Bits))) ⟨m, fun _ => 0, g⟩ (fun r => (∀ c : Dev Cert.AdamPs5.nD,
      r.2.mem ((c.tc : Thread Cert.AdamPs5.nD Cert.AdamPs5.τ).loc Cert.AdamPs5.main_arg0) = m ((c.tc : Thread Cert.AdamPs5.nD Cert.AdamPs5.τ).loc Cert.AdamPs5.main_arg0)
      ∧ r.2.mem ((c.tc : Thread Cert.AdamPs5.nD Cert.AdamPs5.τ).loc Cert.AdamPs5.main_arg1) = m ((c.tc : Thread Cert.AdamPs5.nD Cert.AdamPs5.τ).loc Cert.AdamPs5.main_arg1)
      ∧ r.2.mem ((c.tc : Thread Cert.AdamPs5.nD Cert.AdamPs5.τ).loc Cert.AdamPs5.main_arg2) = m ((c.tc : Thread Cert.AdamPs5.nD Cert.AdamPs5.τ).loc Cert.AdamPs5.main_arg2)
      ∧ r.2.mem ((c.tc : Thread Cert.AdamPs5.nD Cert.AdamPs5.τ).loc Cert.AdamPs5.main_arg3) = m ((c.tc : Thread Cert.AdamPs5.nD Cert.AdamPs5.τ).loc Cert.AdamPs5.main_arg3))
      ∧ r.2.sem = fun _ => 0)

def quiescent_AdamPs5Ideal [hAdamPs5Ideal : Cert.AdamPs5Ideal.Facts] : Prop :=
  ∀ (m : (ℓ : Loc Cert.AdamPs5Ideal.nD Cert.AdamPs5Ideal.τ Cert.AdamPs5Ideal.sig) → Buf (Elt Ideal) ℓ) (g : Dev Cert.AdamPs5Ideal.nD → PrngReg), Pre_AdamPs5Ideal m →
    θ_run (Cert.AdamPs5Ideal.defs (F := Ideal)) (onTc (τ := Cert.AdamPs5Ideal.τ) (Cert.AdamPs5Ideal.main (F := Ideal))) ⟨m, fun _ => 0, g⟩ (fun r => (∀ c : Dev Cert.AdamPs5Ideal.nD,
      r.2.mem ((c.tc : Thread Cert.AdamPs5Ideal.nD Cert.AdamPs5Ideal.τ).loc Cert.AdamPs5Ideal.main_arg0) = m ((c.tc : Thread Cert.AdamPs5Ideal.nD Cert.AdamPs5Ideal.τ).loc Cert.AdamPs5Ideal.main_arg0)
      ∧ r.2.mem ((c.tc : Thread Cert.AdamPs5Ideal.nD Cert.AdamPs5Ideal.τ).loc Cert.AdamPs5Ideal.main_arg1) = m ((c.tc : Thread Cert.AdamPs5Ideal.nD Cert.AdamPs5Ideal.τ).loc Cert.AdamPs5Ideal.main_arg1)
      ∧ r.2.mem ((c.tc : Thread Cert.AdamPs5Ideal.nD Cert.AdamPs5Ideal.τ).loc Cert.AdamPs5Ideal.main_arg2) = m ((c.tc : Thread Cert.AdamPs5Ideal.nD Cert.AdamPs5Ideal.τ).loc Cert.AdamPs5Ideal.main_arg2)
      ∧ r.2.mem ((c.tc : Thread Cert.AdamPs5Ideal.nD Cert.AdamPs5Ideal.τ).loc Cert.AdamPs5Ideal.main_arg3) = m ((c.tc : Thread Cert.AdamPs5Ideal.nD Cert.AdamPs5Ideal.τ).loc Cert.AdamPs5Ideal.main_arg3))
      ∧ r.2.sem = fun _ => 0)

def quiescent_AdamPs5RefIdeal [hAdamPs5RefIdeal : Cert.AdamPs5RefIdeal.Facts] : Prop :=
  ∀ (m : (ℓ : Loc Cert.AdamPs5RefIdeal.nD Cert.AdamPs5RefIdeal.τ Cert.AdamPs5RefIdeal.sig) → Buf (Elt Ideal) ℓ) (g : Dev Cert.AdamPs5RefIdeal.nD → PrngReg), Pre_AdamPs5RefIdeal m →
    θ_run (Cert.AdamPs5RefIdeal.defs (F := Ideal)) (onTc (τ := Cert.AdamPs5RefIdeal.τ) (Cert.AdamPs5RefIdeal.main (F := Ideal))) ⟨m, fun _ => 0, g⟩ (fun r => (∀ c : Dev Cert.AdamPs5RefIdeal.nD,
      r.2.mem ((c.tc : Thread Cert.AdamPs5RefIdeal.nD Cert.AdamPs5RefIdeal.τ).loc Cert.AdamPs5RefIdeal.main_arg0) = m ((c.tc : Thread Cert.AdamPs5RefIdeal.nD Cert.AdamPs5RefIdeal.τ).loc Cert.AdamPs5RefIdeal.main_arg0)
      ∧ r.2.mem ((c.tc : Thread Cert.AdamPs5RefIdeal.nD Cert.AdamPs5RefIdeal.τ).loc Cert.AdamPs5RefIdeal.main_arg1) = m ((c.tc : Thread Cert.AdamPs5RefIdeal.nD Cert.AdamPs5RefIdeal.τ).loc Cert.AdamPs5RefIdeal.main_arg1)
      ∧ r.2.mem ((c.tc : Thread Cert.AdamPs5RefIdeal.nD Cert.AdamPs5RefIdeal.τ).loc Cert.AdamPs5RefIdeal.main_arg2) = m ((c.tc : Thread Cert.AdamPs5RefIdeal.nD Cert.AdamPs5RefIdeal.τ).loc Cert.AdamPs5RefIdeal.main_arg2)
      ∧ r.2.mem ((c.tc : Thread Cert.AdamPs5RefIdeal.nD Cert.AdamPs5RefIdeal.τ).loc Cert.AdamPs5RefIdeal.main_arg3) = m ((c.tc : Thread Cert.AdamPs5RefIdeal.nD Cert.AdamPs5RefIdeal.τ).loc Cert.AdamPs5RefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_Bounds [hBounds : Cert.Bounds.Facts] : Prop :=
  ∀ (m : (ℓ : Loc Cert.Bounds.nD Cert.Bounds.τ Cert.Bounds.sig) → Buf (Elt Bits) ℓ) (g : Dev Cert.Bounds.nD → PrngReg), Pre_Bounds m →
    θ_run (Cert.Bounds.defs (F := Bits)) (onTc (τ := Cert.Bounds.τ) (Cert.Bounds.main (F := Bits))) ⟨m, fun _ => 0, g⟩ (fun r => (∀ c : Dev Cert.Bounds.nD,
      r.2.mem ((c.tc : Thread Cert.Bounds.nD Cert.Bounds.τ).loc Cert.Bounds.main_arg0) = m ((c.tc : Thread Cert.Bounds.nD Cert.Bounds.τ).loc Cert.Bounds.main_arg0))
      ∧ r.2.sem = fun _ => 0)

def quiescent_BoundsIdeal [hBoundsIdeal : Cert.BoundsIdeal.Facts] : Prop :=
  ∀ (m : (ℓ : Loc Cert.BoundsIdeal.nD Cert.BoundsIdeal.τ Cert.BoundsIdeal.sig) → Buf (Elt Ideal) ℓ) (g : Dev Cert.BoundsIdeal.nD → PrngReg), Pre_BoundsIdeal m →
    θ_run (Cert.BoundsIdeal.defs (F := Ideal)) (onTc (τ := Cert.BoundsIdeal.τ) (Cert.BoundsIdeal.main (F := Ideal))) ⟨m, fun _ => 0, g⟩ (fun r => (∀ c : Dev Cert.BoundsIdeal.nD,
      r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ r.2.sem = fun _ => 0)

def quiescent_BoundsRefIdeal [hBoundsRefIdeal : Cert.BoundsRefIdeal.Facts] : Prop :=
  ∀ (m : (ℓ : Loc Cert.BoundsRefIdeal.nD Cert.BoundsRefIdeal.τ Cert.BoundsRefIdeal.sig) → Buf (Elt Ideal) ℓ) (g : Dev Cert.BoundsRefIdeal.nD → PrngReg), Pre_BoundsRefIdeal m →
    θ_run (Cert.BoundsRefIdeal.defs (F := Ideal)) (onTc (τ := Cert.BoundsRefIdeal.τ) (Cert.BoundsRefIdeal.main (F := Ideal))) ⟨m, fun _ => 0, g⟩ (fun r => (∀ c : Dev Cert.BoundsRefIdeal.nD,
      r.2.mem ((c.tc : Thread Cert.BoundsRefIdeal.nD Cert.BoundsRefIdeal.τ).loc Cert.BoundsRefIdeal.main_arg0) = m ((c.tc : Thread Cert.BoundsRefIdeal.nD Cert.BoundsRefIdeal.τ).loc Cert.BoundsRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumNorm [hSumNorm : Cert.SumNorm.Facts] : Prop :=
  ∀ (m : (ℓ : Loc Cert.SumNorm.nD Cert.SumNorm.τ Cert.SumNorm.sig) → Buf (Elt Bits) ℓ) (g : Dev Cert.SumNorm.nD → PrngReg), Pre_SumNorm m →
    θ_run (Cert.SumNorm.defs (F := Bits)) (onTc (τ := Cert.SumNorm.τ) (Cert.SumNorm.main (F := Bits))) ⟨m, fun _ => 0, g⟩ (fun r => (∀ c : Dev Cert.SumNorm.nD,
      r.2.mem ((c.tc : Thread Cert.SumNorm.nD Cert.SumNorm.τ).loc Cert.SumNorm.main_arg0) = m ((c.tc : Thread Cert.SumNorm.nD Cert.SumNorm.τ).loc Cert.SumNorm.main_arg0))
      ∧ r.2.sem = fun _ => 0)

def quiescent_SumNormIdeal [hSumNormIdeal : Cert.SumNormIdeal.Facts] : Prop :=
  ∀ (m : (ℓ : Loc Cert.SumNormIdeal.nD Cert.SumNormIdeal.τ Cert.SumNormIdeal.sig) → Buf (Elt Ideal) ℓ) (g : Dev Cert.SumNormIdeal.nD → PrngReg), Pre_SumNormIdeal m →
    θ_run (Cert.SumNormIdeal.defs (F := Ideal)) (onTc (τ := Cert.SumNormIdeal.τ) (Cert.SumNormIdeal.main (F := Ideal))) ⟨m, fun _ => 0, g⟩ (fun r => (∀ c : Dev Cert.SumNormIdeal.nD,
      r.2.mem ((c.tc : Thread Cert.SumNormIdeal.nD Cert.SumNormIdeal.τ).loc Cert.SumNormIdeal.main_arg0) = m ((c.tc : Thread Cert.SumNormIdeal.nD Cert.SumNormIdeal.τ).loc Cert.SumNormIdeal.main_arg0))
      ∧ r.2.sem = fun _ => 0)

def quiescent_SumNormRefIdeal [hSumNormRefIdeal : Cert.SumNormRefIdeal.Facts] : Prop :=
  ∀ (m : (ℓ : Loc Cert.SumNormRefIdeal.nD Cert.SumNormRefIdeal.τ Cert.SumNormRefIdeal.sig) → Buf (Elt Ideal) ℓ) (g : Dev Cert.SumNormRefIdeal.nD → PrngReg), Pre_SumNormRefIdeal m →
    θ_run (Cert.SumNormRefIdeal.defs (F := Ideal)) (onTc (τ := Cert.SumNormRefIdeal.τ) (Cert.SumNormRefIdeal.main (F := Ideal))) ⟨m, fun _ => 0, g⟩ (fun r => (∀ c : Dev Cert.SumNormRefIdeal.nD,
      r.2.mem ((c.tc : Thread Cert.SumNormRefIdeal.nD Cert.SumNormRefIdeal.τ).loc Cert.SumNormRefIdeal.main_arg0) = m ((c.tc : Thread Cert.SumNormRefIdeal.nD Cert.SumNormRefIdeal.τ).loc Cert.SumNormRefIdeal.main_arg0))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_finite [hConvIdeal : Cert.ConvIdeal.Facts] [hPre_finite : Cert.Pre_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_finite [hConvRefIdeal : Cert.ConvRefIdeal.Facts] [hPre_finite : Cert.Pre_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v32) = v0 c
          ∧ r.2.mem ((c.tc : Thread Cert.MergeRefIdeal.nD Cert.MergeRefIdeal.τ).loc Cert.MergeRefIdeal.main_v33) = v1 c
          ∧ r.2.mem ((c.tc : Thread Cert.MergeRefIdeal.nD Cert.MergeRefIdeal.τ).loc Cert.MergeRefIdeal.main_v30) = v2 c
          ∧ r.2.mem ((c.tc : Thread Cert.MergeRefIdeal.nD Cert.MergeRefIdeal.τ).loc Cert.MergeRefIdeal.main_v31) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)) (v2 : (c : Dev Cert.GluIdeal.nD) → Buf (Elt Ideal) ((c.tc : Thread Cert.GluIdeal.nD Cert.GluIdeal.τ).loc Cert.GluIdeal.main_v0_2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_v0_2) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v56) = v0 c
          ∧ r.2.mem ((c.tc : Thread Cert.GluRefIdeal.nD Cert.GluRefIdeal.τ).loc Cert.GluRefIdeal.main_v42) = v1 c
          ∧ r.2.mem ((c.tc : Thread Cert.GluRefIdeal.nD Cert.GluRefIdeal.τ).loc Cert.GluRefIdeal.main_v40) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_v36) = v1 c
          ∧ r.2.mem ((c.tc : Thread Cert.NormRefIdeal.nD Cert.NormRefIdeal.τ).loc Cert.NormRefIdeal.main_v18) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v3) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_GwDown_GwDownIdeal : Prop :=
  True

def algebraic_GwDownIdeal_GwDownRefIdeal [hGwDownIdeal : Cert.GwDownIdeal.Facts] [hGwDownRefIdeal : Cert.GwDownRefIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.GwDownRefIdeal.nD Cert.GwDownRefIdeal.τ Cert.GwDownRefIdeal.sig) → Buf (Elt Ideal) ℓ) (g' : Dev Cert.GwDownRefIdeal.nD → PrngReg), Pre_GwDownIdeal m →
    (∀ c : Dev Cert.GwDownIdeal.nD,
      m' ((c.tc : Thread Cert.GwDownRefIdeal.nD Cert.GwDownRefIdeal.τ).loc Cert.GwDownRefIdeal.main_arg0) = m ((c.tc : Thread Cert.GwDownIdeal.nD Cert.GwDownIdeal.τ).loc Cert.GwDownIdeal.main_arg0)
      ∧ m' ((c.tc : Thread Cert.GwDownRefIdeal.nD Cert.GwDownRefIdeal.τ).loc Cert.GwDownRefIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v0)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v0) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.GwDownRefIdeal.defs (F := Ideal)) (onTc (τ := Cert.GwDownRefIdeal.τ) (Cert.GwDownRefIdeal.main (F := Ideal))) ⟨m', fun _ => 0, g'⟩ (fun r => ∀ c : Dev Cert.GwDownRefIdeal.nD,
          r.2.mem ((c.tc : Thread Cert.GwDownRefIdeal.nD Cert.GwDownRefIdeal.τ).loc Cert.GwDownRefIdeal.main_v6) = v0 c
          ∧ r.2.mem ((c.tc : Thread Cert.GwDownRefIdeal.nD Cert.GwDownRefIdeal.τ).loc Cert.GwDownRefIdeal.main_arg0) = m' ((c.tc : Thread Cert.GwDownRefIdeal.nD Cert.GwDownRefIdeal.τ).loc Cert.GwDownRefIdeal.main_arg0)
          ∧ r.2.mem ((c.tc : Thread Cert.GwDownRefIdeal.nD Cert.GwDownRefIdeal.τ).loc Cert.GwDownRefIdeal.main_arg1) = m' ((c.tc : Thread Cert.GwDownRefIdeal.nD Cert.GwDownRefIdeal.τ).loc Cert.GwDownRefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v8) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_GwUp_GwUpIdeal : Prop :=
  True

def algebraic_GwUpIdeal_GwUpRefIdeal [hGwUpIdeal : Cert.GwUpIdeal.Facts] [hGwUpRefIdeal : Cert.GwUpRefIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.GwUpRefIdeal.nD Cert.GwUpRefIdeal.τ Cert.GwUpRefIdeal.sig) → Buf (Elt Ideal) ℓ) (g' : Dev Cert.GwUpRefIdeal.nD → PrngReg), Pre_GwUpIdeal m →
    (∀ c : Dev Cert.GwUpIdeal.nD,
      m' ((c.tc : Thread Cert.GwUpRefIdeal.nD Cert.GwUpRefIdeal.τ).loc Cert.GwUpRefIdeal.main_arg0) = m ((c.tc : Thread Cert.GwUpIdeal.nD Cert.GwUpIdeal.τ).loc Cert.GwUpIdeal.main_arg0)
      ∧ m' ((c.tc : Thread Cert.GwUpRefIdeal.nD Cert.GwUpRefIdeal.τ).loc Cert.GwUpRefIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v0)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v0) = v0 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.GwUpRefIdeal.defs (F := Ideal)) (onTc (τ := Cert.GwUpRefIdeal.τ) (Cert.GwUpRefIdeal.main (F := Ideal))) ⟨m', fun _ => 0, g'⟩ (fun r => ∀ c : Dev Cert.GwUpRefIdeal.nD,
          r.2.mem ((c.tc : Thread Cert.GwUpRefIdeal.nD Cert.GwUpRefIdeal.τ).loc Cert.GwUpRefIdeal.main_v9) = v0 c
          ∧ r.2.mem ((c.tc : Thread Cert.GwUpRefIdeal.nD Cert.GwUpRefIdeal.τ).loc Cert.GwUpRefIdeal.main_arg0) = m' ((c.tc : Thread Cert.GwUpRefIdeal.nD Cert.GwUpRefIdeal.τ).loc Cert.GwUpRefIdeal.main_arg0)
          ∧ r.2.mem ((c.tc : Thread Cert.GwUpRefIdeal.nD Cert.GwUpRefIdeal.τ).loc Cert.GwUpRefIdeal.main_arg1) = m' ((c.tc : Thread Cert.GwUpRefIdeal.nD Cert.GwUpRefIdeal.τ).loc Cert.GwUpRefIdeal.main_arg1))

def preserves_Dmerged_DmergedIdeal : Prop :=
  True

def algebraic_DmergedIdeal_DmergedRefIdeal [hDmergedIdeal : Cert.DmergedIdeal.Facts] [hDmergedRefIdeal : Cert.DmergedRefIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.DmergedRefIdeal.nD Cert.DmergedRefIdeal.τ Cert.DmergedRefIdeal.sig) → Buf (Elt Ideal) ℓ) (g' : Dev Cert.DmergedRefIdeal.nD → PrngReg), Pre_DmergedIdeal m →
    (∀ c : Dev Cert.DmergedIdeal.nD,
      m' ((c.tc : Thread Cert.DmergedRefIdeal.nD Cert.DmergedRefIdeal.τ).loc Cert.DmergedRefIdeal.main_arg0) = m ((c.tc : Thread Cert.DmergedIdeal.nD Cert.DmergedIdeal.τ).loc Cert.DmergedIdeal.main_arg0)
      ∧ m' ((c.tc : Thread Cert.DmergedRefIdeal.nD Cert.DmergedRefIdeal.τ).loc Cert.DmergedRefIdeal.main_arg1) = m ((c.tc : Thread Cert.DmergedIdeal.nD Cert.DmergedIdeal.τ).loc Cert.DmergedIdeal.main_arg1)) →
    ∃ (v0 : (c : Dev Cert.DmergedIdeal.nD) → Buf (Elt Ideal) ((c.tc : Thread Cert.DmergedIdeal.nD Cert.DmergedIdeal.τ).loc Cert.DmergedIdeal.main_v0)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v0) = v0 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ θ_run (Cert.DmergedRefIdeal.defs (F := Ideal)) (onTc (τ := Cert.DmergedRefIdeal.τ) (Cert.DmergedRefIdeal.main (F := Ideal))) ⟨m', fun _ => 0, g'⟩ (fun r => ∀ c : Dev Cert.DmergedRefIdeal.nD,
          r.2.mem ((c.tc : Thread Cert.DmergedRefIdeal.nD Cert.DmergedRefIdeal.τ).loc Cert.DmergedRefIdeal.main_v3) = v0 c
          ∧ r.2.mem ((c.tc : Thread Cert.DmergedRefIdeal.nD Cert.DmergedRefIdeal.τ).loc Cert.DmergedRefIdeal.main_arg0) = m' ((c.tc : Thread Cert.DmergedRefIdeal.nD Cert.DmergedRefIdeal.τ).loc Cert.DmergedRefIdeal.main_arg0)
          ∧ r.2.mem ((c.tc : Thread Cert.DmergedRefIdeal.nD Cert.DmergedRefIdeal.τ).loc Cert.DmergedRefIdeal.main_arg1) = m' ((c.tc : Thread Cert.DmergedRefIdeal.nD Cert.DmergedRefIdeal.τ).loc Cert.DmergedRefIdeal.main_arg1))

def preserves_GwOut_GwOutIdeal : Prop :=
  True

def algebraic_GwOutIdeal_GwOutRefIdeal [hGwOutIdeal : Cert.GwOutIdeal.Facts] [hGwOutRefIdeal : Cert.GwOutRefIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutRefIdeal.nD Cert.GwOutRefIdeal.τ Cert.GwOutRefIdeal.sig) → Buf (Elt Ideal) ℓ) (g' : Dev Cert.GwOutRefIdeal.nD → PrngReg), Pre_GwOutIdeal m →
    (∀ c : Dev Cert.GwOutIdeal.nD,
      m' ((c.tc : Thread Cert.GwOutRefIdeal.nD Cert.GwOutRefIdeal.τ).loc Cert.GwOutRefIdeal.main_arg0) = m ((c.tc : Thread Cert.GwOutIdeal.nD Cert.GwOutIdeal.τ).loc Cert.GwOutIdeal.main_arg0)
      ∧ m' ((c.tc : Thread Cert.GwOutRefIdeal.nD Cert.GwOutRefIdeal.τ).loc Cert.GwOutRefIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutRefIdeal.defs (F := Ideal)) (onTc (τ := Cert.GwOutRefIdeal.τ) (Cert.GwOutRefIdeal.main (F := Ideal))) ⟨m', fun _ => 0, g'⟩ (fun r => ∀ c : Dev Cert.GwOutRefIdeal.nD,
          r.2.mem ((c.tc : Thread Cert.GwOutRefIdeal.nD Cert.GwOutRefIdeal.τ).loc Cert.GwOutRefIdeal.main_v6) = v0 c
          ∧ r.2.mem ((c.tc : Thread Cert.GwOutRefIdeal.nD Cert.GwOutRefIdeal.τ).loc Cert.GwOutRefIdeal.main_arg0) = m' ((c.tc : Thread Cert.GwOutRefIdeal.nD Cert.GwOutRefIdeal.τ).loc Cert.GwOutRefIdeal.main_arg0)
          ∧ r.2.mem ((c.tc : Thread Cert.GwOutRefIdeal.nD Cert.GwOutRefIdeal.τ).loc Cert.GwOutRefIdeal.main_arg1) = m' ((c.tc : Thread Cert.GwOutRefIdeal.nD Cert.GwOutRefIdeal.τ).loc Cert.GwOutRefIdeal.main_arg1))

def preserves_Dz_DzIdeal : Prop :=
  True

def algebraic_DzIdeal_DzRefIdeal [hDzIdeal : Cert.DzIdeal.Facts] [hDzRefIdeal : Cert.DzRefIdeal.Facts] : Prop :=
  ∀ (m : (ℓ : Loc Cert.DzIdeal.nD Cert.DzIdeal.τ Cert.DzIdeal.sig) → Buf (Elt Ideal) ℓ) (g : Dev Cert.DzIdeal.nD → PrngReg)
    (m' : (ℓ : Loc Cert.DzRefIdeal.nD Cert.DzRefIdeal.τ Cert.DzRefIdeal.sig) → Buf (Elt Ideal) ℓ) (g' : Dev Cert.DzRefIdeal.nD → PrngReg), Pre_DzIdeal m →
    (∀ c : Dev Cert.DzIdeal.nD,
      m' ((c.tc : Thread Cert.DzRefIdeal.nD Cert.DzRefIdeal.τ).loc Cert.DzRefIdeal.main_arg0) = m ((c.tc : Thread Cert.DzIdeal.nD Cert.DzIdeal.τ).loc Cert.DzIdeal.main_arg0)
      ∧ m' ((c.tc : Thread Cert.DzRefIdeal.nD Cert.DzRefIdeal.τ).loc Cert.DzRefIdeal.main_arg1) = m ((c.tc : Thread Cert.DzIdeal.nD Cert.DzIdeal.τ).loc Cert.DzIdeal.main_arg1)) →
    ∃ (v0 : (c : Dev Cert.DzIdeal.nD) → Buf (Elt Ideal) ((c.tc : Thread Cert.DzIdeal.nD Cert.DzIdeal.τ).loc Cert.DzIdeal.main_v0)),
      θ_run (Cert.DzIdeal.defs (F := Ideal)) (onTc (τ := Cert.DzIdeal.τ) (Cert.DzIdeal.main (F := Ideal))) ⟨m, fun _ => 0, g⟩ (fun r => ∀ c : Dev Cert.DzIdeal.nD,
          r.2.mem ((c.tc : Thread Cert.DzIdeal.nD Cert.DzIdeal.τ).loc Cert.DzIdeal.main_v0) = v0 c
          ∧ r.2.mem ((c.tc : Thread Cert.DzIdeal.nD Cert.DzIdeal.τ).loc Cert.DzIdeal.main_arg0) = m ((c.tc : Thread Cert.DzIdeal.nD Cert.DzIdeal.τ).loc Cert.DzIdeal.main_arg0)
          ∧ r.2.mem ((c.tc : Thread Cert.DzIdeal.nD Cert.DzIdeal.τ).loc Cert.DzIdeal.main_arg1) = m ((c.tc : Thread Cert.DzIdeal.nD Cert.DzIdeal.τ).loc Cert.DzIdeal.main_arg1))
      ∧ θ_run (Cert.DzRefIdeal.defs (F := Ideal)) (onTc (τ := Cert.DzRefIdeal.τ) (Cert.DzRefIdeal.main (F := Ideal))) ⟨m', fun _ => 0, g'⟩ (fun r => ∀ c : Dev Cert.DzRefIdeal.nD,
          r.2.mem ((c.tc : Thread Cert.DzRefIdeal.nD Cert.DzRefIdeal.τ).loc Cert.DzRefIdeal.main_v5) = v0 c
          ∧ r.2.mem ((c.tc : Thread Cert.DzRefIdeal.nD Cert.DzRefIdeal.τ).loc Cert.DzRefIdeal.main_arg0) = m' ((c.tc : Thread Cert.DzRefIdeal.nD Cert.DzRefIdeal.τ).loc Cert.DzRefIdeal.main_arg0)
          ∧ r.2.mem ((c.tc : Thread Cert.DzRefIdeal.nD Cert.DzRefIdeal.τ).loc Cert.DzRefIdeal.main_arg1) = m' ((c.tc : Thread Cert.DzRefIdeal.nD Cert.DzRefIdeal.τ).loc Cert.DzRefIdeal.main_arg1))

def preserves_GwPs5_GwPs5Ideal : Prop :=
  True

def algebraic_GwPs5Ideal_GwPs5RefIdeal [hGwPs5Ideal : Cert.GwPs5Ideal.Facts] [hGwPs5RefIdeal : Cert.GwPs5RefIdeal.Facts] : Prop :=
  ∀ (m : (ℓ : Loc Cert.GwPs5Ideal.nD Cert.GwPs5Ideal.τ Cert.GwPs5Ideal.sig) → Buf (Elt Ideal) ℓ) (g : Dev Cert.GwPs5Ideal.nD → PrngReg)
    (m' : (ℓ : Loc Cert.GwPs5RefIdeal.nD Cert.GwPs5RefIdeal.τ Cert.GwPs5RefIdeal.sig) → Buf (Elt Ideal) ℓ) (g' : Dev Cert.GwPs5RefIdeal.nD → PrngReg), Pre_GwPs5Ideal m →
    (∀ c : Dev Cert.GwPs5Ideal.nD,
      m' ((c.tc : Thread Cert.GwPs5RefIdeal.nD Cert.GwPs5RefIdeal.τ).loc Cert.GwPs5RefIdeal.main_arg0) = m ((c.tc : Thread Cert.GwPs5Ideal.nD Cert.GwPs5Ideal.τ).loc Cert.GwPs5Ideal.main_arg0)
      ∧ m' ((c.tc : Thread Cert.GwPs5RefIdeal.nD Cert.GwPs5RefIdeal.τ).loc Cert.GwPs5RefIdeal.main_arg1) = m ((c.tc : Thread Cert.GwPs5Ideal.nD Cert.GwPs5Ideal.τ).loc Cert.GwPs5Ideal.main_arg1)) →
    ∃ (v0 : (c : Dev Cert.GwPs5Ideal.nD) → Buf (Elt Ideal) ((c.tc : Thread Cert.GwPs5Ideal.nD Cert.GwPs5Ideal.τ).loc Cert.GwPs5Ideal.main_v0)),
      θ_run (Cert.GwPs5Ideal.defs (F := Ideal)) (onTc (τ := Cert.GwPs5Ideal.τ) (Cert.GwPs5Ideal.main (F := Ideal))) ⟨m, fun _ => 0, g⟩ (fun r => ∀ c : Dev Cert.GwPs5Ideal.nD,
          r.2.mem ((c.tc : Thread Cert.GwPs5Ideal.nD Cert.GwPs5Ideal.τ).loc Cert.GwPs5Ideal.main_v0) = v0 c
          ∧ r.2.mem ((c.tc : Thread Cert.GwPs5Ideal.nD Cert.GwPs5Ideal.τ).loc Cert.GwPs5Ideal.main_arg0) = m ((c.tc : Thread Cert.GwPs5Ideal.nD Cert.GwPs5Ideal.τ).loc Cert.GwPs5Ideal.main_arg0)
          ∧ r.2.mem ((c.tc : Thread Cert.GwPs5Ideal.nD Cert.GwPs5Ideal.τ).loc Cert.GwPs5Ideal.main_arg1) = m ((c.tc : Thread Cert.GwPs5Ideal.nD Cert.GwPs5Ideal.τ).loc Cert.GwPs5Ideal.main_arg1))
      ∧ θ_run (Cert.GwPs5RefIdeal.defs (F := Ideal)) (onTc (τ := Cert.GwPs5RefIdeal.τ) (Cert.GwPs5RefIdeal.main (F := Ideal))) ⟨m', fun _ => 0, g'⟩ (fun r => ∀ c : Dev Cert.GwPs5RefIdeal.nD,
          r.2.mem ((c.tc : Thread Cert.GwPs5RefIdeal.nD Cert.GwPs5RefIdeal.τ).loc Cert.GwPs5RefIdeal.main_v6) = v0 c
          ∧ r.2.mem ((c.tc : Thread Cert.GwPs5RefIdeal.nD Cert.GwPs5RefIdeal.τ).loc Cert.GwPs5RefIdeal.main_arg0) = m' ((c.tc : Thread Cert.GwPs5RefIdeal.nD Cert.GwPs5RefIdeal.τ).loc Cert.GwPs5RefIdeal.main_arg0)
          ∧ r.2.mem ((c.tc : Thread Cert.GwPs5RefIdeal.nD Cert.GwPs5RefIdeal.τ).loc Cert.GwPs5RefIdeal.main_arg1) = m' ((c.tc : Thread Cert.GwPs5RefIdeal.nD Cert.GwPs5RefIdeal.τ).loc Cert.GwPs5RefIdeal.main_arg1))

def preserves_GwIn_GwInIdeal : Prop :=
  True

def algebraic_GwInIdeal_GwInRefIdeal [hGwInIdeal : Cert.GwInIdeal.Facts] [hGwInRefIdeal : Cert.GwInRefIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRefIdeal.nD Cert.GwInRefIdeal.τ Cert.GwInRefIdeal.sig) → Buf (Elt Ideal) ℓ) (g' : Dev Cert.GwInRefIdeal.nD → PrngReg), Pre_GwInIdeal m →
    (∀ c : Dev Cert.GwInIdeal.nD,
      m' ((c.tc : Thread Cert.GwInRefIdeal.nD Cert.GwInRefIdeal.τ).loc Cert.GwInRefIdeal.main_arg0) = m ((c.tc : Thread Cert.GwInIdeal.nD Cert.GwInIdeal.τ).loc Cert.GwInIdeal.main_arg0)
      ∧ m' ((c.tc : Thread Cert.GwInRefIdeal.nD Cert.GwInRefIdeal.τ).loc Cert.GwInRefIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInRefIdeal.defs (F := Ideal)) (onTc (τ := Cert.GwInRefIdeal.τ) (Cert.GwInRefIdeal.main (F := Ideal))) ⟨m', fun _ => 0, g'⟩ (fun r => ∀ c : Dev Cert.GwInRefIdeal.nD,
          r.2.mem ((c.tc : Thread Cert.GwInRefIdeal.nD Cert.GwInRefIdeal.τ).loc Cert.GwInRefIdeal.main_v6) = v0 c
          ∧ r.2.mem ((c.tc : Thread Cert.GwInRefIdeal.nD Cert.GwInRefIdeal.τ).loc Cert.GwInRefIdeal.main_arg0) = m' ((c.tc : Thread Cert.GwInRefIdeal.nD Cert.GwInRefIdeal.τ).loc Cert.GwInRefIdeal.main_arg0)
          ∧ r.2.mem ((c.tc : Thread Cert.GwInRefIdeal.nD Cert.GwInRefIdeal.τ).loc Cert.GwInRefIdeal.main_arg1) = m' ((c.tc : Thread Cert.GwInRefIdeal.nD Cert.GwInRefIdeal.τ).loc Cert.GwInRefIdeal.main_arg1))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)) →
    ∃ (v0 : (c : Dev Cert.Dh1Ideal.nD) → Buf (Elt Ideal) ((c.tc : Thread Cert.Dh1Ideal.nD Cert.Dh1Ideal.τ).loc Cert.Dh1Ideal.main_v0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v5) = v0 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Ps5_Ps5Ideal : Prop :=
  True

def algebraic_Ps5Ideal_Ps5RefIdeal [hPs5Ideal : Cert.Ps5Ideal.Facts] [hPs5RefIdeal : Cert.Ps5RefIdeal.Facts] : Prop :=
  ∀ (m : (ℓ : Loc Cert.Ps5Ideal.nD Cert.Ps5Ideal.τ Cert.Ps5Ideal.sig) → Buf (Elt Ideal) ℓ) (g : Dev Cert.Ps5Ideal.nD → PrngReg)
    (m' : (ℓ : Loc Cert.Ps5RefIdeal.nD Cert.Ps5RefIdeal.τ Cert.Ps5RefIdeal.sig) → Buf (Elt Ideal) ℓ) (g' : Dev Cert.Ps5RefIdeal.nD → PrngReg), Pre_Ps5Ideal m →
    (∀ c : Dev Cert.Ps5Ideal.nD,
      m' ((c.tc : Thread Cert.Ps5RefIdeal.nD Cert.Ps5RefIdeal.τ).loc Cert.Ps5RefIdeal.main_arg0) = m ((c.tc : Thread Cert.Ps5Ideal.nD Cert.Ps5Ideal.τ).loc Cert.Ps5Ideal.main_arg0)
      ∧ m' ((c.tc : Thread Cert.Ps5RefIdeal.nD Cert.Ps5RefIdeal.τ).loc Cert.Ps5RefIdeal.main_arg1) = m ((c.tc : Thread Cert.Ps5Ideal.nD Cert.Ps5Ideal.τ).loc Cert.Ps5Ideal.main_arg1)) →
    ∃ (v0 : (c : Dev Cert.Ps5Ideal.nD) → Buf (Elt Ideal) ((c.tc : Thread Cert.Ps5Ideal.nD Cert.Ps5Ideal.τ).loc Cert.Ps5Ideal.main_v0)),
      θ_run (Cert.Ps5Ideal.defs (F := Ideal)) (onTc (τ := Cert.Ps5Ideal.τ) (Cert.Ps5Ideal.main (F := Ideal))) ⟨m, fun _ => 0, g⟩ (fun r => ∀ c : Dev Cert.Ps5Ideal.nD,
          r.2.mem ((c.tc : Thread Cert.Ps5Ideal.nD Cert.Ps5Ideal.τ).loc Cert.Ps5Ideal.main_v0) = v0 c
          ∧ r.2.mem ((c.tc : Thread Cert.Ps5Ideal.nD Cert.Ps5Ideal.τ).loc Cert.Ps5Ideal.main_arg0) = m ((c.tc : Thread Cert.Ps5Ideal.nD Cert.Ps5Ideal.τ).loc Cert.Ps5Ideal.main_arg0)
          ∧ r.2.mem ((c.tc : Thread Cert.Ps5Ideal.nD Cert.Ps5Ideal.τ).loc Cert.Ps5Ideal.main_arg1) = m ((c.tc : Thread Cert.Ps5Ideal.nD Cert.Ps5Ideal.τ).loc Cert.Ps5Ideal.main_arg1))
      ∧ θ_run (Cert.Ps5RefIdeal.defs (F := Ideal)) (onTc (τ := Cert.Ps5RefIdeal.τ) (Cert.Ps5RefIdeal.main (F := Ideal))) ⟨m', fun _ => 0, g'⟩ (fun r => ∀ c : Dev Cert.Ps5RefIdeal.nD,
          r.2.mem ((c.tc : Thread Cert.Ps5RefIdeal.nD Cert.Ps5RefIdeal.τ).loc Cert.Ps5RefIdeal.main_v4) = v0 c
          ∧ r.2.mem ((c.tc : Thread Cert.Ps5RefIdeal.nD Cert.Ps5RefIdeal.τ).loc Cert.Ps5RefIdeal.main_arg0) = m' ((c.tc : Thread Cert.Ps5RefIdeal.nD Cert.Ps5RefIdeal.τ).loc Cert.Ps5RefIdeal.main_arg0)
          ∧ r.2.mem ((c.tc : Thread Cert.Ps5RefIdeal.nD Cert.Ps5RefIdeal.τ).loc Cert.Ps5RefIdeal.main_arg1) = m' ((c.tc : Thread Cert.Ps5RefIdeal.nD Cert.Ps5RefIdeal.τ).loc Cert.Ps5RefIdeal.main_arg1))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v17) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v24) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v32) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v49) = v0 c
          ∧ r.2.mem ((c.tc : Thread Cert.LossRefIdeal.nD Cert.LossRefIdeal.τ).loc Cert.LossRefIdeal.main_v48) = v1 c
          ∧ r.2.mem ((c.tc : Thread Cert.LossRefIdeal.nD Cert.LossRefIdeal.τ).loc Cert.LossRefIdeal.main_v50) = v2 c
          ∧ r.2.mem ((c.tc : Thread Cert.LossRefIdeal.nD Cert.LossRefIdeal.τ).loc Cert.LossRefIdeal.main_v32) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)) →
    ∃ (v0 : (c : Dev Cert.DiscIdeal.nD) → Buf (Elt Ideal) ((c.tc : Thread Cert.DiscIdeal.nD Cert.DiscIdeal.τ).loc Cert.DiscIdeal.main_v0_0)) (v1 : (c : Dev Cert.DiscIdeal.nD) → Buf (Elt Ideal) ((c.tc : Thread Cert.DiscIdeal.nD Cert.DiscIdeal.τ).loc Cert.DiscIdeal.main_v0_1)) (v2 : (c : Dev Cert.DiscIdeal.nD) → Buf (Elt Ideal) ((c.tc : Thread Cert.DiscIdeal.nD Cert.DiscIdeal.τ).loc Cert.DiscIdeal.main_v0_2)) (v3 : (c : Dev Cert.DiscIdeal.nD) → Buf (Elt Ideal) ((c.tc : Thread Cert.DiscIdeal.nD Cert.DiscIdeal.τ).loc Cert.DiscIdeal.main_v0_3)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v0_0) = v0 c
          ∧ r.2.mem ((c.tc : Thread Cert.DiscIdeal.nD Cert.DiscIdeal.τ).loc Cert.DiscIdeal.main_v0_1) = v1 c
          ∧ r.2.mem ((c.tc : Thread Cert.DiscIdeal.nD Cert.DiscIdeal.τ).loc Cert.DiscIdeal.main_v0_2) = v2 c
          ∧ r.2.mem ((c.tc : Thread Cert.DiscIdeal.nD Cert.DiscIdeal.τ).loc Cert.DiscIdeal.main_v0_3) = v3 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v9) = v0 c
          ∧ r.2.mem ((c.tc : Thread Cert.DiscRefIdeal.nD Cert.DiscRefIdeal.τ).loc Cert.DiscRefIdeal.main_v13) = v1 c
          ∧ r.2.mem ((c.tc : Thread Cert.DiscRefIdeal.nD Cert.DiscRefIdeal.τ).loc Cert.DiscRefIdeal.main_v22) = v2 c
          ∧ r.2.mem ((c.tc : Thread Cert.DiscRefIdeal.nD Cert.DiscRefIdeal.τ).loc Cert.DiscRefIdeal.main_v26) = v3 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v1) = v0 c
          ∧ r.2.mem ((c.tc : Thread Cert.AdamGluRefIdeal.nD Cert.AdamGluRefIdeal.τ).loc Cert.AdamGluRefIdeal.main_v25) = v1 c
          ∧ r.2.mem ((c.tc : Thread Cert.AdamGluRefIdeal.nD Cert.AdamGluRefIdeal.τ).loc Cert.AdamGluRefIdeal.main_v6) = v2 c
          ∧ r.2.mem ((c.tc : Thread Cert.AdamGluRefIdeal.nD Cert.AdamGluRefIdeal.τ).loc Cert.AdamGluRefIdeal.main_v12) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamPs5_AdamPs5Ideal : Prop :=
  True

def algebraic_AdamPs5Ideal_AdamPs5RefIdeal [hAdamPs5Ideal : Cert.AdamPs5Ideal.Facts] [hAdamPs5RefIdeal : Cert.AdamPs5RefIdeal.Facts] : Prop :=
  ∀ (m : (ℓ : Loc Cert.AdamPs5Ideal.nD Cert.AdamPs5Ideal.τ Cert.AdamPs5Ideal.sig) → Buf (Elt Ideal) ℓ) (g : Dev Cert.AdamPs5Ideal.nD → PrngReg)
    (m' : (ℓ : Loc Cert.AdamPs5RefIdeal.nD Cert.AdamPs5RefIdeal.τ Cert.AdamPs5RefIdeal.sig) → Buf (Elt Ideal) ℓ) (g' : Dev Cert.AdamPs5RefIdeal.nD → PrngReg), Pre_AdamPs5Ideal m →
    (∀ c : Dev Cert.AdamPs5Ideal.nD,
      m' ((c.tc : Thread Cert.AdamPs5RefIdeal.nD Cert.AdamPs5RefIdeal.τ).loc Cert.AdamPs5RefIdeal.main_arg0) = m ((c.tc : Thread Cert.AdamPs5Ideal.nD Cert.AdamPs5Ideal.τ).loc Cert.AdamPs5Ideal.main_arg0)
      ∧ m' ((c.tc : Thread Cert.AdamPs5RefIdeal.nD Cert.AdamPs5RefIdeal.τ).loc Cert.AdamPs5RefIdeal.main_arg1) = m ((c.tc : Thread Cert.AdamPs5Ideal.nD Cert.AdamPs5Ideal.τ).loc Cert.AdamPs5Ideal.main_arg1)
      ∧ m' ((c.tc : Thread Cert.AdamPs5RefIdeal.nD Cert.AdamPs5RefIdeal.τ).loc Cert.AdamPs5RefIdeal.main_arg2) = m ((c.tc : Thread Cert.AdamPs5Ideal.nD Cert.AdamPs5Ideal.τ).loc Cert.AdamPs5Ideal.main_arg2)
      ∧ m' ((c.tc : Thread Cert.AdamPs5RefIdeal.nD Cert.AdamPs5RefIdeal.τ).loc Cert.AdamPs5RefIdeal.main_arg3) = m ((c.tc : Thread Cert.AdamPs5Ideal.nD Cert.AdamPs5Ideal.τ).loc Cert.AdamPs5Ideal.main_arg3)) →
    ∃ (v0 : (c : Dev Cert.AdamPs5Ideal.nD) → Buf (Elt Ideal) ((c.tc : Thread Cert.AdamPs5Ideal.nD Cert.AdamPs5Ideal.τ).loc Cert.AdamPs5Ideal.main_v0_0)) (v1 : (c : Dev Cert.AdamPs5Ideal.nD) → Buf (Elt Ideal) ((c.tc : Thread Cert.AdamPs5Ideal.nD Cert.AdamPs5Ideal.τ).loc Cert.AdamPs5Ideal.main_v0_1)) (v2 : (c : Dev Cert.AdamPs5Ideal.nD) → Buf (Elt Ideal) ((c.tc : Thread Cert.AdamPs5Ideal.nD Cert.AdamPs5Ideal.τ).loc Cert.AdamPs5Ideal.main_v0_2)) (v3 : (c : Dev Cert.AdamPs5Ideal.nD) → Buf (Elt Ideal) ((c.tc : Thread Cert.AdamPs5Ideal.nD Cert.AdamPs5Ideal.τ).loc Cert.AdamPs5Ideal.main_v0_3)),
      θ_run (Cert.AdamPs5Ideal.defs (F := Ideal)) (onTc (τ := Cert.AdamPs5Ideal.τ) (Cert.AdamPs5Ideal.main (F := Ideal))) ⟨m, fun _ => 0, g⟩ (fun r => ∀ c : Dev Cert.AdamPs5Ideal.nD,
          r.2.mem ((c.tc : Thread Cert.AdamPs5Ideal.nD Cert.AdamPs5Ideal.τ).loc Cert.AdamPs5Ideal.main_v0_0) = v0 c
          ∧ r.2.mem ((c.tc : Thread Cert.AdamPs5Ideal.nD Cert.AdamPs5Ideal.τ).loc Cert.AdamPs5Ideal.main_v0_1) = v1 c
          ∧ r.2.mem ((c.tc : Thread Cert.AdamPs5Ideal.nD Cert.AdamPs5Ideal.τ).loc Cert.AdamPs5Ideal.main_v0_2) = v2 c
          ∧ r.2.mem ((c.tc : Thread Cert.AdamPs5Ideal.nD Cert.AdamPs5Ideal.τ).loc Cert.AdamPs5Ideal.main_v0_3) = v3 c
          ∧ r.2.mem ((c.tc : Thread Cert.AdamPs5Ideal.nD Cert.AdamPs5Ideal.τ).loc Cert.AdamPs5Ideal.main_arg0) = m ((c.tc : Thread Cert.AdamPs5Ideal.nD Cert.AdamPs5Ideal.τ).loc Cert.AdamPs5Ideal.main_arg0)
          ∧ r.2.mem ((c.tc : Thread Cert.AdamPs5Ideal.nD Cert.AdamPs5Ideal.τ).loc Cert.AdamPs5Ideal.main_arg1) = m ((c.tc : Thread Cert.AdamPs5Ideal.nD Cert.AdamPs5Ideal.τ).loc Cert.AdamPs5Ideal.main_arg1)
          ∧ r.2.mem ((c.tc : Thread Cert.AdamPs5Ideal.nD Cert.AdamPs5Ideal.τ).loc Cert.AdamPs5Ideal.main_arg2) = m ((c.tc : Thread Cert.AdamPs5Ideal.nD Cert.AdamPs5Ideal.τ).loc Cert.AdamPs5Ideal.main_arg2)
          ∧ r.2.mem ((c.tc : Thread Cert.AdamPs5Ideal.nD Cert.AdamPs5Ideal.τ).loc Cert.AdamPs5Ideal.main_arg3) = m ((c.tc : Thread Cert.AdamPs5Ideal.nD Cert.AdamPs5Ideal.τ).loc Cert.AdamPs5Ideal.main_arg3))
      ∧ θ_run (Cert.AdamPs5RefIdeal.defs (F := Ideal)) (onTc (τ := Cert.AdamPs5RefIdeal.τ) (Cert.AdamPs5RefIdeal.main (F := Ideal))) ⟨m', fun _ => 0, g'⟩ (fun r => ∀ c : Dev Cert.AdamPs5RefIdeal.nD,
          r.2.mem ((c.tc : Thread Cert.AdamPs5RefIdeal.nD Cert.AdamPs5RefIdeal.τ).loc Cert.AdamPs5RefIdeal.main_v1) = v0 c
          ∧ r.2.mem ((c.tc : Thread Cert.AdamPs5RefIdeal.nD Cert.AdamPs5RefIdeal.τ).loc Cert.AdamPs5RefIdeal.main_v25) = v1 c
          ∧ r.2.mem ((c.tc : Thread Cert.AdamPs5RefIdeal.nD Cert.AdamPs5RefIdeal.τ).loc Cert.AdamPs5RefIdeal.main_v6) = v2 c
          ∧ r.2.mem ((c.tc : Thread Cert.AdamPs5RefIdeal.nD Cert.AdamPs5RefIdeal.τ).loc Cert.AdamPs5RefIdeal.main_v12) = v3 c
          ∧ r.2.mem ((c.tc : Thread Cert.AdamPs5RefIdeal.nD Cert.AdamPs5RefIdeal.τ).loc Cert.AdamPs5RefIdeal.main_arg0) = m' ((c.tc : Thread Cert.AdamPs5RefIdeal.nD Cert.AdamPs5RefIdeal.τ).loc Cert.AdamPs5RefIdeal.main_arg0)
          ∧ r.2.mem ((c.tc : Thread Cert.AdamPs5RefIdeal.nD Cert.AdamPs5RefIdeal.τ).loc Cert.AdamPs5RefIdeal.main_arg1) = m' ((c.tc : Thread Cert.AdamPs5RefIdeal.nD Cert.AdamPs5RefIdeal.τ).loc Cert.AdamPs5RefIdeal.main_arg1)
          ∧ r.2.mem ((c.tc : Thread Cert.AdamPs5RefIdeal.nD Cert.AdamPs5RefIdeal.τ).loc Cert.AdamPs5RefIdeal.main_arg2) = m' ((c.tc : Thread Cert.AdamPs5RefIdeal.nD Cert.AdamPs5RefIdeal.τ).loc Cert.AdamPs5RefIdeal.main_arg2)
          ∧ r.2.mem ((c.tc : Thread Cert.AdamPs5RefIdeal.nD Cert.AdamPs5RefIdeal.τ).loc Cert.AdamPs5RefIdeal.main_arg3) = m' ((c.tc : Thread Cert.AdamPs5RefIdeal.nD Cert.AdamPs5RefIdeal.τ).loc Cert.AdamPs5RefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_Bounds_BoundsIdeal : Prop :=
  True

def algebraic_BoundsIdeal_BoundsRefIdeal [hBoundsIdeal : Cert.BoundsIdeal.Facts] [hBoundsRefIdeal : Cert.BoundsRefIdeal.Facts] : Prop :=
  ∀ (m : (ℓ : Loc Cert.BoundsIdeal.nD Cert.BoundsIdeal.τ Cert.BoundsIdeal.sig) → Buf (Elt Ideal) ℓ) (g : Dev Cert.BoundsIdeal.nD → PrngReg)
    (m' : (ℓ : Loc Cert.BoundsRefIdeal.nD Cert.BoundsRefIdeal.τ Cert.BoundsRefIdeal.sig) → Buf (Elt Ideal) ℓ) (g' : Dev Cert.BoundsRefIdeal.nD → PrngReg), Pre_BoundsIdeal m →
    (∀ c : Dev Cert.BoundsIdeal.nD,
      m' ((c.tc : Thread Cert.BoundsRefIdeal.nD Cert.BoundsRefIdeal.τ).loc Cert.BoundsRefIdeal.main_arg0) = m ((c.tc : Thread Cert.BoundsIdeal.nD Cert.BoundsIdeal.τ).loc Cert.BoundsIdeal.main_arg0)) →
    ∃ (v0 : (c : Dev Cert.BoundsIdeal.nD) → Buf (Elt Ideal) ((c.tc : Thread Cert.BoundsIdeal.nD Cert.BoundsIdeal.τ).loc Cert.BoundsIdeal.main_v0)),
      θ_run (Cert.BoundsIdeal.defs (F := Ideal)) (onTc (τ := Cert.BoundsIdeal.τ) (Cert.BoundsIdeal.main (F := Ideal))) ⟨m, fun _ => 0, g⟩ (fun r => ∀ c : Dev Cert.BoundsIdeal.nD,
          r.2.mem ((c.tc : Thread Cert.BoundsIdeal.nD Cert.BoundsIdeal.τ).loc Cert.BoundsIdeal.main_v0) = v0 c
          ∧ r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ θ_run (Cert.BoundsRefIdeal.defs (F := Ideal)) (onTc (τ := Cert.BoundsRefIdeal.τ) (Cert.BoundsRefIdeal.main (F := Ideal))) ⟨m', fun _ => 0, g'⟩ (fun r => ∀ c : Dev Cert.BoundsRefIdeal.nD,
          r.2.mem ((c.tc : Thread Cert.BoundsRefIdeal.nD Cert.BoundsRefIdeal.τ).loc Cert.BoundsRefIdeal.main_v11) = v0 c
          ∧ r.2.mem ((c.tc : Thread Cert.BoundsRefIdeal.nD Cert.BoundsRefIdeal.τ).loc Cert.BoundsRefIdeal.main_arg0) = m' ((c.tc : Thread Cert.BoundsRefIdeal.nD Cert.BoundsRefIdeal.τ).loc Cert.BoundsRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumNorm_SumNormIdeal : Prop :=
  True

def algebraic_SumNormIdeal_SumNormRefIdeal [hSumNormIdeal : Cert.SumNormIdeal.Facts] [hSumNormRefIdeal : Cert.SumNormRefIdeal.Facts] : Prop :=
  ∀ (m : (ℓ : Loc Cert.SumNormIdeal.nD Cert.SumNormIdeal.τ Cert.SumNormIdeal.sig) → Buf (Elt Ideal) ℓ) (g : Dev Cert.SumNormIdeal.nD → PrngReg)
    (m' : (ℓ : Loc Cert.SumNormRefIdeal.nD Cert.SumNormRefIdeal.τ Cert.SumNormRefIdeal.sig) → Buf (Elt Ideal) ℓ) (g' : Dev Cert.SumNormRefIdeal.nD → PrngReg), Pre_SumNormIdeal m →
    (∀ c : Dev Cert.SumNormIdeal.nD,
      m' ((c.tc : Thread Cert.SumNormRefIdeal.nD Cert.SumNormRefIdeal.τ).loc Cert.SumNormRefIdeal.main_arg0) = m ((c.tc : Thread Cert.SumNormIdeal.nD Cert.SumNormIdeal.τ).loc Cert.SumNormIdeal.main_arg0)) →
    ∃ (v0 : (c : Dev Cert.SumNormIdeal.nD) → Buf (Elt Ideal) ((c.tc : Thread Cert.SumNormIdeal.nD Cert.SumNormIdeal.τ).loc Cert.SumNormIdeal.main_v0)),
      θ_run (Cert.SumNormIdeal.defs (F := Ideal)) (onTc (τ := Cert.SumNormIdeal.τ) (Cert.SumNormIdeal.main (F := Ideal))) ⟨m, fun _ => 0, g⟩ (fun r => ∀ c : Dev Cert.SumNormIdeal.nD,
          r.2.mem ((c.tc : Thread Cert.SumNormIdeal.nD Cert.SumNormIdeal.τ).loc Cert.SumNormIdeal.main_v0) = v0 c
          ∧ r.2.mem ((c.tc : Thread Cert.SumNormIdeal.nD Cert.SumNormIdeal.τ).loc Cert.SumNormIdeal.main_arg0) = m ((c.tc : Thread Cert.SumNormIdeal.nD Cert.SumNormIdeal.τ).loc Cert.SumNormIdeal.main_arg0))
      ∧ θ_run (Cert.SumNormRefIdeal.defs (F := Ideal)) (onTc (τ := Cert.SumNormRefIdeal.τ) (Cert.SumNormRefIdeal.main (F := Ideal))) ⟨m', fun _ => 0, g'⟩ (fun r => ∀ c : Dev Cert.SumNormRefIdeal.nD,
          r.2.mem ((c.tc : Thread Cert.SumNormRefIdeal.nD Cert.SumNormRefIdeal.τ).loc Cert.SumNormRefIdeal.main_v0) = v0 c
          ∧ r.2.mem ((c.tc : Thread Cert.SumNormRefIdeal.nD Cert.SumNormRefIdeal.τ).loc Cert.SumNormRefIdeal.main_arg0) = m' ((c.tc : Thread Cert.SumNormRefIdeal.nD Cert.SumNormRefIdeal.τ).loc Cert.SumNormRefIdeal.main_arg0))

def preserves_Conv_ConvIdeal : Prop :=
  True

def algebraic_ConvIdeal_ConvRefIdeal_pre_finite [hConvIdeal : Cert.ConvIdeal.Facts] [hConvRefIdeal : Cert.ConvRefIdeal.Facts] [hPre_finite : Cert.Pre_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v76) = v0 c
          ∧ r.2.mem ((c.tc : Thread Cert.ConvRefIdeal.nD Cert.ConvRefIdeal.τ).loc Cert.ConvRefIdeal.main_v79) = v1 c
          ∧ r.2.mem ((c.tc : Thread Cert.ConvRefIdeal.nD Cert.ConvRefIdeal.τ).loc Cert.ConvRefIdeal.main_v82) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def Claim : Prop :=
  ∃ (hMerge : Cert.Merge.Facts) (hMergeIdeal : Cert.MergeIdeal.Facts) (hMergeRefIdeal : Cert.MergeRefIdeal.Facts) (hGlu : Cert.Glu.Facts) (hGluIdeal : Cert.GluIdeal.Facts) (hGluRefIdeal : Cert.GluRefIdeal.Facts) (hNorm : Cert.Norm.Facts) (hNormIdeal : Cert.NormIdeal.Facts) (hNormRefIdeal : Cert.NormRefIdeal.Facts) (hDact : Cert.Dact.Facts) (hDactIdeal : Cert.DactIdeal.Facts) (hDactRefIdeal : Cert.DactRefIdeal.Facts) (hGwDown : Cert.GwDown.Facts) (hGwDownIdeal : Cert.GwDownIdeal.Facts) (hGwDownRefIdeal : Cert.GwDownRefIdeal.Facts) (hDh2 : Cert.Dh2.Facts) (hDh2Ideal : Cert.Dh2Ideal.Facts) (hDh2RefIdeal : Cert.Dh2RefIdeal.Facts) (hGwUp : Cert.GwUp.Facts) (hGwUpIdeal : Cert.GwUpIdeal.Facts) (hGwUpRefIdeal : Cert.GwUpRefIdeal.Facts) (hDmerged : Cert.Dmerged.Facts) (hDmergedIdeal : Cert.DmergedIdeal.Facts) (hDmergedRefIdeal : Cert.DmergedRefIdeal.Facts) (hGwOut : Cert.GwOut.Facts) (hGwOutIdeal : Cert.GwOutIdeal.Facts) (hGwOutRefIdeal : Cert.GwOutRefIdeal.Facts) (hDz : Cert.Dz.Facts) (hDzIdeal : Cert.DzIdeal.Facts) (hDzRefIdeal : Cert.DzRefIdeal.Facts) (hGwPs5 : Cert.GwPs5.Facts) (hGwPs5Ideal : Cert.GwPs5Ideal.Facts) (hGwPs5RefIdeal : Cert.GwPs5RefIdeal.Facts) (hGwIn : Cert.GwIn.Facts) (hGwInIdeal : Cert.GwInIdeal.Facts) (hGwInRefIdeal : Cert.GwInRefIdeal.Facts) (hDh1 : Cert.Dh1.Facts) (hDh1Ideal : Cert.Dh1Ideal.Facts) (hDh1RefIdeal : Cert.Dh1RefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hPs5 : Cert.Ps5.Facts) (hPs5Ideal : Cert.Ps5Ideal.Facts) (hPs5RefIdeal : Cert.Ps5RefIdeal.Facts) (hRmsFwd : Cert.RmsFwd.Facts) (hRmsFwdIdeal : Cert.RmsFwdIdeal.Facts) (hRmsFwdRefIdeal : Cert.RmsFwdRefIdeal.Facts) (hMergeFwd : Cert.MergeFwd.Facts) (hMergeFwdIdeal : Cert.MergeFwdIdeal.Facts) (hMergeFwdRefIdeal : Cert.MergeFwdRefIdeal.Facts) (hGluFwd : Cert.GluFwd.Facts) (hGluFwdIdeal : Cert.GluFwdIdeal.Facts) (hGluFwdRefIdeal : Cert.GluFwdRefIdeal.Facts) (hConvFwd : Cert.ConvFwd.Facts) (hConvFwdIdeal : Cert.ConvFwdIdeal.Facts) (hConvFwdRefIdeal : Cert.ConvFwdRefIdeal.Facts) (hLoss : Cert.Loss.Facts) (hLossIdeal : Cert.LossIdeal.Facts) (hLossRefIdeal : Cert.LossRefIdeal.Facts) (hDisc : Cert.Disc.Facts) (hDiscIdeal : Cert.DiscIdeal.Facts) (hDiscRefIdeal : Cert.DiscRefIdeal.Facts) (hAdamIn : Cert.AdamIn.Facts) (hAdamInIdeal : Cert.AdamInIdeal.Facts) (hAdamInRefIdeal : Cert.AdamInRefIdeal.Facts) (hAdamGlu : Cert.AdamGlu.Facts) (hAdamGluIdeal : Cert.AdamGluIdeal.Facts) (hAdamGluRefIdeal : Cert.AdamGluRefIdeal.Facts) (hAdamPs5 : Cert.AdamPs5.Facts) (hAdamPs5Ideal : Cert.AdamPs5Ideal.Facts) (hAdamPs5RefIdeal : Cert.AdamPs5RefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamConv : Cert.AdamConv.Facts) (hAdamConvIdeal : Cert.AdamConvIdeal.Facts) (hAdamConvRefIdeal : Cert.AdamConvRefIdeal.Facts) (hBounds : Cert.Bounds.Facts) (hBoundsIdeal : Cert.BoundsIdeal.Facts) (hBoundsRefIdeal : Cert.BoundsRefIdeal.Facts) (hSumSmall : Cert.SumSmall.Facts) (hSumSmallIdeal : Cert.SumSmallIdeal.Facts) (hSumSmallRefIdeal : Cert.SumSmallRefIdeal.Facts) (hSumNorm : Cert.SumNorm.Facts) (hSumNormIdeal : Cert.SumNormIdeal.Facts) (hSumNormRefIdeal : Cert.SumNormRefIdeal.Facts) (hConv : Cert.Conv.Facts) (hConvIdeal : Cert.ConvIdeal.Facts) (hConvRefIdeal : Cert.ConvRefIdeal.Facts) (hPre_finite : Cert.Pre_finite.Facts),
    quiescent_Merge (hMerge := hMerge)
    ∧ quiescent_MergeIdeal (hMergeIdeal := hMergeIdeal)
    ∧ quiescent_MergeRefIdeal (hMergeRefIdeal := hMergeRefIdeal)
    ∧ quiescent_Glu (hGlu := hGlu)
    ∧ quiescent_GluIdeal (hGluIdeal := hGluIdeal)
    ∧ quiescent_GluRefIdeal (hGluRefIdeal := hGluRefIdeal)
    ∧ quiescent_Norm (hNorm := hNorm)
    ∧ quiescent_NormIdeal (hNormIdeal := hNormIdeal)
    ∧ quiescent_NormRefIdeal (hNormRefIdeal := hNormRefIdeal)
    ∧ quiescent_Dact (hDact := hDact)
    ∧ quiescent_DactIdeal (hDactIdeal := hDactIdeal)
    ∧ quiescent_DactRefIdeal (hDactRefIdeal := hDactRefIdeal)
    ∧ quiescent_GwDown (hGwDown := hGwDown)
    ∧ quiescent_GwDownIdeal (hGwDownIdeal := hGwDownIdeal)
    ∧ quiescent_GwDownRefIdeal (hGwDownRefIdeal := hGwDownRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_GwUp (hGwUp := hGwUp)
    ∧ quiescent_GwUpIdeal (hGwUpIdeal := hGwUpIdeal)
    ∧ quiescent_GwUpRefIdeal (hGwUpRefIdeal := hGwUpRefIdeal)
    ∧ quiescent_Dmerged (hDmerged := hDmerged)
    ∧ quiescent_DmergedIdeal (hDmergedIdeal := hDmergedIdeal)
    ∧ quiescent_DmergedRefIdeal (hDmergedRefIdeal := hDmergedRefIdeal)
    ∧ quiescent_GwOut (hGwOut := hGwOut)
    ∧ quiescent_GwOutIdeal (hGwOutIdeal := hGwOutIdeal)
    ∧ quiescent_GwOutRefIdeal (hGwOutRefIdeal := hGwOutRefIdeal)
    ∧ quiescent_Dz (hDz := hDz)
    ∧ quiescent_DzIdeal (hDzIdeal := hDzIdeal)
    ∧ quiescent_DzRefIdeal (hDzRefIdeal := hDzRefIdeal)
    ∧ quiescent_GwPs5 (hGwPs5 := hGwPs5)
    ∧ quiescent_GwPs5Ideal (hGwPs5Ideal := hGwPs5Ideal)
    ∧ quiescent_GwPs5RefIdeal (hGwPs5RefIdeal := hGwPs5RefIdeal)
    ∧ quiescent_GwIn (hGwIn := hGwIn)
    ∧ quiescent_GwInIdeal (hGwInIdeal := hGwInIdeal)
    ∧ quiescent_GwInRefIdeal (hGwInRefIdeal := hGwInRefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Ps5 (hPs5 := hPs5)
    ∧ quiescent_Ps5Ideal (hPs5Ideal := hPs5Ideal)
    ∧ quiescent_Ps5RefIdeal (hPs5RefIdeal := hPs5RefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Loss (hLoss := hLoss)
    ∧ quiescent_LossIdeal (hLossIdeal := hLossIdeal)
    ∧ quiescent_LossRefIdeal (hLossRefIdeal := hLossRefIdeal)
    ∧ quiescent_Disc (hDisc := hDisc)
    ∧ quiescent_DiscIdeal (hDiscIdeal := hDiscIdeal)
    ∧ quiescent_DiscRefIdeal (hDiscRefIdeal := hDiscRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamPs5 (hAdamPs5 := hAdamPs5)
    ∧ quiescent_AdamPs5Ideal (hAdamPs5Ideal := hAdamPs5Ideal)
    ∧ quiescent_AdamPs5RefIdeal (hAdamPs5RefIdeal := hAdamPs5RefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_Bounds (hBounds := hBounds)
    ∧ quiescent_BoundsIdeal (hBoundsIdeal := hBoundsIdeal)
    ∧ quiescent_BoundsRefIdeal (hBoundsRefIdeal := hBoundsRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumNorm (hSumNorm := hSumNorm)
    ∧ quiescent_SumNormIdeal (hSumNormIdeal := hSumNormIdeal)
    ∧ quiescent_SumNormRefIdeal (hSumNormRefIdeal := hSumNormRefIdeal)
    ∧ quiescent_Conv (hConv := hConv)
    ∧ quiescent_ConvIdeal (hConvIdeal := hConvIdeal)
    ∧ quiescent_ConvIdeal_pre_finite (hConvIdeal := hConvIdeal) (hPre_finite := hPre_finite)
    ∧ quiescent_ConvRefIdeal (hConvRefIdeal := hConvRefIdeal)
    ∧ quiescent_ConvRefIdeal_pre_finite (hConvRefIdeal := hConvRefIdeal) (hPre_finite := hPre_finite)
    ∧ preserves_Merge_MergeIdeal
    ∧ algebraic_MergeIdeal_MergeRefIdeal (hMergeIdeal := hMergeIdeal) (hMergeRefIdeal := hMergeRefIdeal)
    ∧ preserves_Glu_GluIdeal
    ∧ algebraic_GluIdeal_GluRefIdeal (hGluIdeal := hGluIdeal) (hGluRefIdeal := hGluRefIdeal)
    ∧ preserves_Norm_NormIdeal
    ∧ algebraic_NormIdeal_NormRefIdeal (hNormIdeal := hNormIdeal) (hNormRefIdeal := hNormRefIdeal)
    ∧ preserves_Dact_DactIdeal
    ∧ algebraic_DactIdeal_DactRefIdeal (hDactIdeal := hDactIdeal) (hDactRefIdeal := hDactRefIdeal)
    ∧ preserves_GwDown_GwDownIdeal
    ∧ algebraic_GwDownIdeal_GwDownRefIdeal (hGwDownIdeal := hGwDownIdeal) (hGwDownRefIdeal := hGwDownRefIdeal)
    ∧ preserves_Dh2_Dh2Ideal
    ∧ algebraic_Dh2Ideal_Dh2RefIdeal (hDh2Ideal := hDh2Ideal) (hDh2RefIdeal := hDh2RefIdeal)
    ∧ preserves_GwUp_GwUpIdeal
    ∧ algebraic_GwUpIdeal_GwUpRefIdeal (hGwUpIdeal := hGwUpIdeal) (hGwUpRefIdeal := hGwUpRefIdeal)
    ∧ preserves_Dmerged_DmergedIdeal
    ∧ algebraic_DmergedIdeal_DmergedRefIdeal (hDmergedIdeal := hDmergedIdeal) (hDmergedRefIdeal := hDmergedRefIdeal)
    ∧ preserves_GwOut_GwOutIdeal
    ∧ algebraic_GwOutIdeal_GwOutRefIdeal (hGwOutIdeal := hGwOutIdeal) (hGwOutRefIdeal := hGwOutRefIdeal)
    ∧ preserves_Dz_DzIdeal
    ∧ algebraic_DzIdeal_DzRefIdeal (hDzIdeal := hDzIdeal) (hDzRefIdeal := hDzRefIdeal)
    ∧ preserves_GwPs5_GwPs5Ideal
    ∧ algebraic_GwPs5Ideal_GwPs5RefIdeal (hGwPs5Ideal := hGwPs5Ideal) (hGwPs5RefIdeal := hGwPs5RefIdeal)
    ∧ preserves_GwIn_GwInIdeal
    ∧ algebraic_GwInIdeal_GwInRefIdeal (hGwInIdeal := hGwInIdeal) (hGwInRefIdeal := hGwInRefIdeal)
    ∧ preserves_Dh1_Dh1Ideal
    ∧ algebraic_Dh1Ideal_Dh1RefIdeal (hDh1Ideal := hDh1Ideal) (hDh1RefIdeal := hDh1RefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Ps5_Ps5Ideal
    ∧ algebraic_Ps5Ideal_Ps5RefIdeal (hPs5Ideal := hPs5Ideal) (hPs5RefIdeal := hPs5RefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_Loss_LossIdeal
    ∧ algebraic_LossIdeal_LossRefIdeal (hLossIdeal := hLossIdeal) (hLossRefIdeal := hLossRefIdeal)
    ∧ preserves_Disc_DiscIdeal
    ∧ algebraic_DiscIdeal_DiscRefIdeal (hDiscIdeal := hDiscIdeal) (hDiscRefIdeal := hDiscRefIdeal)
    ∧ preserves_AdamIn_AdamInIdeal
    ∧ algebraic_AdamInIdeal_AdamInRefIdeal (hAdamInIdeal := hAdamInIdeal) (hAdamInRefIdeal := hAdamInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamPs5_AdamPs5Ideal
    ∧ algebraic_AdamPs5Ideal_AdamPs5RefIdeal (hAdamPs5Ideal := hAdamPs5Ideal) (hAdamPs5RefIdeal := hAdamPs5RefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamConv_AdamConvIdeal
    ∧ algebraic_AdamConvIdeal_AdamConvRefIdeal (hAdamConvIdeal := hAdamConvIdeal) (hAdamConvRefIdeal := hAdamConvRefIdeal)
    ∧ preserves_Bounds_BoundsIdeal
    ∧ algebraic_BoundsIdeal_BoundsRefIdeal (hBoundsIdeal := hBoundsIdeal) (hBoundsRefIdeal := hBoundsRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumNorm_SumNormIdeal
    ∧ algebraic_SumNormIdeal_SumNormRefIdeal (hSumNormIdeal := hSumNormIdeal) (hSumNormRefIdeal := hSumNormRefIdeal)
    ∧ preserves_Conv_ConvIdeal
    ∧ algebraic_ConvIdeal_ConvRefIdeal_pre_finite (hConvIdeal := hConvIdeal) (hConvRefIdeal := hConvRefIdeal) (hPre_finite := hPre_finite)
-- ==== Pre_finite.lean ====
abbrev S4096x11264 : Shape := ⟨2, ![4096, 11264]⟩
abbrev S4096x5632 : Shape := ⟨2, ![4096, 5632]⟩
abbrev S3x11264 : Shape := ⟨2, ![3, 11264]⟩
abbrev S1x11264 : Shape := ⟨2, ![1, 11264]⟩
abbrev S_ : Shape := ⟨0, ![]⟩

class Facts : Prop where
  bitsLt_bf16_f32 : FTy.bits .bf16 < FTy.bits .f32
  bcast_S_S4096x11264 : S_.BroadcastsInDim S4096x11264 (![] : Fin 0 → Fin S4096x11264.rank)
  bcast_S_S4096x5632 : S_.BroadcastsInDim S4096x5632 (![] : Fin 0 → Fin S4096x5632.rank)
  bcast_S_S3x11264 : S_.BroadcastsInDim S3x11264 (![] : Fin 0 → Fin S3x11264.rank)
  bcast_S_S1x11264 : S_.BroadcastsInDim S1x11264 (![] : Fin 0 → Fin S1x11264.rank)

variable [Facts]

def fn {F : FTy → Type} [FloatOps F] (main_arg0 : FVec F S4096x11264 .bf16) (main_arg1 : FVec F S4096x5632 .bf16) (main_arg2 : FVec F S3x11264 .f32) (main_arg3 : FVec F S1x11264 .f32) : IVec S4096x11264 1 × IVec S4096x5632 1 × IVec S3x11264 1 × IVec S1x11264 1 :=
  let main_v0 : FVec F S4096x11264 .f32 := (extf .f32 · bitsLt_bf16_f32) main_arg0
  let main_v1 : FVec F S4096x11264 .f32 := Host.absf main_v0
  let main_cst : FVec F S_ .f32 := constant S_ .f32 0x7F7FFFFF#32
  let main_v2 : FVec F S4096x11264 .f32 := broadcastInDim S4096x11264 ![] bcast_S_S4096x11264 main_cst
  let main_v3 : IVec S4096x11264 1 := cmpf .ole main_v1 main_v2
  let main_v4 : FVec F S4096x5632 .f32 := (extf .f32 · bitsLt_bf16_f32) main_arg1
  let main_v5 : FVec F S4096x5632 .f32 := Host.absf main_v4
  let main_cst_0 : FVec F S_ .f32 := constant S_ .f32 0x7F7FFFFF#32
  let main_v6 : FVec F S4096x5632 .f32 := broadcastInDim S4096x5632 ![] bcast_S_S4096x5632 main_cst_0
  let main_v7 : IVec S4096x5632 1 := cmpf .ole main_v5 main_v6
  let main_v8 : FVec F S3x11264 .f32 := Host.absf main_arg2
  let main_cst_1 : FVec F S_ .f32 := constant S_ .f32 0x7F7FFFFF#32
  let main_v9 : FVec F S3x11264 .f32 := broadcastInDim S3x11264 ![] bcast_S_S3x11264 main_cst_1
  let main_v10 : IVec S3x11264 1 := cmpf .ole main_v8 main_v9
  let main_v11 : FVec F S1x11264 .f32 := Host.absf main_arg3
  let main_cst_2 : FVec F S_ .f32 := constant S_ .f32 0x7F7FFFFF#32
  let main_v12 : FVec F S1x11264 .f32 := broadcastInDim S1x11264 ![] bcast_S_S1x11264 main_cst_2
  let main_v13 : IVec S1x11264 1 := cmpf .ole main_v11 main_v12
  (main_v3, main_v7, main_v10, main_v13)
-- ==== Merge.lean ====
abbrev S4096x9216 : Shape := ⟨2, ![4096, 9216]⟩
abbrev S4096x2048 : Shape := ⟨2, ![4096, 2048]⟩
abbrev S256x1024 : Shape := ⟨2, ![256, 1024]⟩

abbrev nBuf : Space → Nat
  | .hbm => 8
  | .vmem => 18
  | .smem => 0
  | _ => 0

abbrev bufTy : (tb : Table) → Fin (tcTables nBuf tb) → BufTy
  | .hbm, ⟨0, _⟩ => ⟨S4096x9216, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S4096x9216 : Shape := ⟨2, ![4096, 9216]⟩
abbrev S4096x2048 : Shape := ⟨2, ![4096, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .bf16⟩
  | .hbm, ⟨41, _⟩ => ⟨S4096x2048, .bf16⟩
  | .hbm, ⟨42, _⟩ => ⟨S4096x2048, .bf16⟩
  | .hbm, ⟨43, _⟩ => ⟨S4096x2048, .bf16⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Glu.lean ====
abbrev S4096x1024 : Shape := ⟨2, ![4096, 1024]⟩
abbrev S1024x1024 : Shape := ⟨2, ![1024, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== GluRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S1024x1024, .f32⟩
  | .hbm, ⟨57, _⟩ => ⟨S1024x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Dact.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S4096x2048 : Shape := ⟨2, ![4096, 2048]⟩
abbrev S5632x2048 : Shape := ⟨2, ![5632, 2048]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x2048, .f32⟩
  | .hbm, ⟨3, _⟩ => ⟨S5632x2048, .f32⟩
  | .hbm, ⟨4, _⟩ => ⟨S4096x5632, .f32⟩
  | .hbm, ⟨5, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GwDown.lean ====
abbrev S4096x5632 : Shape := ⟨2, ![4096, 5632]⟩
abbrev S4096x2048 : Shape := ⟨2, ![4096, 2048]⟩
abbrev S2x4x1408x1024 : Shape := ⟨4, ![2, 4, 1408, 1024]⟩
abbrev S2048x1408 : Shape := ⟨2, ![2048, 1408]⟩
abbrev S2048x1024 : Shape := ⟨2, ![2048, 1024]⟩
abbrev S1x1x1408x1024 : Shape := ⟨4, ![1, 1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S2x4x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwDownRefIdeal.lean ====
abbrev S4096x5632 : Shape := ⟨2, ![4096, 5632]⟩
abbrev S4096x2048 : Shape := ⟨2, ![4096, 2048]⟩
abbrev S2048x5632 : Shape := ⟨2, ![2048, 5632]⟩
abbrev S5632x2048 : Shape := ⟨2, ![5632, 2048]⟩
abbrev S4x1408x2x1024 : Shape := ⟨4, ![4, 1408, 2, 1024]⟩
abbrev S2x4x1408x1024 : Shape := ⟨4, ![2, 4, 1408, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | .hbm, ⟨7, _⟩ => ⟨S4x1408x2x1024, .bf16⟩
  | .hbm, ⟨8, _⟩ => ⟨S2x4x1408x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Dh2.lean ====
abbrev S4096x11264 : Shape := ⟨2, ![4096, 11264]⟩
abbrev S4x2048x2816 : Shape := ⟨3, ![4, 2048, 2816]⟩
abbrev S4096x2048 : Shape := ⟨2, ![4096, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .bf16⟩
  | .hbm, ⟨2, _⟩ => ⟨S4096x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.muli c2_i32 v26
  let c4_i32_10 : BitVec 32 := 4#32
  let v28 : BitVec 32 := Scalar.divsi v16 c4_i32_10
  let c0_i32_11 : BitVec 32 := 0#32
  let v29 : BitVec 1 := Scalar.cmpi .sgt v16 c0_i32_11
  let v30 : BitVec 32 := Scalar.extui v29
  let c0_i32_12 : BitVec 32 := 0#32
  let v31 : BitVec 1 := Scalar.cmpi .slt v16 c0_i32_12
  let v32 : BitVec 32 := Scalar.extui v31
  let v33 : BitVec 32 := Scalar.subi v30 v32
  let c0_i32_13 : BitVec 32 := 0#32
  let v34 : BitVec 1 := Scalar.cmpi .sgt c4_i32_10 c0_i32_13
  let v35 : BitVec 32 := Scalar.extui v34
  let c0_i32_14 : BitVec 32 := 0#32
  let v36 : BitVec 1 := Scalar.cmpi .slt c4_i32_10 c0_i32_14
  let v37 : BitVec 32 := Scalar.extui v36
  let v38 : BitVec 32 := Scalar.subi v35 v37
  let v39 : BitVec 1 := Scalar.cmpi .ne v33 v38
  let v40 : BitVec 32 := Scalar.remsi v16 c4_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let v45 : BitVec 32 := Scalar.addi v27 v44
  let c1_i32_17 : BitVec 32 := 1#32
  let v46 : BitVec 32 := Scalar.muli v45 c1_i32_17
  let c1_i32_18 : BitVec 32 := 1#32
  let c0_i32_19 : BitVec 32 := 0#32
  let v47 : BitVec 1 := Scalar.cmpi .eq c1_i32_18 c0_i32_19
  let c1_i32_20 : BitVec 32 := 1#32
  let v48 : BitVec 32 := Scalar.select v47 c1_i32_20 c1_i32_18
  let v49 : BitVec 32 := Scalar.remsi arg2 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_24 : BitVec 32 := 0#32
  ![arg0.toNat, v57.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S4096x11264 : Shape := ⟨2, ![4096, 11264]⟩
abbrev S4x2048x2816 : Shape := ⟨3, ![4, 2048, 2816]⟩
abbrev S4096x4x2x1408 : Shape := ⟨4, ![4096, 4, 2, 1408]⟩
abbrev S4096x2x4x1408 : Shape := ⟨4, ![4096, 2, 4, 1408]⟩
abbrev S2048x4x2816 : Shape := ⟨3, ![2048, 4, 2816]⟩
abbrev S2048x11264 : Shape := ⟨2, ![2048, 11264]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .bf16⟩
  | .hbm, ⟨2, _⟩ => ⟨S4096x11264, .f32⟩
  | .hbm, ⟨3, _⟩ => ⟨S4096x4x2x1408, .f32⟩
  | .hbm, ⟨4, _⟩ => ⟨S4096x2x4x1408, .f32⟩
  | .hbm, ⟨5, _⟩ => ⟨S4096x11264, .f32⟩
  | .hbm, ⟨6, _⟩ => ⟨S4x2048x2816, .f32⟩
  | .hbm, ⟨7, _⟩ => ⟨S2048x4x2816, .f32⟩
  | .hbm, ⟨8, _⟩ => ⟨S2048x11264, .f32⟩
  | .hbm, ⟨9, _⟩ => ⟨S4096x2048, .f32⟩
  | .hbm, ⟨10, _⟩ => ⟨S4096x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== GwUp.lean ====
abbrev S4096x2048 : Shape := ⟨2, ![4096, 2048]⟩
abbrev S4096x11264 : Shape := ⟨2, ![4096, 11264]⟩
abbrev S2x4x2048x1408 : Shape := ⟨4, ![2, 4, 2048, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S2x4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.muli c2_i32 v26
  let c4_i32_10 : BitVec 32 := 4#32
  let v28 : BitVec 32 := Scalar.divsi v16 c4_i32_10
  let c0_i32_11 : BitVec 32 := 0#32
  let v29 : BitVec 1 := Scalar.cmpi .sgt v16 c0_i32_11
  let v30 : BitVec 32 := Scalar.extui v29
  let c0_i32_12 : BitVec 32 := 0#32
  let v31 : BitVec 1 := Scalar.cmpi .slt v16 c0_i32_12
  let v32 : BitVec 32 := Scalar.extui v31
  let v33 : BitVec 32 := Scalar.subi v30 v32
  let c0_i32_13 : BitVec 32 := 0#32
  let v34 : BitVec 1 := Scalar.cmpi .sgt c4_i32_10 c0_i32_13
  let v35 : BitVec 32 := Scalar.extui v34
  let c0_i32_14 : BitVec 32 := 0#32
  let v36 : BitVec 1 := Scalar.cmpi .slt c4_i32_10 c0_i32_14
  let v37 : BitVec 32 := Scalar.extui v36
  let v38 : BitVec 32 := Scalar.subi v35 v37
  let v39 : BitVec 1 := Scalar.cmpi .ne v33 v38
  let v40 : BitVec 32 := Scalar.remsi v16 c4_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let v45 : BitVec 32 := Scalar.addi v27 v44
  let c1_i32_17 : BitVec 32 := 1#32
  let v46 : BitVec 32 := Scalar.muli v45 c1_i32_17
  let c1_i32_18 : BitVec 32 := 1#32
  let c0_i32_19 : BitVec 32 := 0#32
  let v47 : BitVec 1 := Scalar.cmpi .eq c1_i32_18 c0_i32_19
  let c1_i32_20 : BitVec 32 := 1#32
  let v48 : BitVec 32 := Scalar.select v47 c1_i32_20 c1_i32_18
  let v49 : BitVec 32 := Scalar.remsi arg1 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_24 : BitVec 32 := 0#32
  ![arg2.toNat, v57.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg1 c2_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v26.toNat, v43.toNat, arg0.toNat, v53.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwUpRefIdeal.lean ====
abbrev S4096x2048 : Shape := ⟨2, ![4096, 2048]⟩
abbrev S4096x11264 : Shape := ⟨2, ![4096, 11264]⟩
abbrev S4096x4x2x1408 : Shape := ⟨4, ![4096, 4, 2, 1408]⟩
abbrev S4096x2x4x1408 : Shape := ⟨4, ![4096, 2, 4, 1408]⟩
abbrev S11264x2048 : Shape := ⟨2, ![11264, 2048]⟩
abbrev S2048x11264 : Shape := ⟨2, ![2048, 11264]⟩
abbrev S2048x4x2x1408 : Shape := ⟨4, ![2048, 4, 2, 1408]⟩
abbrev S2x4x2048x1408 : Shape := ⟨4, ![2, 4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4096x2048, .f32⟩
  | .hbm, ⟨3, _⟩ => ⟨S4096x11264, .f32⟩
  | .hbm, ⟨4, _⟩ => ⟨S4096x4x2x1408, .f32⟩
  | .hbm, ⟨5, _⟩ => ⟨S4096x2x4x1408, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S2048x4x2x1408, .bf16⟩
  | .hbm, ⟨11, _⟩ => ⟨S2x4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Dmerged.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GwOut.lean ====
abbrev S4096x2048 : Shape := ⟨2, ![4096, 2048]⟩
abbrev S2x4x512x1024 : Shape := ⟨4, ![2, 4, 512, 1024]⟩
abbrev S4096x512 : Shape := ⟨2, ![4096, 512]⟩
abbrev S4096x1024 : Shape := ⟨2, ![4096, 1024]⟩
abbrev S1x1x512x1024 : Shape := ⟨4, ![1, 1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2x4x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwOutRefIdeal.lean ====
abbrev S4096x2048 : Shape := ⟨2, ![4096, 2048]⟩
abbrev S2048x2048 : Shape := ⟨2, ![2048, 2048]⟩
abbrev S4x512x2x1024 : Shape := ⟨4, ![4, 512, 2, 1024]⟩
abbrev S2x4x512x1024 : Shape := ⟨4, ![2, 4, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S4x512x2x1024, .bf16⟩
  | .hbm, ⟨8, _⟩ => ⟨S2x4x512x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Dz.lean ====
abbrev S4096x2048 : Shape := ⟨2, ![4096, 2048]⟩
abbrev S4x1024x512 : Shape := ⟨3, ![4, 1024, 512]⟩
abbrev S4096x1024 : Shape := ⟨2, ![4096, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DzRefIdeal.lean ====
abbrev S4096x2048 : Shape := ⟨2, ![4096, 2048]⟩
abbrev S4x1024x512 : Shape := ⟨3, ![4, 1024, 512]⟩
abbrev S1024x4x512 : Shape := ⟨3, ![1024, 4, 512]⟩
abbrev S1024x2048 : Shape := ⟨2, ![1024, 2048]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S4096x2048, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S4096x1024, .f32⟩
  | .hbm, ⟨7, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GwPs5.lean ====
abbrev S4096x1024 : Shape := ⟨2, ![4096, 1024]⟩
abbrev S4096x2048 : Shape := ⟨2, ![4096, 2048]⟩
abbrev S2x4x1024x256 : Shape := ⟨4, ![2, 4, 1024, 256]⟩
abbrev S4096x256 : Shape := ⟨2, ![4096, 256]⟩
abbrev S1x1x1024x256 : Shape := ⟨4, ![1, 1, 1024, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S2x4x1024x256, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1x1x1024x256, .bf16⟩
  | .local _ .vmem, ⟨4, _⟩ => ⟨S1x1x1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg1 c2_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v26.toNat, v43.toNat, arg0.toNat, v53.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwPs5RefIdeal.lean ====
abbrev S4096x1024 : Shape := ⟨2, ![4096, 1024]⟩
abbrev S4096x2048 : Shape := ⟨2, ![4096, 2048]⟩
abbrev S2048x1024 : Shape := ⟨2, ![2048, 1024]⟩
abbrev S1024x2048 : Shape := ⟨2, ![1024, 2048]⟩
abbrev S1024x4x2x256 : Shape := ⟨4, ![1024, 4, 2, 256]⟩
abbrev S2x4x1024x256 : Shape := ⟨4, ![2, 4, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | .hbm, ⟨7, _⟩ => ⟨S1024x4x2x256, .bf16⟩
  | .hbm, ⟨8, _⟩ => ⟨S2x4x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== GwIn.lean ====
abbrev S4096x2048 : Shape := ⟨2, ![4096, 2048]⟩
abbrev S4096x9216 : Shape := ⟨2, ![4096, 9216]⟩
abbrev S2x4x2048x1152 : Shape := ⟨4, ![2, 4, 2048, 1152]⟩
abbrev S2048x1024 : Shape := ⟨2, ![2048, 1024]⟩
abbrev S2048x1152 : Shape := ⟨2, ![2048, 1152]⟩
abbrev S1x1x1024x1152 : Shape := ⟨4, ![1, 1, 1024, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x9216, .bf16⟩
  | .hbm, ⟨2, _⟩ => ⟨S2x4x2048x1152, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1x1x1024x1152, .bf16⟩
  | .local _ .vmem, ⟨5, _⟩ => ⟨S1x1x1024x1152, .bf16⟩
  | .local _ .vmem, ⟨6, _⟩ => ⟨S1024x1152, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg1 c2_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v26.toNat, v43.toNat, arg0.toNat, v53.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwInRefIdeal.lean ====
abbrev S4096x2048 : Shape := ⟨2, ![4096, 2048]⟩
abbrev S4096x9216 : Shape := ⟨2, ![4096, 9216]⟩
abbrev S9216x2048 : Shape := ⟨2, ![9216, 2048]⟩
abbrev S2048x9216 : Shape := ⟨2, ![2048, 9216]⟩
abbrev S2048x4x2x1152 : Shape := ⟨4, ![2048, 4, 2, 1152]⟩
abbrev S2x4x2048x1152 : Shape := ⟨4, ![2, 4, 2048, 1152]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x9216, .bf16⟩
  | .hbm, ⟨2, _⟩ => ⟨S4096x2048, .f32⟩
  | .hbm, ⟨3, _⟩ => ⟨S4096x9216, .f32⟩
  | .hbm, ⟨4, _⟩ => ⟨S9216x2048, .f32⟩
  | .hbm, ⟨5, _⟩ => ⟨S2048x9216, .f32⟩
  | .hbm, ⟨6, _⟩ => ⟨S2048x9216, .bf16⟩
  | .hbm, ⟨7, _⟩ => ⟨S2048x4x2x1152, .bf16⟩
  | .hbm, ⟨8, _⟩ => ⟨S2x4x2048x1152, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Dh1.lean ====
abbrev S4096x9216 : Shape := ⟨2, ![4096, 9216]⟩
abbrev S4x2048x2304 : Shape := ⟨3, ![4, 2048, 2304]⟩
abbrev S4096x2048 : Shape := ⟨2, ![4096, 2048]⟩
abbrev S1024x2304 : Shape := ⟨2, ![1024, 2304]⟩
abbrev S1x1024x2304 : Shape := ⟨3, ![1, 1024, 2304]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x9216, .bf16⟩
  | .hbm, ⟨1, _⟩ => ⟨S4x2048x2304, .bf16⟩
  | .hbm, ⟨2, _⟩ => ⟨S4096x2048, .bf16⟩
  | .local _ .vmem, ⟨0, _⟩ => ⟨S1024x2304, .bf16⟩
  | .local _ .vmem, ⟨1, _⟩ => ⟨S1024x2304, .bf16⟩
  | .local _ .vmem, ⟨2, _⟩ => ⟨S1x1024x2304, .bf16⟩
  | .local _ .vmem, ⟨3, _⟩ => ⟨S1x1024x2304, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1RefIdeal.lean ====
abbrev S4096x9216 : Shape := ⟨2, ![4096, 9216]⟩
abbrev S4x2048x2304 : Shape := ⟨3, ![4, 2048, 2304]⟩
abbrev S2048x4x2304 : Shape := ⟨3, ![2048, 4, 2304]⟩
abbrev S2048x9216 : Shape := ⟨2, ![2048, 9216]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S4x2048x2304, .bf16⟩
  | .hbm, ⟨2, _⟩ => ⟨S4096x9216, .f32⟩
  | .hbm, ⟨3, _⟩ => ⟨S4x2048x2304, .f32⟩
  | .hbm, ⟨4, _⟩ => ⟨S2048x4x2304, .f32⟩
  | .hbm, ⟨5, _⟩ => ⟨S2048x9216, .f32⟩
  | .hbm, ⟨6, _⟩ => ⟨S4096x2048, .f32⟩
  | .hbm, ⟨7, _⟩ => ⟨S4096x2048, .bf16⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Up.lean ====
abbrev S4096x2048 : Shape := ⟨2, ![4096, 2048]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.muli c2_i32 v26
  let c4_i32_10 : BitVec 32 := 4#32
  let v28 : BitVec 32 := Scalar.divsi v16 c4_i32_10
  let c0_i32_11 : BitVec 32 := 0#32
  let v29 : BitVec 1 := Scalar.cmpi .sgt v16 c0_i32_11
  let v30 : BitVec 32 := Scalar.extui v29
  let c0_i32_12 : BitVec 32 := 0#32
  let v31 : BitVec 1 := Scalar.cmpi .slt v16 c0_i32_12
  let v32 : BitVec 32 := Scalar.extui v31
  let v33 : BitVec 32 := Scalar.subi v30 v32
  let c0_i32_13 : BitVec 32 := 0#32
  let v34 : BitVec 1 := Scalar.cmpi .sgt c4_i32_10 c0_i32_13
  let v35 : BitVec 32 := Scalar.extui v34
  let c0_i32_14 : BitVec 32 := 0#32
  let v36 : BitVec 1 := Scalar.cmpi .slt c4_i32_10 c0_i32_14
  let v37 : BitVec 32 := Scalar.extui v36
  let v38 : BitVec 32 := Scalar.subi v35 v37
  let v39 : BitVec 1 := Scalar.cmpi .ne v33 v38
  let v40 : BitVec 32 := Scalar.remsi v16 c4_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let v45 : BitVec 32 := Scalar.addi v27 v44
  let c1_i32_17 : BitVec 32 := 1#32
  let v46 : BitVec 32 := Scalar.muli v45 c1_i32_17
  let c1_i32_18 : BitVec 32 := 1#32
  let c0_i32_19 : BitVec 32 := 0#32
  let v47 : BitVec 1 := Scalar.cmpi .eq c1_i32_18 c0_i32_19
  let c1_i32_20 : BitVec 32 := 1#32
  let v48 : BitVec 32 := Scalar.select v47 c1_i32_20 c1_i32_18
  let v49 : BitVec 32 := Scalar.remsi arg1 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_24 : BitVec 32 := 0#32
  ![arg0.toNat, v57.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩
abbrev S4096x2x4x1408 : Shape := ⟨4, ![4096, 2, 4, 1408]⟩
abbrev S4096x4x2x1408 : Shape := ⟨4, ![4096, 4, 2, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x2048, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S4096x11264, .f32⟩
  | .hbm, ⟨7, _⟩ => ⟨S4096x11264, .bf16⟩
  | .hbm, ⟨8, _⟩ => ⟨S4096x2x4x1408, .bf16⟩
  | .hbm, ⟨9, _⟩ => ⟨S4096x4x2x1408, .bf16⟩
  | .hbm, ⟨10, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ps5.lean ====
abbrev S4096x1024 : Shape := ⟨2, ![4096, 1024]⟩
abbrev S4x1024x512 : Shape := ⟨3, ![4, 1024, 512]⟩
abbrev S4096x2048 : Shape := ⟨2, ![4096, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ps5RefIdeal.lean ====
abbrev S4096x1024 : Shape := ⟨2, ![4096, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x1024, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== RmsFwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RmsFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MergeFwd.lean ====
abbrev S4096x9216 : Shape := ⟨2, ![4096, 9216]⟩
abbrev S4096x2048 : Shape := ⟨2, ![4096, 2048]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x9216, .f32⟩
  | .hbm, ⟨1, _⟩ => ⟨S4096x2048, .f32⟩
  | .hbm, ⟨2, _⟩ => ⟨S4096x2048, .f32⟩
  | .hbm, ⟨3, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFwdRefIdeal.lean ====
abbrev S4096x9216 : Shape := ⟨2, ![4096, 9216]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== GluFwd.lean ====
abbrev S4096x1024 : Shape := ⟨2, ![4096, 1024]⟩
abbrev S1024x1024 : Shape := ⟨2, ![1024, 1024]⟩
abbrev S1x1024 : Shape := ⟨2, ![1, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluFwdRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== ConvFwd.lean ====
abbrev S4096x11264 : Shape := ⟨2, ![4096, 11264]⟩
abbrev S3x11264 : Shape := ⟨2, ![3, 11264]⟩
abbrev S1x11264 : Shape := ⟨2, ![1, 11264]⟩
abbrev S4096x5632 : Shape := ⟨2, ![4096, 5632]⟩
abbrev S512x1408 : Shape := ⟨2, ![512, 1408]⟩
abbrev S16x1408 : Shape := ⟨2, ![16, 1408]⟩
abbrev S3x1408 : Shape := ⟨2, ![3, 1408]⟩
abbrev S1x1408 : Shape := ⟨2, ![1, 1408]⟩

abbrev nBuf : Space → Nat
  | .hbm => 4
  | .vmem => 18
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S1x11264, .f32⟩
  | .hbm, ⟨3, _⟩ => ⟨S4096x5632, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S16x1408, .bf16⟩
  | .local _ .vmem, ⟨5, _⟩ => ⟨S16x1408, .bf16⟩
  | .local _ .vmem, ⟨6, _⟩ => ⟨S16x1408, .bf16⟩
  | .local _ .vmem, ⟨7, _⟩ => ⟨S16x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S512x1408, .bf16⟩
  | .local _ .vmem, ⟨17, _⟩ => ⟨S512x1408, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.muli c2_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.muli c2_i32 arg0
  let c1_i32_0 : BitVec 32 := 1#32
  let v4 : BitVec 32 := Scalar.addi v3 c1_i32_0
  let c0_i32_1 : BitVec 32 := 0#32
  ![v2.toNat, v4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvFwdRefIdeal.lean ====
abbrev S4096x11264 : Shape := ⟨2, ![4096, 11264]⟩
abbrev S3x11264 : Shape := ⟨2, ![3, 11264]⟩
abbrev S1x11264 : Shape := ⟨2, ![1, 11264]⟩
abbrev S4096x4x2x1408 : Shape := ⟨4, ![4096, 4, 2, 1408]⟩
abbrev S4096x2x4x1408 : Shape := ⟨4, ![4096, 2, 4, 1408]⟩
abbrev S_ : Shape := ⟨0, ![]⟩
abbrev S2x11264 : Shape := ⟨2, ![2, 11264]⟩
abbrev S4098x11264 : Shape := ⟨2, ![4098, 11264]⟩
abbrev S11264 : Shape := ⟨1, ![11264]⟩
abbrev S4096x5632 : Shape := ⟨2, ![4096, 5632]⟩

abbrev nBuf : Space → Nat
  | .hbm => 45
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S1x11264, .f32⟩
  | .hbm, ⟨3, _⟩ => ⟨S4096x11264, .f32⟩
  | .hbm, ⟨4, _⟩ => ⟨S4096x4x2x1408, .f32⟩
  | .hbm, ⟨5, _⟩ => ⟨S4096x2x4x1408, .f32⟩
  | .hbm, ⟨6, _⟩ => ⟨S4096x11264, .f32⟩
  | .hbm, ⟨7, _⟩ => ⟨S_, .f32⟩
  | .hbm, ⟨8, _⟩ => ⟨S2x11264, .f32⟩
  | .hbm, ⟨9, _⟩ => ⟨S4098x11264, .f32⟩
  | .hbm, ⟨10, _⟩ => ⟨S1x11264, .f32⟩
  | .hbm, ⟨11, _⟩ => ⟨S11264, .f32⟩
  | .hbm, ⟨12, _⟩ => ⟨S4096x11264, .f32⟩
  | .hbm, ⟨13, _⟩ => ⟨S1x11264, .f32⟩
  | .hbm, ⟨14, _⟩ => ⟨S4096x11264, .f32⟩
  | .hbm, ⟨15, _⟩ => ⟨S4096x11264, .f32⟩
  | .hbm, ⟨16, _⟩ => ⟨S4096x11264, .f32⟩
  | .hbm, ⟨17, _⟩ => ⟨S4096x11264, .f32⟩
  | .hbm, ⟨18, _⟩ => ⟨S1x11264, .f32⟩
  | .hbm, ⟨19, _⟩ => ⟨S11264, .f32⟩
  | .hbm, ⟨20, _⟩ => ⟨S4096x11264, .f32⟩
  | .hbm, ⟨21, _⟩ => ⟨S1x11264, .f32⟩
  | .hbm, ⟨22, _⟩ => ⟨S4096x11264, .f32⟩
  | .hbm, ⟨23, _⟩ => ⟨S4096x11264, .f32⟩
  | .hbm, ⟨24, _⟩ => ⟨S4096x11264, .f32⟩
  | .hbm, ⟨25, _⟩ => ⟨S1x11264, .f32⟩
  | .hbm, ⟨26, _⟩ => ⟨S11264, .f32⟩
  | .hbm, ⟨27, _⟩ => ⟨S4096x11264, .f32⟩
  | .hbm, ⟨28, _⟩ => ⟨S1x11264, .f32⟩
  | .hbm, ⟨29, _⟩ => ⟨S4096x11264, .f32⟩
  | .hbm, ⟨30, _⟩ => ⟨S4096x11264, .f32⟩
  | .hbm, ⟨31, _⟩ => ⟨S4096x11264, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Loss.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x128, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== LossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x128, .f32⟩
  | .hbm, ⟨69, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Disc.lean ====
abbrev S64x64 : Shape := ⟨2, ![64, 64]⟩
abbrev S64x1 : Shape := ⟨2, ![64, 1]⟩

abbrev nBuf : Space → Nat
  | .hbm => 7
  | .vmem => 7
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x1, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== DiscRefIdeal.lean ====
abbrev S64x64 : Shape := ⟨2, ![64, 64]⟩
abbrev S64x1 : Shape := ⟨2, ![64, 1]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x1, .f32⟩
  | .hbm, ⟨3, _⟩ => ⟨S_, .f32⟩
  | .hbm, ⟨4, _⟩ => ⟨S64x64, .f32⟩
  | .hbm, ⟨5, _⟩ => ⟨S64x64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== AdamIn.lean ====
abbrev S2048x2304 : Shape := ⟨2, ![2048, 2304]⟩
abbrev S2x2048x1152 : Shape := ⟨3, ![2, 2048, 1152]⟩
abbrev S256x1152 : Shape := ⟨2, ![256, 1152]⟩
abbrev S1x256x1152 : Shape := ⟨3, ![1, 256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S2048x2304, .f32⟩
  | .hbm, ⟨1, _⟩ => ⟨S2x2048x1152, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .local _ .vmem, ⟨0, _⟩ => ⟨S256x1152, .f32⟩
  | .local _ .vmem, ⟨1, _⟩ => ⟨S256x1152, .f32⟩
  | .local _ .vmem, ⟨2, _⟩ => ⟨S1x256x1152, .f32⟩
  | .local _ .vmem, ⟨3, _⟩ => ⟨S1x256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInIdeal.lean ====
abbrev S2048x2304 : Shape := ⟨2, ![2048, 2304]⟩
abbrev S2x2048x1152 : Shape := ⟨3, ![2, 2048, 1152]⟩
abbrev S256x1152 : Shape := ⟨2, ![256, 1152]⟩
abbrev S1x256x1152 : Shape := ⟨3, ![1, 256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S2048x2304, .f32⟩
  | .hbm, ⟨1, _⟩ => ⟨S2x2048x1152, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .local _ .vmem, ⟨0, _⟩ => ⟨S256x1152, .f32⟩
  | .local _ .vmem, ⟨1, _⟩ => ⟨S256x1152, .f32⟩
  | .local _ .vmem, ⟨2, _⟩ => ⟨S1x256x1152, .f32⟩
  | .local _ .vmem, ⟨3, _⟩ => ⟨S1x256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S2048x2304 : Shape := ⟨2, ![2048, 2304]⟩
abbrev S2x2048x1152 : Shape := ⟨3, ![2, 2048, 1152]⟩
abbrev S2048x2x1152 : Shape := ⟨3, ![2048, 2, 1152]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x2304, .f32⟩
  | .hbm, ⟨1, _⟩ => ⟨S2x2048x1152, .f32⟩
  | .hbm, ⟨2, _⟩ => ⟨S2048x2304, .f32⟩
  | .hbm, ⟨3, _⟩ => ⟨S2048x2304, .f32⟩
  | .hbm, ⟨4, _⟩ => ⟨S2048x2x1152, .f32⟩
  | .hbm, ⟨5, _⟩ => ⟨S2048x2304, .f32⟩
  | .hbm, ⟨6, _⟩ => ⟨S_, .f32⟩
  | .hbm, ⟨7, _⟩ => ⟨S2048x2304, .f32⟩
  | .hbm, ⟨8, _⟩ => ⟨S2048x2304, .f32⟩
  | .hbm, ⟨9, _⟩ => ⟨S_, .f32⟩
  | .hbm, ⟨10, _⟩ => ⟨S2048x2304, .f32⟩
  | .hbm, ⟨11, _⟩ => ⟨S2048x2304, .f32⟩
  | .hbm, ⟨12, _⟩ => ⟨S2048x2304, .f32⟩
  | .hbm, ⟨13, _⟩ => ⟨S_, .f32⟩
  | .hbm, ⟨14, _⟩ => ⟨S2048x2304, .f32⟩
  | .hbm, ⟨15, _⟩ => ⟨S2048x2304, .f32⟩
  | .hbm, ⟨16, _⟩ => ⟨S2048x2304, .f32⟩
  | .hbm, ⟨17, _⟩ => ⟨S_, .f32⟩
  | .hbm, ⟨18, _⟩ => ⟨S2048x2304, .f32⟩
  | .hbm, ⟨19, _⟩ => ⟨S2048x2304, .f32⟩
  | .hbm, ⟨20, _⟩ => ⟨S2048x2304, .f32⟩
  | .hbm, ⟨21, _⟩ => ⟨S_, .f32⟩
  | .hbm, ⟨22, _⟩ => ⟨S2048x2304, .f32⟩
  | .hbm, ⟨23, _⟩ => ⟨S2048x2304, .f32⟩
  | .hbm, ⟨24, _⟩ => ⟨S_, .f32⟩
  | .hbm, ⟨25, _⟩ => ⟨S2048x2304, .f32⟩
  | .hbm, ⟨26, _⟩ => ⟨S2048x2304, .f32⟩
  | .hbm, ⟨27, _⟩ => ⟨S2048x2304, .f32⟩
  | .hbm, ⟨28, _⟩ => ⟨S_, .f32⟩
  | .hbm, ⟨29, _⟩ => ⟨S2048x2304, .f32⟩
  | .hbm, ⟨30, _⟩ => ⟨S2048x2304, .f32⟩
  | .hbm, ⟨31, _⟩ => ⟨S2048x2304, .f32⟩
  | .hbm, ⟨32, _⟩ => ⟨S_, .f32⟩
  | .hbm, ⟨33, _⟩ => ⟨S2048x2304, .f32⟩
  | .hbm, ⟨34, _⟩ => ⟨S2048x2304, .f32⟩
  | .hbm, ⟨35, _⟩ => ⟨S2048x2304, .f32⟩
  | .hbm, ⟨36, _⟩ => ⟨S_, .f32⟩
  | .hbm, ⟨37, _⟩ => ⟨S2048x2304, .f32⟩
  | .hbm, ⟨38, _⟩ => ⟨S2048x2304, .f32⟩
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamGlu.lean ====
abbrev S256x1024 : Shape := ⟨2, ![256, 1024]⟩
abbrev S2x256x512 : Shape := ⟨3, ![2, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S2x256x512, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S1x256x512, .f32⟩
  | .local _ .vmem, ⟨3, _⟩ => ⟨S1x256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamGluIdeal.lean ====
abbrev S256x1024 : Shape := ⟨2, ![256, 1024]⟩
abbrev S2x256x512 : Shape := ⟨3, ![2, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S2x256x512, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S1x256x512, .f32⟩
  | .local _ .vmem, ⟨3, _⟩ => ⟨S1x256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamGluRefIdeal.lean ====
abbrev S256x1024 : Shape := ⟨2, ![256, 1024]⟩
abbrev S2x256x512 : Shape := ⟨3, ![2, 256, 512]⟩
abbrev S256x2x512 : Shape := ⟨3, ![256, 2, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2x256x512, .f32⟩
  | .hbm, ⟨2, _⟩ => ⟨S256x1024, .f32⟩
  | .hbm, ⟨3, _⟩ => ⟨S256x1024, .f32⟩
  | .hbm, ⟨4, _⟩ => ⟨S256x2x512, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamPs5.lean ====
abbrev S1024x512 : Shape := ⟨2, ![1024, 512]⟩
abbrev S2x1024x256 : Shape := ⟨3, ![2, 1024, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S2x1024x256, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x256, .f32⟩
  | .local _ .vmem, ⟨1, _⟩ => ⟨S256x256, .f32⟩
  | .local _ .vmem, ⟨2, _⟩ => ⟨S1x256x256, .f32⟩
  | .local _ .vmem, ⟨3, _⟩ => ⟨S1x256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamPs5Ideal.lean ====
abbrev S1024x512 : Shape := ⟨2, ![1024, 512]⟩
abbrev S2x1024x256 : Shape := ⟨3, ![2, 1024, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S2x1024x256, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x256, .f32⟩
  | .local _ .vmem, ⟨1, _⟩ => ⟨S256x256, .f32⟩
  | .local _ .vmem, ⟨2, _⟩ => ⟨S1x256x256, .f32⟩
  | .local _ .vmem, ⟨3, _⟩ => ⟨S1x256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamPs5RefIdeal.lean ====
abbrev S1024x512 : Shape := ⟨2, ![1024, 512]⟩
abbrev S2x1024x256 : Shape := ⟨3, ![2, 1024, 256]⟩
abbrev S1024x2x256 : Shape := ⟨3, ![1024, 2, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x1024x256, .f32⟩
  | .hbm, ⟨2, _⟩ => ⟨S1024x512, .f32⟩
  | .hbm, ⟨3, _⟩ => ⟨S1024x512, .f32⟩
  | .hbm, ⟨4, _⟩ => ⟨S1024x2x256, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamOut.lean ====
abbrev S512x2048 : Shape := ⟨2, ![512, 2048]⟩
abbrev S2x512x1024 : Shape := ⟨3, ![2, 512, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S2x512x1024, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutIdeal.lean ====
abbrev S512x2048 : Shape := ⟨2, ![512, 2048]⟩
abbrev S2x512x1024 : Shape := ⟨3, ![2, 512, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S2x512x1024, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S512x2048 : Shape := ⟨2, ![512, 2048]⟩
abbrev S2x512x1024 : Shape := ⟨3, ![2, 512, 1024]⟩
abbrev S512x2x1024 : Shape := ⟨3, ![512, 2, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2x512x1024, .f32⟩
  | .hbm, ⟨2, _⟩ => ⟨S512x2048, .f32⟩
  | .hbm, ⟨3, _⟩ => ⟨S512x2048, .f32⟩
  | .hbm, ⟨4, _⟩ => ⟨S512x2x1024, .f32⟩
  | .hbm, ⟨5, _⟩ => ⟨S512x2048, .f32⟩
  | .hbm, ⟨6, _⟩ => ⟨S_, .f32⟩
  | .hbm, ⟨7, _⟩ => ⟨S512x2048, .f32⟩
  | .hbm, ⟨8, _⟩ => ⟨S512x2048, .f32⟩
  | .hbm, ⟨9, _⟩ => ⟨S_, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamUp.lean ====
abbrev S2048x2816 : Shape := ⟨2, ![2048, 2816]⟩
abbrev S2x2048x1408 : Shape := ⟨3, ![2, 2048, 1408]⟩
abbrev S256x1408 : Shape := ⟨2, ![256, 1408]⟩
abbrev S1x256x1408 : Shape := ⟨3, ![1, 256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2x2048x1408, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S256x1408, .f32⟩
  | .local _ .vmem, ⟨1, _⟩ => ⟨S256x1408, .f32⟩
  | .local _ .vmem, ⟨2, _⟩ => ⟨S1x256x1408, .f32⟩
  | .local _ .vmem, ⟨3, _⟩ => ⟨S1x256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpIdeal.lean ====
abbrev S2048x2816 : Shape := ⟨2, ![2048, 2816]⟩
abbrev S2x2048x1408 : Shape := ⟨3, ![2, 2048, 1408]⟩
abbrev S256x1408 : Shape := ⟨2, ![256, 1408]⟩
abbrev S1x256x1408 : Shape := ⟨3, ![1, 256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2x2048x1408, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S256x1408, .f32⟩
  | .local _ .vmem, ⟨1, _⟩ => ⟨S256x1408, .f32⟩
  | .local _ .vmem, ⟨2, _⟩ => ⟨S1x256x1408, .f32⟩
  | .local _ .vmem, ⟨3, _⟩ => ⟨S1x256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpRefIdeal.lean ====
abbrev S2048x2816 : Shape := ⟨2, ![2048, 2816]⟩
abbrev S2x2048x1408 : Shape := ⟨3, ![2, 2048, 1408]⟩
abbrev S2048x2x1408 : Shape := ⟨3, ![2048, 2, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2x2048x1408, .f32⟩
  | .hbm, ⟨2, _⟩ => ⟨S2048x2816, .f32⟩
  | .hbm, ⟨3, _⟩ => ⟨S2048x2816, .f32⟩
  | .hbm, ⟨4, _⟩ => ⟨S2048x2x1408, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S_, .f32⟩
  | .hbm, ⟨22, _⟩ => ⟨S2048x2816, .f32⟩
  | .hbm, ⟨23, _⟩ => ⟨S2048x2816, .f32⟩
  | .hbm, ⟨24, _⟩ => ⟨S_, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamDown.lean ====
abbrev S1408x2048 : Shape := ⟨2, ![1408, 2048]⟩
abbrev S2x1408x1024 : Shape := ⟨3, ![2, 1408, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S2x1408x1024, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x1024, .f32⟩
  | .local _ .vmem, ⟨1, _⟩ => ⟨S176x1024, .f32⟩
  | .local _ .vmem, ⟨2, _⟩ => ⟨S1x176x1024, .f32⟩
  | .local _ .vmem, ⟨3, _⟩ => ⟨S1x176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownRefIdeal.lean ====
abbrev S1408x2048 : Shape := ⟨2, ![1408, 2048]⟩
abbrev S2x1408x1024 : Shape := ⟨3, ![2, 1408, 1024]⟩
abbrev S1408x2x1024 : Shape := ⟨3, ![1408, 2, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S2x1408x1024, .f32⟩
  | .hbm, ⟨2, _⟩ => ⟨S1408x2048, .f32⟩
  | .hbm, ⟨3, _⟩ => ⟨S1408x2048, .f32⟩
  | .hbm, ⟨4, _⟩ => ⟨S1408x2x1024, .f32⟩
  | .hbm, ⟨5, _⟩ => ⟨S1408x2048, .f32⟩
  | .hbm, ⟨6, _⟩ => ⟨S_, .f32⟩
  | .hbm, ⟨7, _⟩ => ⟨S1408x2048, .f32⟩
  | .hbm, ⟨8, _⟩ => ⟨S1408x2048, .f32⟩
  | .hbm, ⟨9, _⟩ => ⟨S_, .f32⟩
  | .hbm, ⟨10, _⟩ => ⟨S1408x2048, .f32⟩
  | .hbm, ⟨11, _⟩ => ⟨S1408x2048, .f32⟩
  | .hbm, ⟨12, _⟩ => ⟨S1408x2048, .f32⟩
  | .hbm, ⟨13, _⟩ => ⟨S_, .f32⟩
  | .hbm, ⟨14, _⟩ => ⟨S1408x2048, .f32⟩
  | .hbm, ⟨15, _⟩ => ⟨S1408x2048, .f32⟩
  | .hbm, ⟨16, _⟩ => ⟨S1408x2048, .f32⟩
  | .hbm, ⟨17, _⟩ => ⟨S_, .f32⟩
  | .hbm, ⟨18, _⟩ => ⟨S1408x2048, .f32⟩
  | .hbm, ⟨19, _⟩ => ⟨S1408x2048, .f32⟩
  | .hbm, ⟨20, _⟩ => ⟨S1408x2048, .f32⟩
  | .hbm, ⟨21, _⟩ => ⟨S_, .f32⟩
  | .hbm, ⟨22, _⟩ => ⟨S1408x2048, .f32⟩
  | .hbm, ⟨23, _⟩ => ⟨S1408x2048, .f32⟩
  | .hbm, ⟨24, _⟩ => ⟨S_, .f32⟩
  | .hbm, ⟨25, _⟩ => ⟨S1408x2048, .f32⟩
  | .hbm, ⟨26, _⟩ => ⟨S1408x2048, .f32⟩
  | .hbm, ⟨27, _⟩ => ⟨S1408x2048, .f32⟩
  | .hbm, ⟨28, _⟩ => ⟨S_, .f32⟩
  | .hbm, ⟨29, _⟩ => ⟨S1408x2048, .f32⟩
  | .hbm, ⟨30, _⟩ => ⟨S1408x2048, .f32⟩
  | .hbm, ⟨31, _⟩ => ⟨S1408x2048, .f32⟩
  | .hbm, ⟨32, _⟩ => ⟨S_, .f32⟩
  | .hbm, ⟨33, _⟩ => ⟨S1408x2048, .f32⟩
  | .hbm, ⟨34, _⟩ => ⟨S1408x2048, .f32⟩
  | .hbm, ⟨35, _⟩ => ⟨S1408x2048, .f32⟩
  | .hbm, ⟨36, _⟩ => ⟨S_, .f32⟩
  | .hbm, ⟨37, _⟩ => ⟨S1408x2048, .f32⟩
  | .hbm, ⟨38, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamConv.lean ====
abbrev S3x2816 : Shape := ⟨2, ![3, 2816]⟩

abbrev nBuf : Space → Nat
  | .hbm => 7
  | .vmem => 7
  | .smem => 0
  | _ => 0

abbrev bufTy : (tb : Table) → Fin (tcTables nBuf tb) → BufTy
  | .hbm, ⟨0, _⟩ => ⟨S3x2816, .f32⟩
  | .hbm, ⟨1, _⟩ => ⟨S3x2816, .f32⟩
  | .hbm, ⟨2, _⟩ => ⟨S3x2816, .f32⟩
  | .hbm, ⟨3, _⟩ => ⟨S3x2816, .f32⟩
  | .hbm, ⟨4, _⟩ => ⟨S3x2816, .f32⟩
  | .hbm, ⟨5, _⟩ => ⟨S3x2816, .f32⟩
  | .hbm, ⟨6, _⟩ => ⟨S3x2816, .f32⟩
  | .local _ .vmem, ⟨0, _⟩ => ⟨S3x2816, .f32⟩
  | .local _ .vmem, ⟨1, _⟩ => ⟨S3x2816, .f32⟩
  | .local _ .vmem, ⟨2, _⟩ => ⟨S3x2816, .f32⟩
  | .local _ .vmem, ⟨3, _⟩ => ⟨S3x2816, .f32⟩
  | .local _ .vmem, ⟨4, _⟩ => ⟨S3x2816, .f32⟩
  | .local _ .vmem, ⟨5, _⟩ => ⟨S3x2816, .f32⟩
  | .local _ .vmem, ⟨6, _⟩ => ⟨S3x2816, .f32⟩
  | _, _ => ⟨S3x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S3x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== AdamConvRefIdeal.lean ====
abbrev S3x2816 : Shape := ⟨2, ![3, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x2816, .f32⟩
  | .hbm, ⟨1, _⟩ => ⟨S3x2816, .f32⟩
  | .hbm, ⟨2, _⟩ => ⟨S3x2816, .f32⟩
  | .hbm, ⟨3, _⟩ => ⟨S3x2816, .f32⟩
  | .hbm, ⟨4, _⟩ => ⟨S_, .f32⟩
  | .hbm, ⟨5, _⟩ => ⟨S3x2816, .f32⟩
  | .hbm, ⟨6, _⟩ => ⟨S3x2816, .f32⟩
  | .hbm, ⟨7, _⟩ => ⟨S_, .f32⟩
  | .hbm, ⟨8, _⟩ => ⟨S3x2816, .f32⟩
  | .hbm, ⟨9, _⟩ => ⟨S3x2816, .f32⟩
  | .hbm, ⟨10, _⟩ => ⟨S3x2816, .f32⟩
  | .hbm, ⟨11, _⟩ => ⟨S_, .f32⟩
  | .hbm, ⟨12, _⟩ => ⟨S3x2816, .f32⟩
  | .hbm, ⟨13, _⟩ => ⟨S3x2816, .f32⟩
  | .hbm, ⟨14, _⟩ => ⟨S3x2816, .f32⟩
  | .hbm, ⟨15, _⟩ => ⟨S_, .f32⟩
  | .hbm, ⟨16, _⟩ => ⟨S3x2816, .f32⟩
  | .hbm, ⟨17, _⟩ => ⟨S3x2816, .f32⟩
  | .hbm, ⟨18, _⟩ => ⟨S3x2816, .f32⟩
  | .hbm, ⟨19, _⟩ => ⟨S_, .f32⟩
  | .hbm, ⟨20, _⟩ => ⟨S3x2816, .f32⟩
  | .hbm, ⟨21, _⟩ => ⟨S3x2816, .f32⟩
  | .hbm, ⟨22, _⟩ => ⟨S_, .f32⟩
  | .hbm, ⟨23, _⟩ => ⟨S3x2816, .f32⟩
  | .hbm, ⟨24, _⟩ => ⟨S3x2816, .f32⟩
  | .hbm, ⟨25, _⟩ => ⟨S3x2816, .f32⟩
  | .hbm, ⟨26, _⟩ => ⟨S_, .f32⟩
  | .hbm, ⟨27, _⟩ => ⟨S3x2816, .f32⟩
  | .hbm, ⟨28, _⟩ => ⟨S3x2816, .f32⟩
  | .hbm, ⟨29, _⟩ => ⟨S3x2816, .f32⟩
  | .hbm, ⟨30, _⟩ => ⟨S_, .f32⟩
  | .hbm, ⟨31, _⟩ => ⟨S3x2816, .f32⟩
  | .hbm, ⟨32, _⟩ => ⟨S3x2816, .f32⟩
  | .hbm, ⟨33, _⟩ => ⟨S3x2816, .f32⟩
  | .hbm, ⟨34, _⟩ => ⟨S_, .f32⟩
  | .hbm, ⟨35, _⟩ => ⟨S3x2816, .f32⟩
  | .hbm, ⟨36, _⟩ => ⟨S3x2816, .f32⟩
  | _, _ => ⟨S3x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Bounds.lean ====
abbrev S2x1024 : Shape := ⟨2, ![2, 1024]⟩
abbrev S1x1024 : Shape := ⟨2, ![1, 1024]⟩
abbrev S1024 : Shape := ⟨1, ![1024]⟩

abbrev nBuf : Space → Nat
  | .hbm => 2
  | .vmem => 2
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .local _ .vmem, ⟨0, _⟩ => ⟨S2x1024, .f32⟩
  | .local _ .vmem, ⟨1, _⟩ => ⟨S1x1024, .f32⟩
  | _, _ => ⟨S2x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BoundsRefIdeal.lean ====
abbrev S2x1024 : Shape := ⟨2, ![2, 1024]⟩
abbrev S_ : Shape := ⟨0, ![]⟩
abbrev S1024 : Shape := ⟨1, ![1024]⟩
abbrev S1x1024 : Shape := ⟨2, ![1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S2x1024, .f32⟩
  | .hbm, ⟨14, _⟩ => ⟨S2x1024, .f32⟩
  | .hbm, ⟨15, _⟩ => ⟨S1x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== SumSmall.lean ====
abbrev S8x2544x128 : Shape := ⟨3, ![8, 2544, 128]⟩
abbrev S2544x128 : Shape := ⟨2, ![2544, 128]⟩
abbrev S8x48x128 : Shape := ⟨3, ![8, 48, 128]⟩
abbrev S48x128 : Shape := ⟨2, ![48, 128]⟩
abbrev S1x48x128 : Shape := ⟨3, ![1, 48, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2544x128, .f32⟩
  | .hbm, ⟨1, _⟩ => ⟨S2544x128, .f32⟩
  | .local _ .vmem, ⟨0, _⟩ => ⟨S8x48x128, .f32⟩
  | .local _ .vmem, ⟨1, _⟩ => ⟨S8x48x128, .f32⟩
  | .local _ .vmem, ⟨2, _⟩ => ⟨S48x128, .f32⟩
  | .local _ .vmem, ⟨3, _⟩ => ⟨S48x128, .f32⟩
  | _, _ => ⟨S8x2544x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 53], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S8x48x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S48x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumSmallIdeal.lean ====
abbrev S8x2544x128 : Shape := ⟨3, ![8, 2544, 128]⟩
abbrev S2544x128 : Shape := ⟨2, ![2544, 128]⟩
abbrev S8x48x128 : Shape := ⟨3, ![8, 48, 128]⟩
abbrev S48x128 : Shape := ⟨2, ![48, 128]⟩
abbrev S1x48x128 : Shape := ⟨3, ![1, 48, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2544x128, .f32⟩
  | .hbm, ⟨1, _⟩ => ⟨S2544x128, .f32⟩
  | .local _ .vmem, ⟨0, _⟩ => ⟨S8x48x128, .f32⟩
  | .local _ .vmem, ⟨1, _⟩ => ⟨S8x48x128, .f32⟩
  | .local _ .vmem, ⟨2, _⟩ => ⟨S48x128, .f32⟩
  | .local _ .vmem, ⟨3, _⟩ => ⟨S48x128, .f32⟩
  | _, _ => ⟨S8x2544x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 53], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S8x48x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S48x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumSmallRefIdeal.lean ====
abbrev S8x2544x128 : Shape := ⟨3, ![8, 2544, 128]⟩
abbrev S_ : Shape := ⟨0, ![]⟩
abbrev S2544x128 : Shape := ⟨2, ![2544, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2544x128, .f32⟩
  | .hbm, ⟨1, _⟩ => ⟨S_, .f32⟩
  | .hbm, ⟨2, _⟩ => ⟨S2544x128, .f32⟩
  | _, _ => ⟨S8x2544x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumNorm.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .local _ .vmem, ⟨0, _⟩ => ⟨S8x16x128, .f32⟩
  | .local _ .vmem, ⟨1, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== SumNormRefIdeal.lean ====
abbrev S8x16x128 : Shape := ⟨3, ![8, 16, 128]⟩
abbrev S_ : Shape := ⟨0, ![]⟩
abbrev S16x128 : Shape := ⟨2, ![16, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S_, .f32⟩
  | .hbm, ⟨2, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Conv.lean ====
abbrev S4096x11264 : Shape := ⟨2, ![4096, 11264]⟩
abbrev S4096x5632 : Shape := ⟨2, ![4096, 5632]⟩
abbrev S3x11264 : Shape := ⟨2, ![3, 11264]⟩
abbrev S1x11264 : Shape := ⟨2, ![1, 11264]⟩
abbrev S256x1408 : Shape := ⟨2, ![256, 1408]⟩
abbrev S16x1408 : Shape := ⟨2, ![16, 1408]⟩
abbrev S3x1408 : Shape := ⟨2, ![3, 1408]⟩
abbrev S1x1408 : Shape := ⟨2, ![1, 1408]⟩
abbrev S256x2816 : Shape := ⟨2, ![256, 2816]⟩
abbrev S3x2816 : Shape := ⟨2, ![3, 2816]⟩
abbrev S1x2816 : Shape := ⟨2, ![1, 2816]⟩
abbrev S272x1408 : Shape := ⟨2, ![272, 1408]⟩
abbrev S1408 : Shape := ⟨1, ![1408]⟩

abbrev nBuf : Space → Nat
  | .hbm => 7
  | .vmem => 30
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .bf16⟩
  | .hbm, ⟨2, _⟩ => ⟨S3x11264, .f32⟩
  | .hbm, ⟨3, _⟩ => ⟨S1x11264, .f32⟩
  | .hbm, ⟨4, _⟩ => ⟨S4096x11264, .bf16⟩
  | .hbm, ⟨5, _⟩ => ⟨S3x11264, .f32⟩
  | .hbm, ⟨6, _⟩ => ⟨S1x11264, .f32⟩
  | .local _ .vmem, ⟨0, _⟩ => ⟨S256x1408, .bf16⟩
  | .local _ .vmem, ⟨1, _⟩ => ⟨S256x1408, .bf16⟩
  | .local _ .vmem, ⟨2, _⟩ => ⟨S16x1408, .bf16⟩
  | .local _ .vmem, ⟨3, _⟩ => ⟨S16x1408, .bf16⟩
  | .local _ .vmem, ⟨4, _⟩ => ⟨S16x1408, .bf16⟩
  | .local _ .vmem, ⟨5, _⟩ => ⟨S16x1408, .bf16⟩
  | .local _ .vmem, ⟨6, _⟩ => ⟨S256x1408, .bf16⟩
  | .local _ .vmem, ⟨7, _⟩ => ⟨S256x1408, .bf16⟩
  | .local _ .vmem, ⟨8, _⟩ => ⟨S16x1408, .bf16⟩
  | .local _ .vmem, ⟨9, _⟩ => ⟨S16x1408, .bf16⟩
  | .local _ .vmem, ⟨10, _⟩ => ⟨S16x1408, .bf16⟩
  | .local _ .vmem, ⟨11, _⟩ => ⟨S16x1408, .bf16⟩
  | .local _ .vmem, ⟨12, _⟩ => ⟨S3x1408, .f32⟩
  | .local _ .vmem, ⟨13, _⟩ => ⟨S3x1408, .f32⟩
  | .local _ .vmem, ⟨14, _⟩ => ⟨S3x1408, .f32⟩
  | .local _ .vmem, ⟨15, _⟩ => ⟨S3x1408, .f32⟩
  | .local _ .vmem, ⟨16, _⟩ => ⟨S1x1408, .f32⟩
  | .local _ .vmem, ⟨17, _⟩ => ⟨S1x1408, .f32⟩
  | .local _ .vmem, ⟨18, _⟩ => ⟨S1x1408, .f32⟩
  | .local _ .vmem, ⟨19, _⟩ => ⟨S1x1408, .f32⟩
  | .local _ .vmem, ⟨20, _⟩ => ⟨S256x1408, .bf16⟩
  | .local _ .vmem, ⟨21, _⟩ => ⟨S256x1408, .bf16⟩
  | .local _ .vmem, ⟨22, _⟩ => ⟨S16x1408, .bf16⟩
  | .local _ .vmem, ⟨23, _⟩ => ⟨S16x1408, .bf16⟩
  | .local _ .vmem, ⟨24, _⟩ => ⟨S256x2816, .bf16⟩
  | .local _ .vmem, ⟨25, _⟩ => ⟨S256x2816, .bf16⟩
  | .local _ .vmem, ⟨26, _⟩ => ⟨S3x2816, .f32⟩
  | .local _ .vmem, ⟨27, _⟩ => ⟨S3x2816, .f32⟩
  | .local _ .vmem, ⟨28, _⟩ => ⟨S1x2816, .f32⟩
  | .local _ .vmem, ⟨29, _⟩ => ⟨S1x2816, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c2_i32 : BitVec 32 := 2#32
  let v3 : BitVec 32 := Scalar.muli c2_i32 arg0
  let c0_i32 : BitVec 32 := 0#32
  let v4 : BitVec 32 := Scalar.addi v3 c0_i32
  let c0_i32_0 : BitVec 32 := 0#32
  ![v2.toNat, v4.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.muli c2_i32 arg0
  let c0_i32_0 : BitVec 32 := 0#32
  let v4 : BitVec 32 := Scalar.addi v3 c0_i32_0
  let c0_i32_1 : BitVec 32 := 0#32
  ![v2.toNat, v4.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c2_i32 : BitVec 32 := 2#32
  let v3 : BitVec 32 := Scalar.muli c2_i32 arg0
  let c1_i32_0 : BitVec 32 := 1#32
  let v4 : BitVec 32 := Scalar.addi v3 c1_i32_0
  let c0_i32 : BitVec 32 := 0#32
  ![v2.toNat, v4.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.muli c2_i32 arg0
  let c1_i32_0 : BitVec 32 := 1#32
  let v4 : BitVec 32 := Scalar.addi v3 c1_i32_0
  let c0_i32_1 : BitVec 32 := 0#32
  ![v2.toNat, v4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S3x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ConvRefIdeal.lean ====
abbrev S4096x11264 : Shape := ⟨2, ![4096, 11264]⟩
abbrev S4096x5632 : Shape := ⟨2, ![4096, 5632]⟩
abbrev S3x11264 : Shape := ⟨2, ![3, 11264]⟩
abbrev S1x11264 : Shape := ⟨2, ![1, 11264]⟩
abbrev S4096x4x2x1408 : Shape := ⟨4, ![4096, 4, 2, 1408]⟩
abbrev S4096x2x4x1408 : Shape := ⟨4, ![4096, 2, 4, 1408]⟩
abbrev S_ : Shape := ⟨0, ![]⟩
abbrev S2x11264 : Shape := ⟨2, ![2, 11264]⟩
abbrev S4098x11264 : Shape := ⟨2, ![4098, 11264]⟩
abbrev S11264 : Shape := ⟨1, ![11264]⟩
abbrev S3x2x4x1408 : Shape := ⟨4, ![3, 2, 4, 1408]⟩
abbrev S3x4x2x1408 : Shape := ⟨4, ![3, 4, 2, 1408]⟩
abbrev S1x2x4x1408 : Shape := ⟨4, ![1, 2, 4, 1408]⟩
abbrev S1x4x2x1408 : Shape := ⟨4, ![1, 4, 2, 1408]⟩

abbrev nBuf : Space → Nat
  | .hbm => 117
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .bf16⟩
  | .hbm, ⟨2, _⟩ => ⟨S3x11264, .f32⟩
  | .hbm, ⟨3, _⟩ => ⟨S1x11264, .f32⟩
  | .hbm, ⟨4, _⟩ => ⟨S4096x11264, .f32⟩
  | .hbm, ⟨5, _⟩ => ⟨S4096x4x2x1408, .f32⟩
  | .hbm, ⟨6, _⟩ => ⟨S4096x2x4x1408, .f32⟩
  | .hbm, ⟨7, _⟩ => ⟨S4096x11264, .f32⟩
  | .hbm, ⟨8, _⟩ => ⟨S_, .f32⟩
  | .hbm, ⟨9, _⟩ => ⟨S2x11264, .f32⟩
  | .hbm, ⟨10, _⟩ => ⟨S4098x11264, .f32⟩
  | .hbm, ⟨11, _⟩ => ⟨S_, .f32⟩
  | .hbm, ⟨12, _⟩ => ⟨S2x11264, .f32⟩
  | .hbm, ⟨13, _⟩ => ⟨S1x11264, .f32⟩
  | .hbm, ⟨14, _⟩ => ⟨S11264, .f32⟩
  | .hbm, ⟨15, _⟩ => ⟨S4096x11264, .f32⟩
  | .hbm, ⟨16, _⟩ => ⟨S1x11264, .f32⟩
  | .hbm, ⟨17, _⟩ => ⟨S4096x11264, .f32⟩
  | .hbm, ⟨18, _⟩ => ⟨S4096x11264, .f32⟩
  | .hbm, ⟨19, _⟩ => ⟨S4096x11264, .f32⟩
  | .hbm, ⟨20, _⟩ => ⟨S4096x11264, .f32⟩
  | .hbm, ⟨21, _⟩ => ⟨S1x11264, .f32⟩
  | .hbm, ⟨22, _⟩ => ⟨S11264, .f32⟩
  | .hbm, ⟨23, _⟩ => ⟨S4096x11264, .f32⟩
  | .hbm, ⟨24, _⟩ => ⟨S1x11264, .f32⟩
  | .hbm, ⟨25, _⟩ => ⟨S4096x11264, .f32⟩
  | .hbm, ⟨26, _⟩ => ⟨S4096x11264, .f32⟩
  | .hbm, ⟨27, _⟩ => ⟨S4096x11264, .f32⟩
  | .hbm, ⟨28, _⟩ => ⟨S1x11264, .f32⟩
  | .hbm, ⟨29, _⟩ => ⟨S11264, .f32⟩
  | .hbm, ⟨30, _⟩ => ⟨S4096x11264, .f32⟩
  | .hbm, ⟨31, _⟩ => ⟨S1x11264, .f32⟩
  | .hbm, ⟨32, _⟩ => ⟨S4096x11264, .f32⟩
  | .hbm, ⟨33, _⟩ => ⟨S4096x11264, .f32⟩
  | .hbm, ⟨34, _⟩ => ⟨S4096x11264, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S_, .f32⟩
  | .hbm, ⟨43, _⟩ => ⟨S4096x5632, .f32⟩
  | .hbm, ⟨44, _⟩ => ⟨S4096x5632, .f32⟩
  | .hbm, ⟨45, _⟩ => ⟨S_, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x5632, .f32⟩
  | .hbm, ⟨56, _⟩ => ⟨S4096x5632, .f32⟩
  | .hbm, ⟨57, _⟩ => ⟨S4096x5632, .f32⟩
  | .hbm, ⟨58, _⟩ => ⟨S4096x11264, .f32⟩
  | .hbm, ⟨59, _⟩ => ⟨S4096x11264, .f32⟩
  | .hbm, ⟨60, _⟩ => ⟨S4096x11264, .f32⟩
  | .hbm, ⟨61, _⟩ => ⟨S4096x11264, .f32⟩
  | .hbm, ⟨62, _⟩ => ⟨S_, .f32⟩
  | .hbm, ⟨63, _⟩ => ⟨S11264, .f32⟩
  | .hbm, ⟨64, _⟩ => ⟨S1x11264, .f32⟩
  | .hbm, ⟨65, _⟩ => ⟨S_, .f32⟩
  | .hbm, ⟨66, _⟩ => ⟨S11264, .f32⟩
  | .hbm, ⟨67, _⟩ => ⟨S_, .f32⟩
  | .hbm, ⟨68, _⟩ => ⟨S4098x11264, .f32⟩
  | .hbm, ⟨69, _⟩ => ⟨S1x11264, .f32⟩
  | .hbm, ⟨70, _⟩ => ⟨S_, .f32⟩
  | .hbm, ⟨71, _⟩ => ⟨S3x11264, .f32⟩
  | .hbm, ⟨72, _⟩ => ⟨S4096x11264, .f32⟩
  | .hbm, ⟨73, _⟩ => ⟨S4096x11264, .f32⟩
  | .hbm, ⟨74, _⟩ => ⟨S4096x11264, .f32⟩
  | .hbm, ⟨75, _⟩ => ⟨S_, .f32⟩
  | .hbm, ⟨76, _⟩ => ⟨S11264, .f32⟩
  | .hbm, ⟨77, _⟩ => ⟨S1x11264, .f32⟩
  | .hbm, ⟨78, _⟩ => ⟨S_, .f32⟩
  | .hbm, ⟨79, _⟩ => ⟨S11264, .f32⟩
  | .hbm, ⟨80, _⟩ => ⟨S_, .f32⟩
  | .hbm, ⟨81, _⟩ => ⟨S4098x11264, .f32⟩
  | .hbm, ⟨82, _⟩ => ⟨S4098x11264, .f32⟩
  | .hbm, ⟨83, _⟩ => ⟨S1x11264, .f32⟩
  | .hbm, ⟨84, _⟩ => ⟨S_, .f32⟩
  | .hbm, ⟨85, _⟩ => ⟨S3x11264, .f32⟩
  | .hbm, ⟨86, _⟩ => ⟨S3x11264, .f32⟩
  | .hbm, ⟨87, _⟩ => ⟨S_, .f32⟩
  | .hbm, ⟨88, _⟩ => ⟨S11264, .f32⟩
  | .hbm, ⟨89, _⟩ => ⟨S1x11264, .f32⟩
  | .hbm, ⟨90, _⟩ => ⟨S4096x11264, .f32⟩
  | .hbm, ⟨91, _⟩ => ⟨S4096x11264, .f32⟩
  | .hbm, ⟨92, _⟩ => ⟨S4096x11264, .f32⟩
  | .hbm, ⟨93, _⟩ => ⟨S_, .f32⟩
  | .hbm, ⟨94, _⟩ => ⟨S11264, .f32⟩
  | .hbm, ⟨95, _⟩ => ⟨S1x11264, .f32⟩
  | .hbm, ⟨96, _⟩ => ⟨S_, .f32⟩
  | .hbm, ⟨97, _⟩ => ⟨S11264, .f32⟩
  | .hbm, ⟨98, _⟩ => ⟨S_, .f32⟩
  | .hbm, ⟨99, _⟩ => ⟨S4098x11264, .f32⟩
  | .hbm, ⟨100, _⟩ => ⟨S4098x11264, .f32⟩
  | .hbm, ⟨101, _⟩ => ⟨S1x11264, .f32⟩
  | .hbm, ⟨102, _⟩ => ⟨S_, .f32⟩
  | .hbm, ⟨103, _⟩ => ⟨S3x11264, .f32⟩
  | .hbm, ⟨104, _⟩ => ⟨S3x11264, .f32⟩
  | .hbm, ⟨105, _⟩ => ⟨S2x11264, .f32⟩
  | .hbm, ⟨106, _⟩ => ⟨S4096x11264, .f32⟩
  | .hbm, ⟨107, _⟩ => ⟨S4096x2x4x1408, .f32⟩
  | .hbm, ⟨108, _⟩ => ⟨S4096x4x2x1408, .f32⟩
  | .hbm, ⟨109, _⟩ => ⟨S4096x11264, .f32⟩
  | .hbm, ⟨110, _⟩ => ⟨S4096x11264, .bf16⟩
  | .hbm, ⟨111, _⟩ => ⟨S3x2x4x1408, .f32⟩
  | .hbm, ⟨112, _⟩ => ⟨S3x4x2x1408, .f32⟩
  | .hbm, ⟨113, _⟩ => ⟨S3x11264, .f32⟩
  | .hbm, ⟨114, _⟩ => ⟨S1x2x4x1408, .f32⟩
  | .hbm, ⟨115, _⟩ => ⟨S1x4x2x1408, .f32⟩
  | .hbm, ⟨116, _⟩ => ⟨S1x11264, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v31_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v31_1 : Ref sig .tc := ⟨.hbm, 48, rfl⟩
abbrev main_v31_0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_1 : Ref sig .tc := ⟨.hbm, 62, rfl⟩
abbrev main_v41 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩

abbrev nD : Nat := 1
abbrev τ : Topo := Topo.v7x

variable {F : FTy → Type} [FloatOps F]
-- ==== Proof.ConvRows.lean ====
/- The reference of the backward pass of the causal convolution and its gate, element by element. -/
module

public import proofs.«01_k».proof.Defs
public import proofs.«01_k».proof.Proof.Gen.ConvRefIdeal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ConvValue

/-- One element of the convolution: the bias and three products. -/
def tap (b w₂ w₁ w₀ x₂ x₁ x₀ : EReal) : EReal := b + w₂ * x₂ + w₁ * x₁ + w₀ * x₀

theorem tap_congr {b w₂ w₁ w₀ x₂ x₁ x₀ b' w₂' w₁' w₀' x₂' x₁' x₀' : EReal} (hb : b = b') (h₂ : w₂ = w₂') (h₁ : w₁ = w₁') (h₀ : w₀ = w₀')
    (k₂ : x₂ = x₂') (k₁ : x₁ = x₁') (k₀ : x₀ = x₀') : tap b w₂ w₁ w₀ x₂ x₁ x₀ = tap b' w₂' w₁' w₀' x₂' x₁' x₀' := by
  rw [hb, h₂, h₁, h₀, k₂, k₁, k₀]

/-- The logistic function. -/
def logi (g : EReal) : EReal := Ideal.div 1 (1 + Ideal.exp (-g))

/-- The gate's cotangent, from the gate, the value and the cotangent of the gated product. -/
def gateGrad (g v a : EReal) : EReal := a * v * logi g + g * (a * v) * (logi g * (1 - logi g))

/-- The value's cotangent. -/
def valGrad (g a : EReal) : EReal := g * logi g * a

open Cert.ConvRefIdeal Cert.ConvRefIdeal.Gen

/-- The rows in their own column order, two zero rows before them. -/
def padded (u : FVec Ideal S4096x11264 .bf16) : FVec Ideal S4098x11264 .f32 :=
  concatenate S4098x11264 0 [⟨S2x11264, (broadcastInDim S2x11264 ![] bcast_S_S2x11264 (constant S_ .f32 0x00000000#32))⟩, ⟨S4096x11264, (shapeCast _ (transpose S4096x2x4x1408 [0, 2, 1, 3] (shapeCast _ (extf .f32 u bitsLt_bf16_f32) shapeCasts_S4096x11264_S4096x4x2x1408) transposes_S4096x4x2x1408_S4096x2x4x1408_0_2_1_3) shapeCasts_S4096x2x4x1408_S4096x11264)⟩] concatenates_S2x11264_S4096x11264_S4098x11264_d0

/-- The convolution of all rows. -/
def conv (u : FVec Ideal S4096x11264 .bf16) (w : FVec Ideal S3x11264 .f32) (b : FVec Ideal S1x11264 .f32) : FVec Ideal S4096x11264 .f32 :=
  addf (addf (addf (broadcastInDim S4096x11264 ![0, 1] bcast_S1x11264_S4096x11264_0_1 b) (mulf (broadcastInDim S4096x11264 ![0, 1] bcast_S1x11264_S4096x11264_0_1 (broadcastInDim S1x11264 ![1] bcast_S11264_S1x11264_1 (shapeCast _ (extractStridedSlice S1x11264 ![0, 0] w slices_S3x11264_S1x11264_0_0) shapeCasts_S1x11264_S11264))) (extractStridedSlice S4096x11264 ![0, 0] (padded u) slices_S4098x11264_S4096x11264_0_0))) (mulf (broadcastInDim S4096x11264 ![0, 1] bcast_S1x11264_S4096x11264_0_1 (broadcastInDim S1x11264 ![1] bcast_S11264_S1x11264_1 (shapeCast _ (extractStridedSlice S1x11264 ![1, 0] w slices_S3x11264_S1x11264_1_0) shapeCasts_S1x11264_S11264))) (extractStridedSlice S4096x11264 ![1, 0] (padded u) slices_S4098x11264_S4096x11264_1_0))) (mulf (broadcastInDim S4096x11264 ![0, 1] bcast_S1x11264_S4096x11264_0_1 (broadcastInDim S1x11264 ![1] bcast_S11264_S1x11264_1 (shapeCast _ (extractStridedSlice S1x11264 ![2, 0] w slices_S3x11264_S1x11264_2_0) shapeCasts_S1x11264_S11264))) (extractStridedSlice S4096x11264 ![2, 0] (padded u) slices_S4098x11264_S4096x11264_2_0))

/-- Its gates. -/
def gates (u : FVec Ideal S4096x11264 .bf16) (w : FVec Ideal S3x11264 .f32) (b : FVec Ideal S1x11264 .f32) : FVec Ideal S4096x5632 .f32 :=
  extractStridedSlice S4096x5632 ![0, 0] (conv u w b) slices_S4096x11264_S4096x5632_0_0

/-- Its values. -/
def vals (u : FVec Ideal S4096x11264 .bf16) (w : FVec Ideal S3x11264 .f32) (b : FVec Ideal S1x11264 .f32) : FVec Ideal S4096x5632 .f32 :=
  extractStridedSlice S4096x5632 ![0, 5632] (conv u w b) slices_S4096x11264_S4096x5632_0_5632

/-- The logistic function of the gates. -/
def sigs (u : FVec Ideal S4096x11264 .bf16) (w : FVec Ideal S3x11264 .f32) (b : FVec Ideal S1x11264 .f32) : FVec Ideal S4096x5632 .f32 :=
  Host.divf (broadcastInDim S4096x5632 ![] bcast_S_S4096x5632 (constant S_ .f32 0x3F800000#32)) (addf (broadcastInDim S4096x5632 ![] bcast_S_S4096x5632 (constant S_ .f32 0x3F800000#32)) (Host.exp (Host.negf (gates u w b))))

/-- The cotangents of the convolution: of its gates, then of its values. -/
def drows (u : FVec Ideal S4096x11264 .bf16) (a : FVec Ideal S4096x5632 .bf16) (w : FVec Ideal S3x11264 .f32) (b : FVec Ideal S1x11264 .f32) : FVec Ideal S4096x11264 .f32 :=
  concatenate S4096x11264 1 [⟨S4096x5632, (addf (mulf (mulf (extf .f32 a bitsLt_bf16_f32) (vals u w b)) (sigs u w b)) (mulf (mulf (gates u w b) (mulf (extf .f32 a bitsLt_bf16_f32) (vals u w b))) (mulf (sigs u w b) (subf (broadcastInDim S4096x5632 ![] bcast_S_S4096x5632 (constant S_ .f32 0x3F800000#32)) (sigs u w b)))))⟩, ⟨S4096x5632, (mulf (mulf (gates u w b) (sigs u w b)) (extf .f32 a bitsLt_bf16_f32))⟩] concatenates_S4096x5632_S4096x5632_S4096x11264_d1

/-- The three products of the cotangents of the rows and the taps, summed: a row's own with the last tap, and those of the two rows after it. -/
def dupOwn (D : FVec Ideal S4096x11264 .f32) (w : FVec Ideal S3x11264 .f32) : FVec Ideal S4096x11264 .f32 :=
  extractStridedSlice S4096x11264 ![2, 0] (addf (addf (pad S4098x11264 ![2, 0] ![0, 0] ![0, 0] (mulf (broadcastInDim S4096x11264 ![0, 1] bcast_S1x11264_S4096x11264_0_1 (broadcastInDim S1x11264 ![1] bcast_S11264_S1x11264_1 (shapeCast _ (extractStridedSlice S1x11264 ![2, 0] w slices_S3x11264_S1x11264_2_0) shapeCasts_S1x11264_S11264))) D) (constant S_ .f32 0x00000000#32) pads_S4096x11264_S4098x11264_200_000 h_S_) (pad S4098x11264 ![1, 0] ![1, 0] ![0, 0] (mulf (broadcastInDim S4096x11264 ![0, 1] bcast_S1x11264_S4096x11264_0_1 (broadcastInDim S1x11264 ![1] bcast_S11264_S1x11264_1 (shapeCast _ (extractStridedSlice S1x11264 ![1, 0] w slices_S3x11264_S1x11264_1_0) shapeCasts_S1x11264_S11264))) D) (constant S_ .f32 0x00000000#32) pads_S4096x11264_S4098x11264_110_000 h_S_)) (pad S4098x11264 ![0, 0] ![2, 0] ![0, 0] (mulf (broadcastInDim S4096x11264 ![0, 1] bcast_S1x11264_S4096x11264_0_1 (broadcastInDim S1x11264 ![1] bcast_S11264_S1x11264_1 (shapeCast _ (extractStridedSlice S1x11264 ![0, 0] w slices_S3x11264_S1x11264_0_0) shapeCasts_S1x11264_S11264))) D) (constant S_ .f32 0x00000000#32) pads_S4096x11264_S4098x11264_020_000 h_S_)) slices_S4098x11264_S4096x11264_2_0

/-- The gradient in the rows, in the column order of the weight's blocks. -/
def dup (u : FVec Ideal S4096x11264 .bf16) (a : FVec Ideal S4096x5632 .bf16) (w : FVec Ideal S3x11264 .f32) (b : FVec Ideal S1x11264 .f32) : FVec Ideal S4096x11264 .bf16 :=
  truncf .bf16 (shapeCast _ (transpose S4096x4x2x1408 [0, 2, 1, 3] (shapeCast _ (dupOwn (drows u a w b) w) shapeCasts_S4096x11264_S4096x2x4x1408) transposes_S4096x2x4x1408_S4096x4x2x1408_0_2_1_3) shapeCasts_S4096x4x2x1408_S4096x11264) bitsLt_bf16_f32

/-- The gradient in one tap. -/
def tapRow (D X : FVec Ideal S4096x11264 .f32) : FVec Ideal S1x11264 .f32 :=
  broadcastInDim S1x11264 ![1] bcast_S11264_S1x11264_1 (Host.reduceAdd (shapeCast _ (Host.reduceAdd (mulf D X) (constant S_ .f32 0x00000000#32) reducesTo_S4096x11264_S11264_d0 h_S_) shapeCasts_S11264_S1x11264) (constant S_ .f32 0x00000000#32) reducesTo_S1x11264_S11264_d0 h_S_)

/-- Three rows, one below the other. -/
def threeRows (r2 r1 r0 : FVec Ideal S1x11264 .f32) : FVec Ideal S3x11264 .f32 :=
  addf (addf (pad S3x11264 ![2, 0] ![0, 0] ![0, 0] r2 (constant S_ .f32 0x00000000#32) pads_S1x11264_S3x11264_200_000 h_S_) (pad S3x11264 ![1, 0] ![1, 0] ![0, 0] r1 (constant S_ .f32 0x00000000#32) pads_S1x11264_S3x11264_110_000 h_S_)) (pad S3x11264 ![0, 0] ![2, 0] ![0, 0] r0 (constant S_ .f32 0x00000000#32) pads_S1x11264_S3x11264_020_000 h_S_)

/-- The gradient in the taps, in the column order of the weight's blocks. -/
def dtaps (u : FVec Ideal S4096x11264 .bf16) (a : FVec Ideal S4096x5632 .bf16) (w : FVec Ideal S3x11264 .f32) (b : FVec Ideal S1x11264 .f32) : FVec Ideal S3x11264 .f32 :=
  shapeCast _ (transpose S3x4x2x1408 [0, 2, 1, 3] (shapeCast _ (threeRows (tapRow (drows u a w b) (extractStridedSlice S4096x11264 ![2, 0] (padded u) slices_S4098x11264_S4096x11264_2_0)) (tapRow (drows u a w b) (extractStridedSlice S4096x11264 ![1, 0] (padded u) slices_S4098x11264_S4096x11264_1_0)) (tapRow (drows u a w b) (extractStridedSlice S4096x11264 ![0, 0] (padded u) slices_S4098x11264_S4096x11264_0_0))) shapeCasts_S3x11264_S3x2x4x1408) transposes_S3x2x4x1408_S3x4x2x1408_0_2_1_3) shapeCasts_S3x4x2x1408_S3x11264

/-- The gradient in the bias. -/
def dbias (u : FVec Ideal S4096x11264 .bf16) (a : FVec Ideal S4096x5632 .bf16) (w : FVec Ideal S3x11264 .f32) (b : FVec Ideal S1x11264 .f32) : FVec Ideal S1x11264 .f32 :=
  shapeCast _ (transpose S1x4x2x1408 [0, 2, 1, 3] (shapeCast _ (shapeCast _ (Host.reduceAdd (drows u a w b) (constant S_ .f32 0x00000000#32) reducesTo_S4096x11264_S11264_d0 h_S_) shapeCasts_S11264_S1x11264) shapeCasts_S1x11264_S1x2x4x1408) transposes_S1x2x4x1408_S1x4x2x1408_0_2_1_3) shapeCasts_S1x4x2x1408_S1x11264

/-- Where the column `C` stands among the columns of the weight's blocks. -/
abbrev spot (C : Fin 11264) : Fin 11264 := ⟨C.val / 1408 % 4 * 2816 + C.val / 5632 * 1408 + C.val % 1408, by omega⟩

/-- The column that stands at `Q` among the columns of the weight's blocks. -/
abbrev home (Q : Fin 11264) : Fin 11264 := ⟨Q.val / 1408 % 2 * 5632 + Q.val / 2816 * 1408 + Q.val % 1408, by omega⟩

variable (u : Vec Ideal S4096x11264 .bf16) (a : Vec Ideal S4096x5632 .bf16) (W : Vec Ideal S3x11264 .f32) (B : Vec Ideal S1x11264 .f32) (C : Fin 11264)

theorem padded_in (R : Fin 4098) (hR : 2 ≤ R.val) : padded u (ix2 R C) = u (ix2 ⟨R.val - 2, by omega⟩ (spot C)) := by
  pointwise [padded]
  exact dif_neg (by omega)

theorem padded_out (R : Fin 4098) (hR : R.val < 2) : padded u (ix2 R C) = 0 := by
  pointwise [padded]
  exact dif_pos hR

theorem conv_at (R : Fin 4096) : conv u W B (ix2 R C) = tap (B (ix2 0 C)) (W (ix2 0 C)) (W (ix2 1 C)) (W (ix2 2 C))
    (padded u (ix2 ⟨R.val, by omega⟩ C)) (padded u (ix2 ⟨1 + R.val, by omega⟩ C)) (padded u (ix2 ⟨2 + R.val, by omega⟩ C)) := by
  pointwise [conv, tap]

theorem gates_at (R : Fin 4096) (c : Fin 5632) : gates u W B (ix2 R c) = conv u W B (ix2 R ⟨c.val, by omega⟩) := by
  pointwise [gates]

theorem vals_at (R : Fin 4096) (c : Fin 5632) : vals u W B (ix2 R c) = conv u W B (ix2 R ⟨5632 + c.val, by omega⟩) := by
  pointwise [vals]

theorem sigs_at (R : Fin 4096) (c : Fin 5632) : sigs u W B (ix2 R c) = logi (gates u W B (ix2 R c)) := by
  pointwise [sigs, logi]

theorem drows_gate (R : Fin 4096) (hC : C.val < 5632) : drows u a W B (ix2 R C)
    = gateGrad (conv u W B (ix2 R C)) (conv u W B (ix2 R ⟨5632 + C.val, by omega⟩)) (a (ix2 R ⟨C.val, hC⟩)) := by
  have e1 := gates_at u W B R ⟨C.val, hC⟩
  have e2 := vals_at u W B R ⟨C.val, hC⟩
  have e3 := sigs_at u W B R ⟨C.val, hC⟩
  pointwise [drows]
  rw [dif_pos hC, e1, e2, e3, e1]
  rfl

theorem drows_val (R : Fin 4096) (hC : 5632 ≤ C.val) : drows u a W B (ix2 R C)
    = valGrad (conv u W B (ix2 R ⟨C.val - 5632, by omega⟩)) (a (ix2 R ⟨C.val - 5632, by omega⟩)) := by
  have e1 := gates_at u W B R ⟨C.val - 5632, by omega⟩
  have e3 := sigs_at u W B R ⟨C.val - 5632, by omega⟩
  pointwise [drows]
  rw [dif_neg (by omega), e1, e3, e1]
  rfl

theorem dbias_at (Q : Fin 11264) : dbias u a W B (ix2 0 Q) = ∑ R : Fin 4096, drows u a W B (ix2 R (home Q)) := by
  pointwise [dbias]

theorem tapRow_at (D X : FVec Ideal S4096x11264 .f32) : tapRow D X (ix2 0 C) = ∑ R : Fin 4096, D (ix2 R C) * X (ix2 R C) := by
  pointwise [tapRow]
  rw [Fin.sum_univ_one]

theorem threeRows_at (r2 r1 r0 : FVec Ideal S1x11264 .f32) (k : Fin 3) : threeRows r2 r1 r0 (ix2 k C)
    = (if k.val = 2 then r2 (ix2 0 C) else 0) + (if k.val = 1 then r1 (ix2 0 C) else 0) + (if k.val = 0 then r0 (ix2 0 C) else 0) := by
  pointwise [threeRows]
  congr 1
  · congr 1
    · by_cases h : k.val = 2
      · rw [if_pos h, dif_pos (by omega)]
        exact congrArg _ (congrArg (ix2 · C) (Fin.ext (show _ = 0 by dsimp only; omega)))
      · rw [if_neg h, dif_neg (by omega)]
    · by_cases h : k.val = 1
      · rw [if_pos h, dif_pos (by omega)]
        exact congrArg _ (congrArg (ix2 · C) (Fin.ext (show _ = 0 by dsimp only; omega)))
      · rw [if_neg h, dif_neg (by omega)]
  · by_cases h : k.val = 0
    · rw [if_pos h, dif_pos (by omega)]
      exact congrArg _ (congrArg (ix2 · C) (Fin.ext (show _ = 0 by dsimp only; omega)))
    · rw [if_neg h, dif_neg (by omega)]

theorem dtaps_at (k : Fin 3) (Q : Fin 11264) : dtaps u a W B (ix2 k Q)
    = ∑ R : Fin 4096, drows u a W B (ix2 R (home Q)) * padded u (ix2 ⟨R.val + k.val, by omega⟩ (home Q)) := by
  have e : dtaps u a W B (ix2 k Q) = threeRows (tapRow (drows u a W B) (extractStridedSlice S4096x11264 ![2, 0] (padded u) slices_S4098x11264_S4096x11264_2_0))
      (tapRow (drows u a W B) (extractStridedSlice S4096x11264 ![1, 0] (padded u) slices_S4098x11264_S4096x11264_1_0))
      (tapRow (drows u a W B) (extractStridedSlice S4096x11264 ![0, 0] (padded u) slices_S4098x11264_S4096x11264_0_0)) (ix2 k (home Q)) := by
    pointwise [dtaps]
  have x2 (R : Fin 4096) (C : Fin 11264) : extractStridedSlice S4096x11264 ![2, 0] (padded u) slices_S4098x11264_S4096x11264_2_0 (ix2 R C)
      = padded u (ix2 ⟨R.val + 2, by omega⟩ C) := by
    pointwise
    simp only [Nat.add_comm 2]
  have x1 (R : Fin 4096) (C : Fin 11264) : extractStridedSlice S4096x11264 ![1, 0] (padded u) slices_S4098x11264_S4096x11264_1_0 (ix2 R C)
      = padded u (ix2 ⟨R.val + 1, by omega⟩ C) := by
    pointwise
    simp only [Nat.add_comm 1]
  have x0 (R : Fin 4096) (C : Fin 11264) : extractStridedSlice S4096x11264 ![0, 0] (padded u) slices_S4098x11264_S4096x11264_0_0 (ix2 R C)
      = padded u (ix2 ⟨R.val, by omega⟩ C) := by
    pointwise
  rw [e, threeRows_at, tapRow_at, tapRow_at, tapRow_at]
  simp only [x2, x1, x0]
  obtain ⟨k, hk⟩ := k
  rcases (show k = 0 ∨ k = 1 ∨ k = 2 by omega) with rfl | rfl | rfl
  · rw [if_neg (show ¬(0 = 2) by decide), if_neg (show ¬(0 = 1) by decide), if_pos rfl, zero_add, zero_add]
    rfl
  · rw [if_neg (show ¬(1 = 2) by decide), if_pos rfl, if_neg (show ¬(1 = 0) by decide), zero_add, add_zero]
  · rw [if_pos rfl, if_neg (show ¬(2 = 1) by decide), if_neg (show ¬(2 = 0) by decide), add_zero, add_zero]

/-- Row `n` of `D`, zero past its end. -/
def below (D : FVec Ideal S4096x11264 .f32) (n : ℕ) (C : Fin 11264) : EReal := if h : n < 4096 then D (ix2 ⟨n, h⟩ C) else 0

theorem below_in (D : FVec Ideal S4096x11264 .f32) (n : ℕ) (h : n < 4096) : below D n C = D (ix2 ⟨n, h⟩ C) := dif_pos h

theorem below_out (D : FVec Ideal S4096x11264 .f32) (n : ℕ) (h : ¬n < 4096) : below D n C = 0 := dif_neg h

theorem dupOwn_at (D : FVec Ideal S4096x11264 .f32) (R : Fin 4096) : dupOwn D W (ix2 R C)
    = W (ix2 2 C) * below D R.val C + W (ix2 1 C) * below D (R.val + 1) C + W (ix2 0 C) * below D (R.val + 2) C := by
  rw [below_in C D R.val R.isLt]
  pointwise [dupOwn]
  congr 1
  · congr 1
    by_cases h : R.val + 1 < 4096
    · rw [dif_pos (by omega), below_in C D _ h]
      simp only [show 2 + R.val - 1 = R.val + 1 by omega]
    · rw [dif_neg (by omega), below_out C D _ h, mul_zero]
  · by_cases h : R.val + 2 < 4096
    · rw [dif_pos (by omega), below_in C D _ h]
      simp only [Nat.add_comm 2]
    · rw [dif_neg (by omega), below_out C D _ h, mul_zero]

theorem dup_at (R : Fin 4096) (Q : Fin 11264) : dup u a W B (ix2 R Q) = W (ix2 2 (home Q)) * below (drows u a W B) R.val (home Q)
    + W (ix2 1 (home Q)) * below (drows u a W B) (R.val + 1) (home Q) + W (ix2 0 (home Q)) * below (drows u a W B) (R.val + 2) (home Q) := by
  rw [← dupOwn_at]
  pointwise [dup]

end Cert.ConvValue

end
-- ==== Proof.ConvBlocks.lean ====
/- The backward pass of the causal convolution and its gate: what a step computes from its blocks, element by element. -/
module

public import proofs.«01_k».proof.Defs
public import proofs.«01_k».proof.Proof.ConvRows
public import proofs.«01_k».proof.Proof.Gen.ConvIdeal.Value
public import proofs.«01_k».proof.Proof.Gen.ConvRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvValue

open Cert.ConvIdeal Cert.ConvIdeal.Gen

/-! ## What a step computes from its blocks -/

/-- The tests on a row's number. -/
theorem tests : ∀ n : Fin 272, IntOp.cmpi .eq (BitVec.ofNat 32 n.val) 0#32 = (if n.val = 0 then 1#1 else 0#1)
    ∧ IntOp.cmpi .eq (BitVec.ofNat 32 n.val) 1#32 = (if n.val = 1 then 1#1 else 0#1)
    ∧ IntOp.cmpi .sge (BitVec.ofNat 32 n.val) 1#32 = (if 1 ≤ n.val then 1#1 else 0#1)
    ∧ IntOp.cmpi .sge (BitVec.ofNat 32 n.val) 2#32 = (if 2 ≤ n.val then 1#1 else 0#1)
    ∧ IntOp.cmpi .sge (BitVec.ofNat 32 n.val) 256#32 = (if 256 ≤ n.val then 1#1 else 0#1)
    ∧ IntOp.cmpi .slt (BitVec.ofNat 32 n.val) 271#32 = (if n.val < 271 then 1#1 else 0#1)
    ∧ IntOp.cmpi .slt (BitVec.ofNat 32 n.val) 270#32 = (if n.val < 270 then 1#1 else 0#1) := by
  decide +kernel

/-- The tests on a step's row of blocks. -/
theorem test : ∀ n : Fin 16, Scalar.cmpi .eq (BitVec.ofNat 32 n.val) 0#32 = (if n.val = 0 then 1#1 else 0#1)
    ∧ Scalar.cmpi .eq (BitVec.ofNat 32 n.val) 15#32 = (if n.val = 15 then 1#1 else 0#1) := by
  decide +kernel

theorem select_1 (a b : EReal) : Scalar.select 1#1 a b = a := rfl

theorem select_0 (a b : EReal) : Scalar.select 0#1 a b = b := rfl

theorem and_0 (a : BitVec 1) : IntOp.andi 0#1 a = 0#1 := by revert a; decide

theorem and_1 (a : BitVec 1) : IntOp.andi 1#1 a = a := by revert a; decide

variable (i : grid0.Coords)

/-- Whether the step works on the first rows. -/
abbrev isFirst : BitVec 1 := Scalar.cmpi .eq (BitVec.ofNat 32 (i 1).val) 0#32

/-- Whether the step works on the last rows. -/
abbrev isLast : BitVec 1 := Scalar.cmpi .eq (BitVec.ofNat 32 (i 1).val) 15#32

/-- Zero where step `i` works on the first rows, else `a`. -/
def halo (a : EReal) : EReal := if (i 1).val = 0 then 0 else a

theorem select_first (a : EReal) : Scalar.select (isFirst i) 0 a = halo i a := by
  rw [isFirst, (test (i 1)).1, halo]
  split_ifs <;> rfl

theorem mul_halo (c a : EReal) : c * halo i a = halo i (c * a) := by
  rw [halo, halo]
  split_ifs
  · exact mul_zero c
  · rfl

variable (x : FVec Ideal S256x1408 .bf16) (h p : FVec Ideal S16x1408 .bf16) (w : FVec Ideal S3x1408 .f32) (b : FVec Ideal S1x1408 .f32)
  (d : FVec Ideal S256x1408 .bf16) (e : FVec Ideal S16x1408 .bf16) (q : Fin 1408)

/-- A block's rows and the rows after them. -/
def catRows : FVec Ideal S272x1408 .f32 := k0_pay2 x h

/-- The convolution of a block's rows and of the rows after them. -/
def cblock : FVec Ideal S272x1408 .f32 :=
  k0_pay11 w b (k0_pay2 x h) (k0_pay4 i p) (k0_pay5 i p) (k0_pay6 i x h p) k0_pay7 k0_pay8 k0_pay9 (k0_pay10 x h)

theorem cblock_eq : k0_pay20 w b (k0_pay12 x h) (k0_pay14 (isFirst i) p) (k0_pay15 (isFirst i) p) (iota .tc S272x1408 32 [0] iota_S272x1408_d0_w32)
    k0_pay16 k0_pay17 (k0_pay18 x h) k0_pay19 = cblock i x h p w b := rfl

theorem cat_lo (n : Fin 272) (hn : n.val < 256) : catRows x h (ix2 n q) = x (ix2 ⟨n.val, hn⟩ q) := by
  pointwise [catRows, k0_pay2]
  exact dif_pos hn

theorem cat_hi (n : Fin 272) (hn : 256 ≤ n.val) : catRows x h (ix2 n q) = h (ix2 ⟨n.val - 256, by omega⟩ q) := by
  pointwise [catRows, k0_pay2]
  exact dif_neg (by omega)

theorem cblock_in (n : Fin 272) (hn : 2 ≤ n.val) : cblock i x h p w b (ix2 n q) = tap (b (ix2 0 q)) (w (ix2 0 q)) (w (ix2 1 q)) (w (ix2 2 q))
    (catRows x h (ix2 ⟨n.val - 2, by omega⟩ q)) (catRows x h (ix2 ⟨n.val - 1, by omega⟩ q)) (catRows x h (ix2 n q)) := by
  obtain ⟨t1, t2, t3, t4, -, -, -⟩ := tests n
  have e1 : (n.val + 272 - 1) % 272 = n.val - 1 := by omega
  have e2 : (n.val + 272 - 2) % 272 = n.val - 2 := by omega
  pointwise [cblock, catRows, k0_pay3, k0_pay4, k0_pay5, k0_pay6, k0_pay7, k0_pay8, k0_pay9, k0_pay10, k0_pay11, tap, t1, t2, t3, t4]
  have f0 : ¬n.val = 0 := by omega
  have f1 : ¬n.val = 1 := by omega
  have f2 : 1 ≤ n.val := by omega
  simp only [if_neg f0, if_neg f1, if_pos f2, if_pos hn, select_1, select_0, e1, e2]

theorem cblock_1 : cblock i x h p w b (ix2 1 q) = tap (b (ix2 0 q)) (w (ix2 0 q)) (w (ix2 1 q)) (w (ix2 2 q))
    (halo i (p (ix2 15 q))) (catRows x h (ix2 0 q)) (catRows x h (ix2 1 q)) := by
  have z := select_first i (p (ix2 15 q))
  have c0 : IntOp.cmpi .eq 1#32 0#32 = 0#1 := by decide
  have c1 : IntOp.cmpi .sge 1#32 1#32 = 1#1 := by decide
  pointwise [cblock, catRows, k0_pay3, k0_pay4, k0_pay5, k0_pay6, k0_pay7, k0_pay8, k0_pay9, k0_pay10, k0_pay11, tap]
  simp only [z, c0, c1, select_1, select_0]

theorem cblock_0 : cblock i x h p w b (ix2 0 q) = tap (b (ix2 0 q)) (w (ix2 0 q)) (w (ix2 1 q)) (w (ix2 2 q))
    (halo i (p (ix2 14 q))) (halo i (p (ix2 15 q))) (catRows x h (ix2 0 q)) := by
  pointwise [cblock, catRows, k0_pay3, k0_pay4, k0_pay5, k0_pay6, k0_pay7, k0_pay8, k0_pay9, k0_pay10, k0_pay11, tap]
  simp only [select_first, mul_halo]

/-- The cotangent of the gated product on a block's rows and on the rows after them, zero after the last row of all. -/
def ablock : FVec Ideal S272x1408 .f32 := k0_pay21 (isLast i) d e

theorem ablock_lo (n : Fin 272) (hn : n.val < 256) : ablock i d e (ix2 n q) = d (ix2 ⟨n.val, hn⟩ q) := by
  obtain ⟨-, -, -, -, t5, -, -⟩ := tests n
  pointwise [ablock, k0_pay21, t5]
  rw [if_neg (by omega), and_0, select_0, dif_pos hn]

theorem ablock_hi (n : Fin 272) (hn : 256 ≤ n.val) : ablock i d e (ix2 n q) = if (i 1).val = 15 then 0 else e (ix2 ⟨n.val - 256, by omega⟩ q) := by
  obtain ⟨-, -, -, -, t5, -, -⟩ := tests n
  have z : isLast i = _ := (test (i 1)).2
  pointwise [ablock, k0_pay21, t5]
  rw [if_pos hn, and_1, dif_neg (by omega), z]
  split_ifs <;> rfl

variable (g v a : FVec Ideal S272x1408 .f32) (D : FVec Ideal S272x1408 .f32)

/-- The gate's cotangent, in the kernel's form. -/
def gateGrad' (g v a : EReal) : EReal := a * v * logi g * (1 + g * (1 - logi g))

/-- The cotangents of a block's gates. -/
def gblock : FVec Ideal S272x1408 .f32 := k0_pay24 g v a (k0_pay22 g) (Scalar.ofBits .f32 0x3F800000#32)

theorem gblock_at (n : Fin 272) : gblock g v a (ix2 n q) = gateGrad' (g (ix2 n q)) (v (ix2 n q)) (a (ix2 n q)) := by
  pointwise [gblock, k0_pay24, k0_pay23, k0_pay22, gateGrad', logi, zero_sub]

/-- The cotangents of a block's values. -/
def vblock : FVec Ideal S272x1408 .f32 := k0_pay25 g a (k0_pay22 g) (Scalar.ofBits .f32 0x3F800000#32)

theorem vblock_at (n : Fin 272) : vblock g a (ix2 n q) = valGrad (g (ix2 n q)) (a (ix2 n q)) := by
  pointwise [vblock, k0_pay25, k0_pay23, k0_pay22, valGrad, logi, zero_sub]
  rw [mul_comm (a _), mul_assoc, mul_comm (a _), ← mul_assoc]

/-- The gradient in a block's rows. -/
def ublock : FVec Ideal S256x1408 .bf16 := k0_pay43 D w (k0_pay40 D w) (k0_pay41 w) (k0_pay42 D)

theorem ublock_eq : k0_pay28 g v a (k0_pay22 g) (Scalar.ofBits .f32 0x3F800000#32) w = ublock w (gblock g v a) := rfl

theorem ublock_at (n : Fin 256) : ublock w D (ix2 n q) = w (ix2 2 q) * D (ix2 ⟨n.val, by omega⟩ q) + w (ix2 1 q) * D (ix2 ⟨n.val + 1, by omega⟩ q)
    + w (ix2 0 q) * D (ix2 ⟨n.val + 2, by omega⟩ q) := by
  obtain ⟨-, -, -, -, -, t6, t7⟩ := tests ⟨n.val, by omega⟩
  have e1 : (n.val + 272 - 271) % 272 = n.val + 1 := by omega
  have e2 : (n.val + 272 - 270) % 272 = n.val + 2 := by omega
  pointwise [ublock, k0_pay43, k0_pay40, k0_pay41, k0_pay42]
  dsimp only at t6 t7
  simp only [t6, t7, if_pos (show n.val < 271 by omega), if_pos (show n.val < 270 by omega), select_1, e1, e2]

/-- The first rows of a block. -/
def rblock : FVec Ideal S256x1408 .f32 := k0_pay44 D

theorem rblock_at (n : Fin 256) : rblock D (ix2 n q) = D (ix2 ⟨n.val, by omega⟩ q) := by
  pointwise [rblock, k0_pay44]

/-- A block's rows moved down by one. -/
def down1 : FVec Ideal S256x1408 .f32 := k0_pay33 (isFirst i) x p

theorem down1_in (n : Fin 256) (hn : 1 ≤ n.val) : down1 i x p (ix2 n q) = x (ix2 ⟨n.val - 1, by omega⟩ q) := by
  obtain ⟨t1, t2, t3, t4, -, -, -⟩ := tests ⟨n.val, by omega⟩
  have e1 : (n.val + 256 - 1) % 256 = n.val - 1 := by omega
  dsimp only at t1 t2 t3 t4
  pointwise [down1, k0_pay33, k0_pay30, k0_pay31, k0_pay32, t1, t2, t3, t4]
  simp only [if_neg (show ¬n.val = 0 by omega), if_pos hn, select_1, select_0, e1]

theorem down1_0 : down1 i x p (ix2 0 q) = halo i (p (ix2 15 q)) := by
  have z := select_first i (p (ix2 15 q))
  pointwise [down1, k0_pay33, k0_pay30, k0_pay31, k0_pay32]
  simp only [z, select_1, select_0]

/-- A block's rows moved down by two. -/
def down2 : FVec Ideal S256x1408 .f32 :=
  select k0_pay50 (broadcastTo S256x1408 (shapeCast S1x1408 (k0_pay48 (isFirst i) p) shapeCasts_S1x1408_S1x1408) broadcasts_S1x1408_S256x1408)
    (select (cmpi .eq (iota .tc S256x1408 32 [0] iota_S256x1408_d0_w32) k0_pay51)
      (broadcastTo S256x1408 (shapeCast S1x1408 (k0_pay47 (isFirst i) p) shapeCasts_S1x1408_S1x1408) broadcasts_S1x1408_S256x1408)
      (select (cmpi .sge (iota .tc S256x1408 32 [0] iota_S256x1408_d0_w32) (broadcast S256x1408 2#32))
        (dynamicRotate 0 2#32 none (k0_pay45 x) rotates_S256x1408_d0) (broadcast S256x1408 (Scalar.ofBits .f32 0x00000000#32))))

theorem down2_in (n : Fin 256) (hn : 2 ≤ n.val) : down2 i x p (ix2 n q) = x (ix2 ⟨n.val - 2, by omega⟩ q) := by
  obtain ⟨t1, t2, t3, t4, -, -, -⟩ := tests ⟨n.val, by omega⟩
  have e1 : (n.val + 256 - 2) % 256 = n.val - 2 := by omega
  dsimp only at t1 t2 t3 t4
  pointwise [down2, k0_pay45, k0_pay46, k0_pay47, k0_pay48, k0_pay50, k0_pay51, t1, t2, t3, t4]
  simp only [if_neg (show ¬n.val = 0 by omega), if_neg (show ¬n.val = 1 by omega), if_pos hn, select_1, select_0, e1]

theorem down2_1 : down2 i x p (ix2 1 q) = halo i (p (ix2 15 q)) := by
  have z := select_first i (p (ix2 15 q))
  have c0 : IntOp.cmpi .eq 1#32 0#32 = 0#1 := by decide
  pointwise [down2, k0_pay45, k0_pay46, k0_pay47, k0_pay48, k0_pay50, k0_pay51]
  simp only [z, c0, select_1, select_0]

theorem down2_0 : down2 i x p (ix2 0 q) = halo i (p (ix2 14 q)) := by
  have z := select_first i (p (ix2 14 q))
  pointwise [down2, k0_pay45, k0_pay46, k0_pay47, k0_pay48, k0_pay50, k0_pay51]
  simp only [z, select_1, select_0]

variable (r y : FVec Ideal S256x1408 .f32) (s : FVec Ideal S1x1408 .f32)

/-- A row `s` of sums, the column sums of `r * y` added. -/
def grow : FVec Ideal S1x1408 .f32 := k0_pay53 r y s

theorem grow_at : grow r y s (ix2 0 q) = s (ix2 0 q) + ∑ n : Fin 256, r (ix2 n q) * y (ix2 n q) := by
  pointwise [grow, k0_pay53]

/-- A row `s` of sums, the column sums of `r` added. -/
def grow' : FVec Ideal S1x1408 .f32 := k0_pay39 r s

theorem grow'_at : grow' r s (ix2 0 q) = s (ix2 0 q) + ∑ n : Fin 256, r (ix2 n q) := by
  pointwise [grow', k0_pay39]

theorem first_gate : k0_pay29 g v a (k0_pay22 g) (Scalar.ofBits .f32 0x3F800000#32) = rblock (gblock g v a) := rfl

theorem grow_0 : k0_pay36 (k0_pay34 s) (k0_pay35 (isFirst i) r x p) = grow r (down2 i x p) s := rfl

theorem grow_1 : k0_pay37 r (k0_pay33 (isFirst i) x p) s = grow r (down1 i x p) s := rfl

theorem grow_2 : k0_pay38 r (k0_pay30 x) s = grow r (extf .f32 x bitsLt_bf16_f32) s := rfl

theorem grow_3 : k0_pay52 r (k0_pay45 x) (k0_pay47 (isFirst i) p) (k0_pay48 (isFirst i) p) (iota .tc S256x1408 32 [0] iota_S256x1408_d0_w32) k0_pay50
    k0_pay51 s = grow r (down2 i x p) s := rfl

theorem grow_4 : k0_pay53 r (k0_pay49 (isFirst i) x p) s = grow r (down1 i x p) s := rfl

theorem grow_5 : k0_pay54 r (k0_pay45 x) s = grow r (extf .f32 x bitsLt_bf16_f32) s := rfl

theorem grow_6 : k0_pay1 r (k0_pay55 s) = grow' r s := rfl

end Cert.ConvValue

end
-- ==== Proof.Conv.lean ====
/- The backward pass of the causal convolution and its gate: what each step of the kernel leaves in its blocks, how
   the gradients of the taps and of the bias add up over the steps, and the claim. -/
module

public import proofs.«01_k».proof.Defs
public import proofs.«01_k».proof.Proof.ConvBlocks
public import proofs.«01_k».proof.Proof.Gen.Pre_finite
public import proofs.«01_k».proof.Proof.Gen.ConvIdeal.Value
public import proofs.«01_k».proof.Proof.Gen.ConvRefIdeal.Run
public import Idealize.ShloMosaic.Lib.Pipeline.ReadBack
public import Idealize.ShloMosaic.Lib.Ring
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvValue

open Cert.ConvIdeal Cert.ConvIdeal.Gen

/-! ## Real numbers among the extended reals -/

/-- A real number. -/
def IsReal (x : EReal) : Prop := ∃ r : ℝ, x = r

theorem IsReal.add {x y : EReal} (hx : IsReal x) (hy : IsReal y) : IsReal (x + y) := by
  obtain ⟨r, rfl⟩ := hx
  obtain ⟨s, rfl⟩ := hy
  exact ⟨r + s, rfl⟩

theorem IsReal.mul {x y : EReal} (hx : IsReal x) (hy : IsReal y) : IsReal (x * y) := by
  obtain ⟨r, rfl⟩ := hx
  obtain ⟨s, rfl⟩ := hy
  exact ⟨r * s, rfl⟩

theorem isReal_tap {b w₂ w₁ w₀ x₂ x₁ x₀ : EReal} (hb : IsReal b) (h₂ : IsReal w₂) (h₁ : IsReal w₁) (h₀ : IsReal w₀) (k₂ : IsReal x₂) (k₁ : IsReal x₁)
    (k₀ : IsReal x₀) : IsReal (tap b w₂ w₁ w₀ x₂ x₁ x₀) :=
  ((hb.add (h₂.mul k₂)).add (h₁.mul k₁)).add (h₀.mul k₀)

theorem isReal_logi {g : EReal} (hg : IsReal g) : IsReal (logi g) := by
  obtain ⟨r, rfl⟩ := hg
  have h : (1 : EReal) + Ideal.exp (-(r : EReal)) = ((1 + Real.exp (-r) : ℝ) : EReal) := rfl
  have p : (0 : ℝ) < 1 + Real.exp (-r) := by positivity
  refine ⟨1 * (1 + Real.exp (-r))⁻¹, ?_⟩
  rw [logi, h, Ideal.div, if_neg (by exact_mod_cast p.ne')]
  rfl

theorem gate_eq {g v a : EReal} (hg : IsReal g) (hv : IsReal v) (ha : IsReal a) : gateGrad' g v a = gateGrad g v a := by
  obtain ⟨s, hs⟩ := isReal_logi hg
  obtain ⟨g, rfl⟩ := hg
  obtain ⟨v, rfl⟩ := hv
  obtain ⟨a, rfl⟩ := ha
  rw [gateGrad', gateGrad, hs]
  have : a * v * s * (1 + g * (1 - s)) = a * v * s + g * (a * v) * (s * (1 - s)) := by ring
  exact_mod_cast congrArg (fun r : ℝ => (r : EReal)) this

theorem gate_zero (g v : EReal) : gateGrad' g v 0 = 0 := by
  rw [gateGrad', zero_mul, zero_mul, zero_mul]

theorem val_zero (g : EReal) : valGrad g 0 = 0 := mul_zero _

/-! ## What a step's blocks are of the whole arrays -/

/-- Which block every window holds at step `t`: rows `t % 16`, columns `t / 16`. -/
theorem place : ∀ t : Fin cfg0.N, win0_0.index t = ![t.val % 16, 2 * (t.val / 16)] ∧ win0_1.index t = ![min (16 * (t.val % 16) + 16) 255, 2 * (t.val / 16)]
    ∧ win0_2.index t = ![16 * (t.val % 16) - 1, 2 * (t.val / 16)] ∧ win0_3.index t = ![t.val % 16, 2 * (t.val / 16) + 1]
    ∧ win0_4.index t = ![min (16 * (t.val % 16) + 16) 255, 2 * (t.val / 16) + 1] ∧ win0_5.index t = ![16 * (t.val % 16) - 1, 2 * (t.val / 16) + 1]
    ∧ win0_6.index t = ![0, t.val / 16] ∧ win0_7.index t = ![0, 4 + t.val / 16] ∧ win0_8.index t = ![0, t.val / 16] ∧ win0_9.index t = ![0, 4 + t.val / 16]
    ∧ win0_10.index t = ![t.val % 16, t.val / 16] ∧ win0_11.index t = ![min (16 * (t.val % 16) + 16) 255, t.val / 16]
    ∧ win0_12.index t = ![t.val % 16, t.val / 16] ∧ win0_13.index t = ![0, t.val / 16] ∧ win0_14.index t = ![0, t.val / 16] :=
  (by decide +kernel : ∀ t : Fin grid0.N, _)

/-- The row of blocks that step `t` works on. -/
theorem row : ∀ t : Fin cfg0.N, (grid0.coords t 1).val = t.val % 16 :=
  (by decide +kernel : ∀ t : Fin grid0.N, _)

theorem steps (t : Fin cfg0.N) : t.val < 64 := t.isLt

section Step

variable (m : (ℓ : Loc nD τ sig) → Buf (Elt Ideal) ℓ) (c : Dev nD) (t : Fin cfg0.N)

theorem halo_0 (a) (h : t.val % 16 = 0) : halo (grid0.coords t) a = 0 := if_pos ((row t).trans h)

theorem halo_1 (a) (h : ¬t.val % 16 = 0) : halo (grid0.coords t) a = a := if_neg fun e => h ((row t).symm.trans e)

/-- The rows. -/
abbrev up : Vec Ideal S4096x11264 .bf16 := m ((c.tc : Thread _ _).loc main_arg0)

/-- The cotangent. -/
abbrev dact : Vec Ideal S4096x5632 .bf16 := m ((c.tc : Thread _ _).loc main_arg1)

/-- The taps. -/
abbrev taps : Vec Ideal S3x11264 .f32 := m ((c.tc : Thread _ _).loc main_arg2)

/-- The bias. -/
abbrev bias : Vec Ideal S1x11264 .f32 := m ((c.tc : Thread _ _).loc main_arg3)

/-- The column of the gates that stands at `q` in step `t`'s blocks. -/
def colG (q : Fin 1408) : Fin 11264 := ⟨t.val / 16 * 1408 + q.val, by have := steps t; omega⟩

/-- The column of the values that stands at `q` in step `t`'s blocks. -/
def colV (q : Fin 1408) : Fin 11264 := ⟨5632 + t.val / 16 * 1408 + q.val, by have := steps t; omega⟩

variable (q : Fin 1408)

theorem catG (n : Fin 272) (hn : t.val % 16 * 256 + n.val < 4096) : catRows (iblk m c 0 t) (iblk m c 1 t) (ix2 n q)
    = padded (up m c) (ix2 ⟨t.val % 16 * 256 + n.val + 2, by omega⟩ (colG t q)) := by
  have ht := steps t
  rw [padded_in _ _ _ (by dsimp only; omega)]
  by_cases h : n.val < 256
  · rw [cat_lo _ _ _ _ h]
    unfold colG
    blk_point [iblk, V, place t]
  · rw [cat_hi _ _ _ _ (by omega)]
    unfold colG
    have e : min (16 * (t.val % 16) + 16) 255 = 16 * (t.val % 16) + 16 := by omega
    blk_point [iblk, V, place t]

theorem prevG (k : Fin 16) (hk : 14 ≤ k.val) : halo (grid0.coords t) (iblk m c 2 t (ix2 k q))
    = padded (up m c) (ix2 ⟨t.val % 16 * 256 + k.val - 14, by omega⟩ (colG t q)) := by
  have ht := steps t
  by_cases h : t.val % 16 = 0
  · rw [halo_0 t _ h, padded_out _ _ _ (by dsimp only; omega)]
  · rw [halo_1 t _ h, padded_in _ _ _ (by dsimp only; omega)]
    unfold colG
    blk_point [iblk, V, place t]

/-- The convolution of the step's rows. -/
abbrev rowsG : FVec Ideal S272x1408 .f32 :=
  cblock (grid0.coords t) (iblk m c 0 t) (iblk m c 1 t) (iblk m c 2 t) (iblk m c 6 t) (iblk m c 8 t)

theorem tapsG (k : Fin 3) : iblk m c 6 t (ix2 k q) = taps m c (ix2 k (colG t q)) := by
  have ht := steps t
  unfold colG
  blk_point [iblk, V, place t]

theorem biasG : iblk m c 8 t (ix2 0 q) = bias m c (ix2 0 (colG t q)) := by
  have ht := steps t
  unfold colG
  blk_point [iblk, V, place t]

theorem convG (n : Fin 272) (hn : t.val % 16 * 256 + n.val < 4096) : rowsG m c t (ix2 n q)
    = conv (up m c) (taps m c) (bias m c) (ix2 ⟨t.val % 16 * 256 + n.val, hn⟩ (colG t q)) := by
  have ht := steps t
  have at_row (R R' : ℕ) (hR : R < 4098) (hR' : R' < 4098) (e : R = R') (C : Fin 11264) : padded (up m c) (ix2 ⟨R, hR⟩ C) = padded (up m c) (ix2 ⟨R', hR'⟩ C) := by
    subst e; rfl
  rw [conv_at]
  by_cases h2 : 2 ≤ n.val
  · rw [rowsG, cblock_in _ _ _ _ _ _ _ n h2]
    refine tap_congr (biasG ..) (tapsG ..) (tapsG ..) (tapsG ..) ?_ ?_ ?_
    · exact (catG m c t q _ (by dsimp only; omega)).trans (at_row _ _ _ _ (by dsimp only; omega) _)
    · exact (catG m c t q _ (by dsimp only; omega)).trans (at_row _ _ _ _ (by dsimp only; omega) _)
    · exact (catG m c t q _ (by omega)).trans (at_row _ _ _ _ (by dsimp only; omega) _)
  · by_cases h1 : n.val = 1
    · obtain rfl : n = 1 := Fin.ext h1
      rw [rowsG, cblock_1]
      refine tap_congr (biasG ..) (tapsG ..) (tapsG ..) (tapsG ..) ?_ ?_ ?_
      · exact (prevG m c t q 15 (by decide)).trans (at_row _ _ _ _ (by show _ + 15 - 14 = _ + 1; omega) _)
      · exact (catG m c t q 0 (by show _ + 0 < 4096; omega)).trans (at_row _ _ _ _ (by show _ + 0 + 2 = 1 + (_ + 1); omega) _)
      · exact (catG m c t q 1 (by show _ + 1 < 4096; omega)).trans (at_row _ _ _ _ (by show _ + 1 + 2 = 2 + (_ + 1); omega) _)
    · obtain rfl : n = 0 := Fin.ext (show n.val = 0 by omega)
      rw [rowsG, cblock_0]
      refine tap_congr (biasG ..) (tapsG ..) (tapsG ..) (tapsG ..) ?_ ?_ ?_
      · exact (prevG m c t q 14 (by decide)).trans (at_row _ _ _ _ (by show _ + 14 - 14 = _ + 0; omega) _)
      · exact (prevG m c t q 15 (by decide)).trans (at_row _ _ _ _ (by show _ + 15 - 14 = 1 + (_ + 0); omega) _)
      · exact (catG m c t q 0 (by show _ + 0 < 4096; omega)).trans (at_row _ _ _ _ (by show _ + 0 + 2 = 2 + (_ + 0); omega) _)

theorem catV (n : Fin 272) (hn : t.val % 16 * 256 + n.val < 4096) : catRows (iblk m c 3 t) (iblk m c 4 t) (ix2 n q)
    = padded (up m c) (ix2 ⟨t.val % 16 * 256 + n.val + 2, by omega⟩ (colV t q)) := by
  have ht := steps t
  rw [padded_in _ _ _ (by dsimp only; omega)]
  by_cases h : n.val < 256
  · rw [cat_lo _ _ _ _ h]
    unfold colV
    blk_point [iblk, V, place t]
  · rw [cat_hi _ _ _ _ (by omega)]
    unfold colV
    have e : min (16 * (t.val % 16) + 16) 255 = 16 * (t.val % 16) + 16 := by omega
    blk_point [iblk, V, place t]

theorem prevV (k : Fin 16) (hk : 14 ≤ k.val) : halo (grid0.coords t) (iblk m c 5 t (ix2 k q))
    = padded (up m c) (ix2 ⟨t.val % 16 * 256 + k.val - 14, by omega⟩ (colV t q)) := by
  have ht := steps t
  by_cases h : t.val % 16 = 0
  · rw [halo_0 t _ h, padded_out _ _ _ (by dsimp only; omega)]
  · rw [halo_1 t _ h, padded_in _ _ _ (by dsimp only; omega)]
    unfold colV
    blk_point [iblk, V, place t]

/-- The convolution of the step's rows. -/
abbrev rowsV : FVec Ideal S272x1408 .f32 :=
  cblock (grid0.coords t) (iblk m c 3 t) (iblk m c 4 t) (iblk m c 5 t) (iblk m c 7 t) (iblk m c 9 t)

theorem tapsV (k : Fin 3) : iblk m c 7 t (ix2 k q) = taps m c (ix2 k (colV t q)) := by
  have ht := steps t
  unfold colV
  blk_point [iblk, V, place t]

theorem biasV : iblk m c 9 t (ix2 0 q) = bias m c (ix2 0 (colV t q)) := by
  have ht := steps t
  unfold colV
  blk_point [iblk, V, place t]

theorem convV (n : Fin 272) (hn : t.val % 16 * 256 + n.val < 4096) : rowsV m c t (ix2 n q)
    = conv (up m c) (taps m c) (bias m c) (ix2 ⟨t.val % 16 * 256 + n.val, hn⟩ (colV t q)) := by
  have ht := steps t
  have at_row (R R' : ℕ) (hR : R < 4098) (hR' : R' < 4098) (e : R = R') (C : Fin 11264) : padded (up m c) (ix2 ⟨R, hR⟩ C) = padded (up m c) (ix2 ⟨R', hR'⟩ C) := by
    subst e; rfl
  rw [conv_at]
  by_cases h2 : 2 ≤ n.val
  · rw [rowsV, cblock_in _ _ _ _ _ _ _ n h2]
    refine tap_congr (biasV ..) (tapsV ..) (tapsV ..) (tapsV ..) ?_ ?_ ?_
    · exact (catV m c t q _ (by dsimp only; omega)).trans (at_row _ _ _ _ (by dsimp only; omega) _)
    · exact (catV m c t q _ (by dsimp only; omega)).trans (at_row _ _ _ _ (by dsimp only; omega) _)
    · exact (catV m c t q _ (by omega)).trans (at_row _ _ _ _ (by dsimp only; omega) _)
  · by_cases h1 : n.val = 1
    · obtain rfl : n = 1 := Fin.ext h1
      rw [rowsV, cblock_1]
      refine tap_congr (biasV ..) (tapsV ..) (tapsV ..) (tapsV ..) ?_ ?_ ?_
      · exact (prevV m c t q 15 (by decide)).trans (at_row _ _ _ _ (by show _ + 15 - 14 = _ + 1; omega) _)
      · exact (catV m c t q 0 (by show _ + 0 < 4096; omega)).trans (at_row _ _ _ _ (by show _ + 0 + 2 = 1 + (_ + 1); omega) _)
      · exact (catV m c t q 1 (by show _ + 1 < 4096; omega)).trans (at_row _ _ _ _ (by show _ + 1 + 2 = 2 + (_ + 1); omega) _)
    · obtain rfl : n = 0 := Fin.ext (show n.val = 0 by omega)
      rw [rowsV, cblock_0]
      refine tap_congr (biasV ..) (tapsV ..) (tapsV ..) (tapsV ..) ?_ ?_ ?_
      · exact (prevV m c t q 14 (by decide)).trans (at_row _ _ _ _ (by show _ + 14 - 14 = _ + 0; omega) _)
      · exact (prevV m c t q 15 (by decide)).trans (at_row _ _ _ _ (by show _ + 15 - 14 = 1 + (_ + 0); omega) _)
      · exact (catV m c t q 0 (by show _ + 0 < 4096; omega)).trans (at_row _ _ _ _ (by show _ + 0 + 2 = 2 + (_ + 0); omega) _)

/-- The cotangent of the step's rows. -/
abbrev rowsA : FVec Ideal S272x1408 .f32 := ablock (grid0.coords t) (iblk m c 10 t) (iblk m c 11 t)

theorem act_in (n : Fin 272) (hn : t.val % 16 * 256 + n.val < 4096) (q' : Fin 5632) (e : q'.val = t.val / 16 * 1408 + q.val) : rowsA m c t (ix2 n q)
    = dact m c (ix2 ⟨t.val % 16 * 256 + n.val, hn⟩ q') := by
  have ht := steps t
  have e' : q' = ⟨t.val / 16 * 1408 + q.val, by omega⟩ := Fin.ext e
  rw [e']
  clear e'
  by_cases h : n.val < 256
  · rw [rowsA, ablock_lo _ _ _ _ _ h]
    blk_point [iblk, V, place t]
  · rw [rowsA, ablock_hi _ _ _ _ _ (by omega), if_neg (by rw [row t]; omega)]
    have e : min (16 * (t.val % 16) + 16) 255 = 16 * (t.val % 16) + 16 := by omega
    blk_point [iblk, V, place t]

theorem act_out (n : Fin 272) (hn : ¬t.val % 16 * 256 + n.val < 4096) : rowsA m c t (ix2 n q) = 0 := by
  have ht := steps t
  rw [rowsA, ablock_hi _ _ _ _ _ (by omega), if_pos (by rw [row t]; omega)]

/-- The cotangents of the convolution of all rows. -/
abbrev whole : FVec Ideal S4096x11264 .f32 := drows (up m c) (dact m c) (taps m c) (bias m c)

/-- The cotangents of the step's gates. -/
abbrev stepG : FVec Ideal S272x1408 .f32 := gblock (rowsG m c t) (rowsV m c t) (rowsA m c t)

/-- The cotangents of the step's values. -/
abbrev stepV : FVec Ideal S272x1408 .f32 := vblock (rowsG m c t) (rowsA m c t)

/-- All arguments are real numbers. -/
def Reals : Prop := (∀ i, IsReal (up m c i)) ∧ (∀ i, IsReal (dact m c i)) ∧ (∀ i, IsReal (taps m c i)) ∧ (∀ i, IsReal (bias m c i))

variable (hr : Reals m c)

include hr in
theorem isReal_conv (R : Fin 4096) (C : Fin 11264) : IsReal (conv (up m c) (taps m c) (bias m c) (ix2 R C)) := by
  have hp (R : Fin 4098) : IsReal (padded (up m c) (ix2 R C)) := by
    by_cases h : 2 ≤ R.val
    · rw [padded_in _ _ _ h]
      exact hr.1 _
    · rw [padded_out _ _ _ (by omega)]
      exact ⟨0, rfl⟩
  rw [conv_at]
  exact isReal_tap (hr.2.2.2 _) (hr.2.2.1 _) (hr.2.2.1 _) (hr.2.2.1 _) (hp _) (hp _) (hp _)

include hr in
theorem stepG_at (n : Fin 272) : stepG m c t (ix2 n q) = below (whole m c) (t.val % 16 * 256 + n.val) (colG t q) := by
  have ht := steps t
  rw [stepG, gblock_at]
  by_cases h : t.val % 16 * 256 + n.val < 4096
  · rw [convG m c t q n h, convV m c t q n h, act_in m c t q n h ⟨t.val / 16 * 1408 + q.val, by omega⟩ rfl, below_in _ _ _ h,
      gate_eq (isReal_conv m c hr _ _) (isReal_conv m c hr _ _) (hr.2.1 _), whole, drows_gate _ _ _ _ _ _ (by unfold colG; dsimp only; omega)]
    congr 3
    refine Fin.ext ?_
    unfold colG colV
    dsimp only
    omega
  · rw [act_out m c t q n h, below_out _ _ _ h, gate_zero]

theorem stepV_at (n : Fin 272) : stepV m c t (ix2 n q) = below (whole m c) (t.val % 16 * 256 + n.val) (colV t q) := by
  have ht := steps t
  rw [stepV, vblock_at]
  by_cases h : t.val % 16 * 256 + n.val < 4096
  · have e : colG t q = ⟨(colV t q).val - 5632, by have := (colV t q).isLt; omega⟩ := Fin.ext (by unfold colG colV; dsimp only; omega)
    rw [convG m c t q n h, act_in m c t q n h ⟨(colV t q).val - 5632, by have := (colV t q).isLt; omega⟩ (by unfold colV; dsimp only; omega), below_in _ _ _ h,
      whole, drows_val _ _ _ _ _ _ (by unfold colV; dsimp only; omega), e]
  · rw [act_out m c t q n h, below_out _ _ _ h, val_zero]

end Step

section Out

variable (m : (ℓ : Loc nD τ sig) → Buf (Elt Ideal) ℓ) (c : Dev nD) (t : Fin cfg0.N)

/-! ## What a step leaves in its three outputs -/

theorem at_row (R R' : ℕ) (hR : R < 4098) (hR' : R' < 4098) (e : R = R') (C : Fin 11264) : padded (up m c) (ix2 ⟨R, hR⟩ C) = padded (up m c) (ix2 ⟨R', hR'⟩ C) := by
  subst e
  rfl

theorem lag2G (q : Fin 1408) (n : Fin 256) : extf .f32 (iblk m c 0 t) bitsLt_bf16_f32 (ix2 n q) = padded (up m c) (ix2 ⟨t.val % 16 * 256 + n.val + 2, by omega⟩ (colG t q)) := by
  have ht := steps t
  rw [padded_in _ _ _ (by dsimp only; omega)]
  unfold colG
  blk_point [iblk, V, place t]

theorem lag2V (q : Fin 1408) (n : Fin 256) : extf .f32 (iblk m c 3 t) bitsLt_bf16_f32 (ix2 n q) = padded (up m c) (ix2 ⟨t.val % 16 * 256 + n.val + 2, by omega⟩ (colV t q)) := by
  have ht := steps t
  rw [padded_in _ _ _ (by dsimp only; omega)]
  unfold colV
  blk_point [iblk, V, place t]

theorem lag1G (q : Fin 1408) (n : Fin 256) : down1 (grid0.coords t) (iblk m c 0 t) (iblk m c 2 t) (ix2 n q)
    = padded (up m c) (ix2 ⟨t.val % 16 * 256 + n.val + 1, by omega⟩ (colG t q)) := by
  by_cases h : 1 ≤ n.val
  · rw [down1_in _ _ _ _ n h]
    exact (lag2G m c t q ⟨n.val - 1, by omega⟩).trans (at_row _ _ _ _ _ _ (by dsimp only; omega) _)
  · obtain rfl : n = 0 := Fin.ext (show n.val = 0 by omega)
    rw [down1_0]
    exact (prevG m c t q 15 (by decide)).trans (at_row _ _ _ _ _ _ (by show _ + 15 - 14 = _ + 0 + 1; omega) _)

theorem lag1V (q : Fin 1408) (n : Fin 256) : down1 (grid0.coords t) (iblk m c 3 t) (iblk m c 5 t) (ix2 n q)
    = padded (up m c) (ix2 ⟨t.val % 16 * 256 + n.val + 1, by omega⟩ (colV t q)) := by
  by_cases h : 1 ≤ n.val
  · rw [down1_in _ _ _ _ n h]
    exact (lag2V m c t q ⟨n.val - 1, by omega⟩).trans (at_row _ _ _ _ _ _ (by dsimp only; omega) _)
  · obtain rfl : n = 0 := Fin.ext (show n.val = 0 by omega)
    rw [down1_0]
    exact (prevV m c t q 15 (by decide)).trans (at_row _ _ _ _ _ _ (by show _ + 15 - 14 = _ + 0 + 1; omega) _)

theorem lag0G (q : Fin 1408) (n : Fin 256) : down2 (grid0.coords t) (iblk m c 0 t) (iblk m c 2 t) (ix2 n q)
    = padded (up m c) (ix2 ⟨t.val % 16 * 256 + n.val + 0, by omega⟩ (colG t q)) := by
  by_cases h : 2 ≤ n.val
  · rw [down2_in _ _ _ _ n h]
    exact (lag2G m c t q ⟨n.val - 2, by omega⟩).trans (at_row _ _ _ _ _ _ (by dsimp only; omega) _)
  · by_cases h1 : n.val = 1
    · obtain rfl : n = 1 := Fin.ext h1
      rw [down2_1]
      exact (prevG m c t q 15 (by decide)).trans (at_row _ _ _ _ _ _ (by show _ + 15 - 14 = _ + 1 + 0; omega) _)
    · obtain rfl : n = 0 := Fin.ext (show n.val = 0 by omega)
      rw [down2_0]
      exact (prevG m c t q 14 (by decide)).trans (at_row _ _ _ _ _ _ (by show _ + 14 - 14 = _ + 0 + 0; omega) _)

theorem lag0V (q : Fin 1408) (n : Fin 256) : down2 (grid0.coords t) (iblk m c 3 t) (iblk m c 5 t) (ix2 n q)
    = padded (up m c) (ix2 ⟨t.val % 16 * 256 + n.val + 0, by omega⟩ (colV t q)) := by
  by_cases h : 2 ≤ n.val
  · rw [down2_in _ _ _ _ n h]
    exact (lag2V m c t q ⟨n.val - 2, by omega⟩).trans (at_row _ _ _ _ _ _ (by dsimp only; omega) _)
  · by_cases h1 : n.val = 1
    · obtain rfl : n = 1 := Fin.ext h1
      rw [down2_1]
      exact (prevV m c t q 15 (by decide)).trans (at_row _ _ _ _ _ _ (by show _ + 15 - 14 = _ + 1 + 0; omega) _)
    · obtain rfl : n = 0 := Fin.ext (show n.val = 0 by omega)
      rw [down2_0]
      exact (prevV m c t q 14 (by decide)).trans (at_row _ _ _ _ _ _ (by show _ + 14 - 14 = _ + 0 + 0; omega) _)

/-- The two pieces of a step's rows: the gates' and the values'. -/
def upPieces : List (View.Piece (Elt Ideal) S256x2816 .bf16) :=
  [⟨Rect.unit ![0, 1408] ![256, 1408] inb_S256x2816_S256x1408_0_1408, ublock (iblk m c 7 t) (stepV m c t)⟩,
    ⟨Rect.unit ![0, 0] ![256, 1408] inb_S256x2816_S256x1408_0_0, ublock (iblk m c 6 t) (stepG m c t)⟩]

theorem out_up : (outsAt0 m c t.val t.isLt).1 = View.canon (upPieces m c t) := by
  by_cases h0 : t.val % 16 = 0
  · rw [outsAt0_A m c t h0]
    dsimp only
    frame_out
    rfl
  · rw [outsAt0_B m c t h0]
    dsimp only
    frame_out
    rfl

/-- The six pieces of a step's taps over their contents `Z` before. -/
def tapPieces (Z : Vec Ideal S3x2816 .f32) : List (View.Piece (Elt Ideal) S3x2816 .f32) :=
  [⟨Rect.unit ![2, 1408] ![1, 1408] inb_S3x2816_S1x1408_2_1408, grow (rblock (stepV m c t)) (extf .f32 (iblk m c 3 t) bitsLt_bf16_f32)
      (View.ld Z (Rect.unit ![2, 1408] ![1, 1408] inb_S3x2816_S1x1408_2_1408))⟩,
    ⟨Rect.unit ![1, 1408] ![1, 1408] inb_S3x2816_S1x1408_1_1408, grow (rblock (stepV m c t)) (down1 (grid0.coords t) (iblk m c 3 t) (iblk m c 5 t))
      (View.ld Z (Rect.unit ![1, 1408] ![1, 1408] inb_S3x2816_S1x1408_1_1408))⟩,
    ⟨Rect.unit ![0, 1408] ![1, 1408] inb_S3x2816_S1x1408_0_1408, grow (rblock (stepV m c t)) (down2 (grid0.coords t) (iblk m c 3 t) (iblk m c 5 t))
      (View.ld Z (Rect.unit ![0, 1408] ![1, 1408] inb_S3x2816_S1x1408_0_1408))⟩,
    ⟨Rect.unit ![2, 0] ![1, 1408] inb_S3x2816_S1x1408_2_0, grow (rblock (stepG m c t)) (extf .f32 (iblk m c 0 t) bitsLt_bf16_f32)
      (View.ld Z (Rect.unit ![2, 0] ![1, 1408] inb_S3x2816_S1x1408_2_0))⟩,
    ⟨Rect.unit ![1, 0] ![1, 1408] inb_S3x2816_S1x1408_1_0, grow (rblock (stepG m c t)) (down1 (grid0.coords t) (iblk m c 0 t) (iblk m c 2 t))
      (View.ld Z (Rect.unit ![1, 0] ![1, 1408] inb_S3x2816_S1x1408_1_0))⟩,
    ⟨Rect.unit ![0, 0] ![1, 1408] inb_S3x2816_S1x1408_0_0, grow (rblock (stepG m c t)) (down2 (grid0.coords t) (iblk m c 0 t) (iblk m c 2 t))
      (View.ld Z (Rect.unit ![0, 0] ![1, 1408] inb_S3x2816_S1x1408_0_0))⟩]

theorem out_taps_first (h0 : t.val % 16 = 0) : (outsAt0 m c t.val t.isLt).2.1 = View.canon (tapPieces m c t (k0_pay26 (F := Ideal))
    ++ [⟨Rect.unit ![0, 0] ![3, 2816] inb_S3x2816_S3x2816_0_0, (k0_pay26 (F := Ideal))⟩]) := by
  rw [outsAt0_A m c t h0]
  dsimp only
  frame_out
  simp (disch := decide +kernel) only [↓View.readCov_skip, ↓View.readCov_fill]
  rfl

theorem out_taps_next (h0 : ¬t.val % 16 = 0) : (outsAt0 m c t.val t.isLt).2.1
    = View.canon (tapPieces m c t (outsAt0 m c (t.val - 1) (Nat.lt_of_le_of_lt (Nat.sub_le _ _) t.isLt)).2.1) := by
  rw [outsAt0_B m c t h0]
  dsimp only
  frame_out
  rfl

/-- The two pieces of a step's bias over their contents `Z` before. -/
def biasPieces (Z : Vec Ideal S1x2816 .f32) : List (View.Piece (Elt Ideal) S1x2816 .f32) :=
  [⟨Rect.unit ![0, 1408] ![1, 1408] inb_S1x2816_S1x1408_0_1408, grow' (rblock (stepV m c t))
      (View.ld Z (Rect.unit ![0, 1408] ![1, 1408] inb_S1x2816_S1x1408_0_1408))⟩,
    ⟨Rect.unit ![0, 0] ![1, 1408] inb_S1x2816_S1x1408_0_0, grow' (rblock (stepG m c t))
      (View.ld Z (Rect.unit ![0, 0] ![1, 1408] inb_S1x2816_S1x1408_0_0))⟩]

theorem out_bias_first (h0 : t.val % 16 = 0) : (outsAt0 m c t.val t.isLt).2.2 = View.canon (biasPieces m c t (k0_pay27 (F := Ideal))
    ++ [⟨Rect.unit ![0, 0] ![1, 2816] inb_S1x2816_S1x2816_0_0, (k0_pay27 (F := Ideal))⟩]) := by
  rw [outsAt0_A m c t h0]
  dsimp only
  frame_out
  simp (disch := decide +kernel) only [↓View.readCov_skip, ↓View.readCov_fill]
  rfl

theorem out_bias_next (h0 : ¬t.val % 16 = 0) : (outsAt0 m c t.val t.isLt).2.2
    = View.canon (biasPieces m c t (outsAt0 m c (t.val - 1) (Nat.lt_of_le_of_lt (Nat.sub_le _ _) t.isLt)).2.2) := by
  rw [outsAt0_B m c t h0]
  dsimp only
  frame_out
  rfl

end Out

section Vals

variable (m : (ℓ : Loc nD τ sig) → Buf (Elt Ideal) ℓ) (c : Dev nD) (t : Fin cfg0.N)

/-! ## The outputs' contents -/

/-- The column of an output that stands at `Q` in step `t`'s block of it. -/
def colO (Q : Fin 2816) : Fin 11264 := ⟨t.val / 16 * 2816 + Q.val, by have := steps t; omega⟩

theorem home_G (q : Fin 1408) (h : 0 + q.val < 2816) : home (colO t ⟨0 + q.val, h⟩) = colG t q := by
  have ht := steps t
  refine Fin.ext ?_
  unfold home colO colG
  dsimp only
  omega

theorem home_V (q : Fin 1408) (h : 1408 + q.val < 2816) : home (colO t ⟨1408 + q.val, h⟩) = colV t q := by
  have ht := steps t
  refine Fin.ext ?_
  unfold home colO colV
  dsimp only
  omega

theorem lead (x : S1x1408.Idx) : ∃ q : Fin 1408, x = ix2 0 q :=
  ⟨x 1, by funext a; fin_cases a; exacts [Subsingleton.elim (α := Fin 1) _ _, rfl]⟩

/-- What step `t` adds to the taps' gradient. -/
def tapTerm (k : Fin 3) (Q : Fin 2816) : EReal :=
  ∑ n : Fin 256, below (whole m c) (t.val % 16 * 256 + n.val) (home (colO t Q))
    * padded (up m c) (ix2 ⟨t.val % 16 * 256 + n.val + k.val, by omega⟩ (home (colO t Q)))

/-- What step `t` adds to the bias' gradient. -/
def biasTerm (Q : Fin 2816) : EReal := ∑ n : Fin 256, below (whole m c) (t.val % 16 * 256 + n.val) (home (colO t Q))

theorem tap_piece (k : Fin 3) (o : ℕ) (ho : o + 1408 ≤ 2816) (inb : ∀ a, (![k.val, o] : Fin 2 → ℕ) a + (![1, 1408] : Fin 2 → ℕ) a ≤ S3x2816.size a)
    (d : FVec Ideal S272x1408 .f32) (Y : FVec Ideal S256x1408 .f32) (Z : Vec Ideal S3x2816 .f32) (col : Fin 1408 → Fin 11264)
    (hd : ∀ n q, d (ix2 n q) = below (whole m c) (t.val % 16 * 256 + n.val) (col q))
    (hY : ∀ q (n : Fin 256), Y (ix2 n q) = padded (up m c) (ix2 ⟨t.val % 16 * 256 + n.val + k.val, by omega⟩ (col q)))
    (hc : ∀ (q : Fin 1408) h, home (colO t ⟨o + q.val, h⟩) = col q) (x : S1x1408.Idx) :
    grow (rblock d) Y (View.ld Z (Rect.unit ![k.val, o] ![1, 1408] inb)) x
      = Z ((Rect.unit (s := S3x2816) ![k.val, o] ![1, 1408] inb).emb x)
        + tapTerm m c t ((Rect.unit (s := S3x2816) ![k.val, o] ![1, 1408] inb).emb x 0) ((Rect.unit (s := S3x2816) ![k.val, o] ![1, 1408] inb).emb x 1) := by
  obtain ⟨q, rfl⟩ := lead x
  have e : (Rect.unit (s := S3x2816) ![k.val, o] ![1, 1408] inb).emb (ix2 (0 : Fin 1) q) = ix2 k (⟨o + q.val, by omega⟩ : Fin 2816) := by
    funext a
    refine Fin.ext ((ValueKit.rect_emb_unit_val _ _ _ _ a).trans ?_)
    fin_cases a <;> rfl
  have l : View.ld Z (Rect.unit ![k.val, o] ![1, 1408] inb) (ix2 (0 : Fin 1) q) = Z ((Rect.unit (s := S3x2816) ![k.val, o] ![1, 1408] inb).emb (ix2 (0 : Fin 1) q)) := rfl
  rw [grow_at, l, e]
  refine congrArg (Z (ix2 k (⟨o + q.val, by omega⟩ : Fin 2816)) + ·) ?_
  show _ = tapTerm m c t k ⟨o + q.val, by omega⟩
  unfold tapTerm
  refine Finset.sum_congr rfl fun n _ => ?_
  rw [rblock_at, hd, hY, hc]

theorem bias_piece (o : ℕ) (ho : o + 1408 ≤ 2816) (inb : ∀ a, (![0, o] : Fin 2 → ℕ) a + (![1, 1408] : Fin 2 → ℕ) a ≤ S1x2816.size a)
    (d : FVec Ideal S272x1408 .f32) (Z : Vec Ideal S1x2816 .f32) (col : Fin 1408 → Fin 11264)
    (hd : ∀ n q, d (ix2 n q) = below (whole m c) (t.val % 16 * 256 + n.val) (col q))
    (hc : ∀ (q : Fin 1408) h, home (colO t ⟨o + q.val, h⟩) = col q) (x : S1x1408.Idx) :
    grow' (rblock d) (View.ld Z (Rect.unit ![0, o] ![1, 1408] inb)) x
      = Z ((Rect.unit (s := S1x2816) ![0, o] ![1, 1408] inb).emb x) + biasTerm m c t ((Rect.unit (s := S1x2816) ![0, o] ![1, 1408] inb).emb x 1) := by
  obtain ⟨q, rfl⟩ := lead x
  have e : (Rect.unit (s := S1x2816) ![0, o] ![1, 1408] inb).emb (ix2 (0 : Fin 1) q) = ix2 (0 : Fin 1) (⟨o + q.val, by omega⟩ : Fin 2816) := by
    funext a
    refine Fin.ext ((ValueKit.rect_emb_unit_val _ _ _ _ a).trans ?_)
    fin_cases a <;> rfl
  have l : View.ld Z (Rect.unit ![0, o] ![1, 1408] inb) (ix2 (0 : Fin 1) q) = Z ((Rect.unit (s := S1x2816) ![0, o] ![1, 1408] inb).emb (ix2 (0 : Fin 1) q)) := rfl
  rw [grow'_at, l, e]
  refine congrArg (Z (ix2 (0 : Fin 1) (⟨o + q.val, by omega⟩ : Fin 2816)) + ·) ?_
  show _ = biasTerm m c t ⟨o + q.val, by omega⟩
  unfold biasTerm
  refine Finset.sum_congr rfl fun n _ => ?_
  rw [rblock_at, hd, hc]

variable (hr : Reals m c)

include hr in
theorem taps_at (Z : Vec Ideal S3x2816 .f32) (L : List (View.Piece (Elt Ideal) S3x2816 .f32)) (y : S3x2816.Idx) :
    View.canon (tapPieces m c t Z ++ L) y = Z y + tapTerm m c t (y 0) (y 1) := by
  refine View.canon_append_of_piecesOf (fun y => Z y + tapTerm m c t (y 0) (y 1)) L (tapPieces m c t Z) ⟨?_, ?_, ?_, ?_, ?_, ?_, trivial⟩ y
    (View.cover_of_tiledL _ ![1, 1408] (by rfl) y)
  · exact tap_piece m c t 2 1408 (by decide) inb_S3x2816_S1x1408_2_1408 _ _ Z (colV t) (fun n q => stepV_at m c t q n) (lag2V m c t) (home_V t)
  · exact tap_piece m c t 1 1408 (by decide) inb_S3x2816_S1x1408_1_1408 _ _ Z (colV t) (fun n q => stepV_at m c t q n) (lag1V m c t) (home_V t)
  · exact tap_piece m c t 0 1408 (by decide) inb_S3x2816_S1x1408_0_1408 _ _ Z (colV t) (fun n q => stepV_at m c t q n) (lag0V m c t) (home_V t)
  · exact tap_piece m c t 2 0 (by decide) inb_S3x2816_S1x1408_2_0 _ _ Z (colG t) (fun n q => stepG_at m c t q hr n) (lag2G m c t) (home_G t)
  · exact tap_piece m c t 1 0 (by decide) inb_S3x2816_S1x1408_1_0 _ _ Z (colG t) (fun n q => stepG_at m c t q hr n) (lag1G m c t) (home_G t)
  · exact tap_piece m c t 0 0 (by decide) inb_S3x2816_S1x1408_0_0 _ _ Z (colG t) (fun n q => stepG_at m c t q hr n) (lag0G m c t) (home_G t)

include hr in
theorem bias_at (Z : Vec Ideal S1x2816 .f32) (L : List (View.Piece (Elt Ideal) S1x2816 .f32)) (y : S1x2816.Idx) :
    View.canon (biasPieces m c t Z ++ L) y = Z y + biasTerm m c t (y 1) := by
  refine View.canon_append_of_piecesOf (fun y => Z y + biasTerm m c t (y 1)) L (biasPieces m c t Z) ⟨?_, ?_, trivial⟩ y
    (View.cover_of_tiledL _ ![1, 1408] (by rfl) y)
  · exact bias_piece m c t 1408 (by decide) inb_S1x2816_S1x1408_0_1408 _ Z (colV t) (fun n q => stepV_at m c t q n) (home_V t)
  · exact bias_piece m c t 0 (by decide) inb_S1x2816_S1x1408_0_0 _ Z (colG t) (fun n q => stepG_at m c t q hr n) (home_G t)

theorem zero3 (y : S3x2816.Idx) : k0_pay26 (F := Ideal) y = 0 := by
  obtain ⟨k, Q, rfl⟩ : ∃ (k : Fin 3) (Q : Fin 2816), y = ix2 k Q := ⟨y 0, y 1, by funext a; fin_cases a <;> rfl⟩
  pointwise [k0_pay26]

theorem zero1 (y : S1x2816.Idx) : k0_pay27 (F := Ideal) y = 0 := by
  obtain ⟨k, Q, rfl⟩ : ∃ (k : Fin 1) (Q : Fin 2816), y = ix2 k Q := ⟨y 0, y 1, by funext a; fin_cases a <;> rfl⟩
  pointwise [k0_pay27]

include hr in
/-- After its last step a block of the taps' gradient holds the whole sums. -/
theorem taps_all (hf : t.val % 16 = 15) (k : Fin 3) (Q : Fin 2816) : (outsAt0 m c t.val t.isLt).2.1 (ix2 k Q)
    = dtaps (up m c) (dact m c) (taps m c) (bias m c) (ix2 k (colO t Q)) := by
  rw [Pipeline.eq_sum_fin_of_reset_step_of_flush (fun n h => (outsAt0 m c n h).2.1 (ix2 k Q)) 16 (0 : EReal) (fun s => tapTerm m c s k Q)
    (fun s h => by rw [out_taps_first m c s h, taps_at m c s hr, zero3]; rfl)
    (fun s h => by rw [out_taps_next m c s h, ← List.append_nil (tapPieces _ _ _ _), taps_at m c s hr]; rfl) t hf, zero_add, dtaps_at]
  refine Fin.sum_mul_add_congr fun s n hl => ?_
  have e (h) : colO ⟨16 * (t.val / 16) + s.val, h⟩ Q = colO t Q := Fin.ext (by unfold colO; dsimp only; omega)
  have e' : (16 * (t.val / 16) + s.val) % 16 = s.val := by omega
  simp only [e, e']
  rw [below_in _ _ _ hl]

include hr in
theorem bias_all (hf : t.val % 16 = 15) (Q : Fin 2816) : (outsAt0 m c t.val t.isLt).2.2 (ix2 0 Q)
    = dbias (up m c) (dact m c) (taps m c) (bias m c) (ix2 0 (colO t Q)) := by
  rw [Pipeline.eq_sum_fin_of_reset_step_of_flush (fun n h => (outsAt0 m c n h).2.2 (ix2 0 Q)) 16 (0 : EReal) (fun s => biasTerm m c s Q)
    (fun s h => by rw [out_bias_first m c s h, bias_at m c s hr, zero1]; rfl)
    (fun s h => by rw [out_bias_next m c s h, ← List.append_nil (biasPieces _ _ _ _), bias_at m c s hr]; rfl) t hf, zero_add, dbias_at]
  refine Fin.sum_mul_add_congr fun s n hl => ?_
  have e (h) : colO ⟨16 * (t.val / 16) + s.val, h⟩ Q = colO t Q := Fin.ext (by unfold colO; dsimp only; omega)
  have e' : (16 * (t.val / 16) + s.val) % 16 = s.val := by omega
  simp only [e, e']
  rw [below_in _ _ _ hl]

/-- What a point's block of the gradient of the convolution's input has to be. -/
def upWant : FVec Ideal S256x2816 .f32 := fun y =>
  dup (up m c) (dact m c) (taps m c) (bias m c)
    (ix2 (⟨t.val % 16 * 256 + (y 0).val, by have h : (y 0).val < 256 := (y 0).isLt; omega⟩ : Fin 4096) (colO t (y 1)))

include hr in
theorem up_all (n : Fin 256) (Q : Fin 2816) : (outsAt0 m c t.val t.isLt).1 (ix2 n Q)
    = dup (up m c) (dact m c) (taps m c) (bias m c) (ix2 ⟨t.val % 16 * 256 + n.val, by omega⟩ (colO t Q)) := by
  have block (o : ℕ) (ho : o + 1408 ≤ 2816) (inb : ∀ a, (![0, o] : Fin 2 → ℕ) a + (![256, 1408] : Fin 2 → ℕ) a ≤ S256x2816.size a)
      (d : FVec Ideal S272x1408 .f32) (w : FVec Ideal S3x1408 .f32) (col : Fin 1408 → Fin 11264)
      (hd : ∀ n q, d (ix2 n q) = below (whole m c) (t.val % 16 * 256 + n.val) (col q)) (hw : ∀ q k, w (ix2 k q) = taps m c (ix2 k (col q)))
      (hc : ∀ (q : Fin 1408) h, home (colO t ⟨o + q.val, h⟩) = col q) (x : S256x1408.Idx) :
      ublock w d x = upWant m c t ((Rect.unit (s := S256x2816) ![0, o] ![256, 1408] inb).emb x) := by
    obtain ⟨n, q, rfl⟩ : ∃ (n : Fin 256) (q : Fin 1408), x = ix2 n q := ⟨x 0, x 1, by funext a; fin_cases a <;> rfl⟩
    have e : (Rect.unit (s := S256x2816) ![0, o] ![256, 1408] inb).emb (ix2 n q) = ix2 n (⟨o + q.val, by omega⟩ : Fin 2816) := by
      funext a
      refine Fin.ext ((ValueKit.rect_emb_unit_val _ _ _ _ a).trans ?_)
      fin_cases a
      · exact Nat.zero_add _
      · rfl
    rw [e]
    show _ = dup (up m c) (dact m c) (taps m c) (bias m c) (ix2 (⟨t.val % 16 * 256 + n.val, by omega⟩ : Fin 4096) (colO t ⟨o + q.val, by omega⟩))
    rw [ublock_at, dup_at, hc, hd, hd, hd, hw, hw, hw]
    rfl
  rw [out_up, ← List.append_nil (upPieces m c t)]
  refine View.canon_append_of_piecesOf (upWant m c t) [] (upPieces m c t) ⟨?_, ?_, trivial⟩ (ix2 n Q) (View.cover_of_tiledL _ ![256, 1408] (by rfl) _)
  · exact block 1408 (by decide) inb_S256x2816_S256x1408_0_1408 _ _ (colV t) (fun n q => stepV_at m c t q n) (tapsV m c t) (home_V t)
  · exact block 0 (by decide) inb_S256x2816_S256x1408_0_0 _ _ (colG t) (fun n q => stepG_at m c t q hr n) (tapsG m c t) (home_G t)

end Vals

section Finite

/-! ## Finite arguments are real numbers -/

/-- A number whose absolute value is at most a real number is a real number. -/
theorem isReal_of_abs {x : EReal} (r : ℝ) (h : max x (-x) ≤ (r : EReal)) : IsReal x := by
  induction x with
  | bot => exact absurd (le_trans (le_max_right _ _) h) (not_le_of_gt (EReal.coe_lt_top r))
  | top => exact absurd (le_trans (le_max_left _ _) h) (not_le_of_gt (EReal.coe_lt_top r))
  | coe a => exact ⟨a, rfl⟩

/-- The largest finite number of the format is a real number. -/
theorem bound_real : ∃ r : ℝ, (Scalar.ofBits .f32 0x7F7FFFFF#32 : Ideal .f32) = (r : EReal) := by
  refine ⟨16777215 * 2 ^ 104, ?_⟩
  show Ideal.ofBits .f32 0x7F7FFFFF#32 = _
  simp [Ideal.ofBits, Ideal.ieee, -EReal.coe_mul, -EReal.coe_add]

/-- An entry that passes the comparison with it is a real number. -/
theorem isReal_of_le (x : Ideal .f32) (h : FloatOps.cmpf .ole (FloatOps.hostAbsf x) (Scalar.ofBits .f32 0x7F7FFFFF#32 : Ideal .f32) = 1#1) : IsReal x := by
  obtain ⟨r, hr⟩ := bound_real
  refine isReal_of_abs r ?_
  rw [hr] at h
  by_contra hn
  have h' : BitVec.ofBool (decide (max x (-x) ≤ (r : EReal))) = 1#1 := h
  rw [decide_eq_false hn] at h'
  exact absurd h' (by decide)

theorem reals (m : (ℓ : Loc nD τ sig) → Buf (Elt Ideal) ℓ) (hp : Cert.Pre_ConvIdeal_finite m) (c : Dev nD) : Reals m c := by
  obtain ⟨h0, h1, h2, h3⟩ := hp c
  exact ⟨fun i => isReal_of_le _ (congrFun h0 i), fun i => isReal_of_le _ (congrFun h1 i), fun i => isReal_of_le _ (congrFun h2 i),
    fun i => isReal_of_le _ (congrFun h3 i)⟩

end Finite

/-! ## The claim -/

section Places

variable (t : Fin cfg0.N)

theorem at_up (n : Fin 256) (Q : Fin 2816) : ((cfg0.win 12).blk t).view.emb (ix2 n Q)
    = (ix2 (⟨t.val % 16 * 256 + n.val, by omega⟩ : Fin 4096) (colO t Q) : S4096x11264.Idx) := by
  have ht := steps t
  unfold colO
  blk_point [place t]

theorem at_taps (k : Fin 3) (Q : Fin 2816) : ((cfg0.win 13).blk t).view.emb (ix2 k Q) = (ix2 k (colO t Q) : S3x11264.Idx) := by
  have ht := steps t
  unfold colO
  blk_point [place t]

theorem at_bias (k : Fin 1) (Q : Fin 2816) : ((cfg0.win 14).blk t).view.emb (ix2 k Q) = (ix2 k (colO t Q) : S1x11264.Idx) := by
  have ht := steps t
  unfold colO
  blk_point [place t]

end Places

theorem algebraic : Cert.algebraic_ConvIdeal_ConvRefIdeal_pre_finite := by
  pair_intro
  · run_from Cert.ConvIdeal.Value.run_blocks m g
  · refine (θ_run _ _ _).mono ?_ (Cert.ConvRefIdeal.Value.run m' g')
    intro r hr c
    obtain ⟨h0, h1, h2, rest⟩ := hr c
    obtain ⟨ha, hb, hd, he⟩ := hagree c
    have hreal := reals m hpre c
    have e0 : Cert.ConvRefIdeal.Value.res_main_v76 m' c = dup (m' ((c.tc : Thread _ _).loc Cert.ConvRefIdeal.main_arg0))
      (m' ((c.tc : Thread _ _).loc Cert.ConvRefIdeal.main_arg1)) (m' ((c.tc : Thread _ _).loc Cert.ConvRefIdeal.main_arg2))
      (m' ((c.tc : Thread _ _).loc Cert.ConvRefIdeal.main_arg3)) := rfl
    have e1 : Cert.ConvRefIdeal.Value.res_main_v79 m' c = dtaps (m' ((c.tc : Thread _ _).loc Cert.ConvRefIdeal.main_arg0))
      (m' ((c.tc : Thread _ _).loc Cert.ConvRefIdeal.main_arg1)) (m' ((c.tc : Thread _ _).loc Cert.ConvRefIdeal.main_arg2))
      (m' ((c.tc : Thread _ _).loc Cert.ConvRefIdeal.main_arg3)) := rfl
    have e2 : Cert.ConvRefIdeal.Value.res_main_v82 m' c = dbias (m' ((c.tc : Thread _ _).loc Cert.ConvRefIdeal.main_arg0))
      (m' ((c.tc : Thread _ _).loc Cert.ConvRefIdeal.main_arg1)) (m' ((c.tc : Thread _ _).loc Cert.ConvRefIdeal.main_arg2))
      (m' ((c.tc : Thread _ _).loc Cert.ConvRefIdeal.main_arg3)) := rfl
    rw [e0, ha, hb, hd, he] at h0
    rw [e1, ha, hb, hd, he] at h1
    rw [e2, ha, hb, hd, he] at h2
    refine ⟨h0.trans (Eq.symm ?_), h1.trans (Eq.symm ?_), h2.trans (Eq.symm ?_), rest⟩
    all_goals clear h0 h1 h2 hr rest ha hb hd he e0 e1 e2
    · refine (dats m 0 c).arrAt_eq_of_covers 12 _ (by decide +kernel) fun t _ y => ?_
      obtain ⟨n, Q, rfl⟩ : ∃ (n : Fin 256) (Q : Fin 2816), y = ix2 n Q := ⟨y 0, y 1, by funext a; fin_cases a <;> rfl⟩
      rw [at_up]
      blk_simp; rw [after0_12]
      exact up_all m c t hreal n Q
    · refine (dats m 0 c).arrAt_eq_of_covers 13 _ (by decide +kernel) fun t hf y => ?_
      obtain ⟨k, Q, rfl⟩ : ∃ (k : Fin 3) (Q : Fin 2816), y = ix2 k Q := ⟨y 0, y 1, by funext a; fin_cases a <;> rfl⟩
      rw [at_taps]
      blk_simp; rw [after0_13]
      exact taps_all m c t hreal ((flush0_13 t).mp hf) k Q
    · refine (dats m 0 c).arrAt_eq_of_covers 14 _ (by decide +kernel) fun t hf y => ?_
      obtain ⟨k, Q, rfl⟩ : ∃ (k : Fin 1) (Q : Fin 2816), y = ix2 k Q := ⟨y 0, y 1, by funext a; fin_cases a <;> rfl⟩
      obtain rfl : k = 0 := Subsingleton.elim _ _
      rw [at_bias]
      blk_simp; rw [after0_14]
      exact bias_all m c t hreal ((flush0_14 t).mp hf) Q

/-- The reference runs to its end and leaves its arguments as they were. -/
theorem reference_frame : Cert.quiescent_ConvRefIdeal := fun m ρ _ =>
  (θ_run Cert.ConvRefIdeal.defs _ _).mono (fun r h => ⟨fun c => (h c).2.2.2, sem_eq_zero_of_no_sems (by decide) r.2⟩)
    (Cert.ConvRefIdeal.Value.run m ρ)

/-- The kernel's ideal reading, asked only of finite arguments. -/
theorem ideal_frame_finite : Cert.quiescent_ConvIdeal_pre_finite := fun m ρ _ => Cert.ConvIdeal.Gen.frame m ρ

/-- The reference, asked only of finite arguments. -/
theorem reference_frame_finite : Cert.quiescent_ConvRefIdeal_pre_finite := fun m ρ _ => reference_frame m ρ trivial

end Cert.ConvValue

end
-- ==== Proof.SumNorm.lean ====
/- The sum over the devices of the gradient of the first norm's scale. -/
module

public import proofs.«01_k».proof.Defs
public import proofs.«01_k».proof.Proof.Gen.SumNormIdeal.Value
public import proofs.«01_k».proof.Proof.Gen.SumNormRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SumNormValue

open Cert.SumNormIdeal Cert.SumNormIdeal.Gen

/-- Which block every window holds at step `t`. -/
theorem place : ∀ t : Fin cfg0.N, win0_0.index t = ![0, 0, 0] ∧ win0_1.index t = ![0, 0] :=
  (by decide +kernel : ∀ t : Fin grid0.N, _)

theorem algebraic : Cert.algebraic_SumNormIdeal_SumNormRefIdeal := by
  pair_intro
  · run_from Cert.SumNormIdeal.Gen.run_main m g
  · refine (θ_run _ _ _).mono ?_ (Cert.SumNormRefIdeal.Value.run m' g')
    intro r hr c
    obtain ⟨h1, h2⟩ := hr c
    refine ⟨h1.trans ?_, h2⟩
    · rw [hagree c]
      refine Eq.symm ?_
      refine (dats m 0 c).arrAt_eq_of_covers 1 _ (by decide +kernel) fun t _ y => ?_
      blk_simp; rw [after0_1]; frame_out
      pointwise [k0_pay1]
      rw [Fin.sum_univ_eight]
      blk_point [iblk, V, place t]

/-- The reference runs to its end and leaves its arguments as they were. -/
theorem reference_frame : Cert.quiescent_SumNormRefIdeal := fun m ρ _ =>
  (θ_run Cert.SumNormRefIdeal.defs _ _).mono (fun r h => ⟨fun c => (h c).2, sem_eq_zero_of_no_sems (by decide) r.2⟩)
    (Cert.SumNormRefIdeal.Value.run m ρ)

end Cert.SumNormValue

end
-- ==== Proof.SumSmall.lean ====
/- The sum over the devices of the small gradients. -/
module

public import proofs.«01_k».proof.Defs
public import proofs.«01_k».proof.Proof.Gen.SumSmallIdeal.Value
public import proofs.«01_k».proof.Proof.Gen.SumSmallRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SumSmallValue

open Cert.SumSmallIdeal Cert.SumSmallIdeal.Gen

/-- Which block every window holds at step `t`. -/
theorem place : ∀ t : Fin cfg0.N, win0_0.index t = ![0, t.val, 0] ∧ win0_1.index t = ![t.val, 0] :=
  (by decide +kernel : ∀ t : Fin grid0.N, _)

theorem algebraic : Cert.algebraic_SumSmallIdeal_SumSmallRefIdeal := by
  pair_intro
  · run_from Cert.SumSmallIdeal.Gen.run_main m g
  · refine (θ_run _ _ _).mono ?_ (Cert.SumSmallRefIdeal.Value.run m' g')
    intro r hr c
    obtain ⟨h1, h2⟩ := hr c
    refine ⟨h1.trans ?_, h2⟩
    · rw [hagree c]
      refine Eq.symm ?_
      refine (dats m 0 c).arrAt_eq_of_covers 1 _ (by decide +kernel) fun t _ y => ?_
      blk_simp; rw [after0_1]; frame_out
      pointwise [k0_pay1]
      rw [Fin.sum_univ_eight]
      blk_point [iblk, V, place t]

/-- The reference runs to its end and leaves its arguments as they were. -/
theorem reference_frame : Cert.quiescent_SumSmallRefIdeal := fun m ρ _ =>
  (θ_run Cert.SumSmallRefIdeal.defs _ _).mono (fun r h => ⟨fun c => (h c).2, sem_eq_zero_of_no_sems (by decide) r.2⟩)
    (Cert.SumSmallRefIdeal.Value.run m ρ)

end Cert.SumSmallValue

end
-- ==== Proof.Bounds.lean ====
/- The lower bounds of the gates of the second recurrence. -/
module

public import proofs.«01_k».proof.Defs
public import proofs.«01_k».proof.Proof.Gen.BoundsIdeal.Value
public import proofs.«01_k».proof.Proof.Gen.BoundsRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BoundsValue

open Cert.BoundsIdeal Cert.BoundsIdeal.Gen

/-- Which block every window holds at step `t`. -/
theorem place : ∀ t : Fin cfg0.N, win0_0.index t = ![0, 0] ∧ win0_1.index t = ![0, 0] :=
  (by decide +kernel : ∀ t : Fin grid0.N, _)

/-- The greatest element is at least the value the search starts from. -/
theorem start_le (b : EReal) {n : ℕ} (f : Fin n → EReal) : max b (Finset.univ.fold max b f) = Finset.univ.fold max b f :=
  max_eq_right ((Finset.le_fold_max b).2 (Or.inl le_rfl))

/-- The greatest element of a column, searched over the places that fall on it. -/
theorem greatest (b : EReal) (f : BoundsRefIdeal.S2x1024.Idx → EReal) (q : Fin 1024) :
    (Finset.univ.filter fun i => BoundsRefIdeal.Gen.reducesTo_S2x1024_S1024_d0.drop i = ix1 q).fold max b f
      = (Finset.univ : Finset (Fin 2)).fold max b fun x => f (ix2 x q) :=
  BoundsRefIdeal.Gen.reducesTo_S2x1024_S1024_d0.fold_fiber_r2_a0 (ix1 q) max b f

/-- The first of two rows is kept. -/
theorem pick_first (a : EReal) :
    Scalar.select (IntOp.cmpi CmpIPredicate.eq (BitVec.ofNat 32 ((0 : Fin 2) : ℕ)) 0#32) a 0 = a := by
  rfl

/-- The second of two rows is left out. -/
theorem pick_second (a : EReal) :
    Scalar.select (IntOp.cmpi CmpIPredicate.eq (BitVec.ofNat 32 ((1 : Fin 2) : ℕ)) 0#32) a 0 = 0 := by
  rfl

/-- The softmax of a column, read from the rows of a block, is the one read from the whole array. -/
theorem column (u : Fin 2 → EReal) (v : BoundsRefIdeal.S2x1024.Idx → EReal) (q : Fin 1024)
    (h : ∀ x, u x = v (ix2 x q)) (b : EReal) :
    Ideal.div (Ideal.exp (u 0 - Finset.univ.fold max b fun x => u x))
        (∑ x, Ideal.exp (u x - Finset.univ.fold max b fun x => u x))
      = Ideal.div
          (Ideal.exp (v (ix2 0 q) - max b
            ((Finset.univ.filter fun i => BoundsRefIdeal.Gen.reducesTo_S2x1024_S1024_d0.drop i = ix1 q).fold max b v)))
          (∑ x : Fin 2, Ideal.exp (v (ix2 x q) - max b
            ((Finset.univ.filter fun i => BoundsRefIdeal.Gen.reducesTo_S2x1024_S1024_d0.drop i = ix1 q).fold max b v))) := by
  rw [greatest, start_le, show u = fun x => v (ix2 x q) from funext h]

theorem algebraic : Cert.algebraic_BoundsIdeal_BoundsRefIdeal := by
  pair_intro
  · run_from Cert.BoundsIdeal.Gen.run_main m g
  · refine (θ_run _ _ _).mono ?_ (Cert.BoundsRefIdeal.Value.run m' g')
    intro r hr c
    obtain ⟨h1, h2⟩ := hr c
    refine ⟨h1.trans ?_, h2⟩
    · rw [hagree c]
      refine Eq.symm ?_
      refine (dats m 0 c).arrAt_eq_of_covers 1 _ (by decide +kernel) fun t _ y => ?_
      blk_simp; rw [after0_1]; frame_out
      have hy : y = ix2 0 (y 1) := by blk_ext!
      rw [hy]
      pointwise [k0_pay1, start_le]
      rw [Fin.sum_univ_two, pick_first, pick_second, add_zero]
      have hv : ∀ x : Fin 2, iblk m c 0 t (ix2 x (y 1)) =
          m (c.tc.loc main_arg0) (ix2 x (((View.whole main_v0).slice (win0_1.rect t)).emb (ix2 0 (y 1)) 1)) := by
        intro x
        blk_point [iblk, V, place t]
      exact column (fun x => iblk m c 0 t (ix2 x (y 1))) (m (c.tc.loc main_arg0))
        (((View.whole main_v0).slice (win0_1.rect t)).emb (ix2 0 (y 1)) 1) hv _

/-- The reference runs to its end and leaves its arguments as they were. -/
theorem reference_frame : Cert.quiescent_BoundsRefIdeal := fun m ρ _ =>
  (θ_run Cert.BoundsRefIdeal.defs _ _).mono (fun r h => ⟨fun c => (h c).2, sem_eq_zero_of_no_sems (by decide) r.2⟩)
    (Cert.BoundsRefIdeal.Value.run m ρ)

end Cert.BoundsValue

end
-- ==== Proof.AdamConv.lean ====
/- One AdamW step of a shard of the convolution's weight. -/
module

public import proofs.«01_k».proof.Defs
public import proofs.«01_k».proof.Proof.Gen.AdamConvIdeal.Value
public import proofs.«01_k».proof.Proof.Gen.AdamConvRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamConvValue

open Cert.AdamConvIdeal Cert.AdamConvIdeal.Gen

/-- Which block every window holds at step `t`. -/
theorem place : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem algebraic : Cert.algebraic_AdamConvIdeal_AdamConvRefIdeal := by
  pair_intro
  · run_from Cert.AdamConvIdeal.Gen.run_main m g
  · run_from Cert.AdamConvRefIdeal.Value.run m' g'
    · symm
      refine (dats m 0 c).arrAt_eq_of_covers 4 _ (by decide +kernel) fun t _ y => ?_
      blk_simp; rw [after0_4]; frame_out
      pointwise [k0_pay1, k0_pay2, k0_pay3]
      blk_point [iblk, V, place t]
    · symm
      refine (dats m 0 c).arrAt_eq_of_covers 5 _ (by decide +kernel) fun t _ y => ?_
      blk_simp; rw [after0_5]; frame_out
      pointwise [k0_pay1]
      blk_point [iblk, V, place t]
    · symm
      refine (dats m 0 c).arrAt_eq_of_covers 6 _ (by decide +kernel) fun t _ y => ?_
      blk_simp; rw [after0_6]; frame_out
      pointwise [k0_pay2]
      blk_point [iblk, V, place t]

/-- The reference runs to its end and leaves its arguments as they were. -/
theorem reference_frame : Cert.quiescent_AdamConvRefIdeal := fun m ρ _ =>
  (θ_run Cert.AdamConvRefIdeal.defs _ _).mono (fun r h => ⟨fun c => (h c).2.2.2, sem_eq_zero_of_no_sems (by decide) r.2⟩)
    (Cert.AdamConvRefIdeal.Value.run m ρ)

end Cert.AdamConvValue

end
-- ==== Proof.AdamDown.lean ====
/- One AdamW step of a shard of the weight of the down projection. -/
module

public import proofs.«01_k».proof.Defs
public import proofs.«01_k».proof.Proof.Gen.AdamDownIdeal.Value
public import proofs.«01_k».proof.Proof.Gen.AdamDownRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamDownValue

open Cert.AdamDownIdeal Cert.AdamDownIdeal.Gen

/-- Which block every window holds at step `t`. -/
theorem place : ∀ t : Fin cfg0.N, win0_0.index t = ![t.val % 8, t.val / 8] ∧ win0_1.index t = ![t.val / 8, t.val % 8, 0] ∧ win0_2.index t = ![t.val % 8, t.val / 8] ∧ win0_3.index t = ![t.val % 8, t.val / 8] ∧ win0_4.index t = ![t.val % 8, t.val / 8] ∧ win0_5.index t = ![t.val % 8, t.val / 8] ∧ win0_6.index t = ![t.val % 8, t.val / 8] ∧ win0_7.index t = ![t.val % 8, t.val / 8] :=
  (by decide +kernel : ∀ t : Fin grid0.N, _)

theorem algebraic : Cert.algebraic_AdamDownIdeal_AdamDownRefIdeal := by
  pair_intro
  · run_from Cert.AdamDownIdeal.Gen.run_main m g
  · run_from Cert.AdamDownRefIdeal.Value.run m' g'
    · symm
      refine (dats m 0 c).arrAt_eq_of_covers 4 _ (by decide +kernel) fun t _ y => ?_
      blk_simp; rw [after0_4]; frame_out
      pointwise [k0_pay1]
      blk_point [iblk, V, place t]
    · symm
      refine (dats m 0 c).arrAt_eq_of_covers 5 _ (by decide +kernel) fun t _ y => ?_
      blk_simp; rw [after0_5]; frame_out
      pointwise [k0_pay1, k0_pay2, k0_pay3, k0_pay4]
      blk_point [iblk, V, place t]
    · symm
      refine (dats m 0 c).arrAt_eq_of_covers 6 _ (by decide +kernel) fun t _ y => ?_
      blk_simp; rw [after0_6]; frame_out
      pointwise [k0_pay1, k0_pay2]
      blk_point [iblk, V, place t]
    · symm
      refine (dats m 0 c).arrAt_eq_of_covers 7 _ (by decide +kernel) fun t _ y => ?_
      blk_simp; rw [after0_7]; frame_out
      pointwise [k0_pay1, k0_pay3]
      blk_point [iblk, V, place t]

/-- The reference runs to its end and leaves its arguments as they were. -/
theorem reference_frame : Cert.quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run m ρ)

end Cert.AdamDownValue

end
-- ==== Proof.AdamUp.lean ====
/- One AdamW step of a shard of the weight of the up projection. -/
module

public import proofs.«01_k».proof.Defs
public import proofs.«01_k».proof.Proof.Gen.AdamUpIdeal.Value
public import proofs.«01_k».proof.Proof.Gen.AdamUpRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamUpValue

open Cert.AdamUpIdeal Cert.AdamUpIdeal.Gen

/-- Which block every window holds at step `t`. -/
theorem place : ∀ t : Fin cfg0.N, win0_0.index t = ![t.val % 8, t.val / 8] ∧ win0_1.index t = ![t.val / 8, t.val % 8, 0] ∧ win0_2.index t = ![t.val % 8, t.val / 8] ∧ win0_3.index t = ![t.val % 8, t.val / 8] ∧ win0_4.index t = ![t.val % 8, t.val / 8] ∧ win0_5.index t = ![t.val % 8, t.val / 8] ∧ win0_6.index t = ![t.val % 8, t.val / 8] ∧ win0_7.index t = ![t.val % 8, t.val / 8] :=
  (by decide +kernel : ∀ t : Fin grid0.N, _)

theorem algebraic : Cert.algebraic_AdamUpIdeal_AdamUpRefIdeal := by
  pair_intro
  · run_from Cert.AdamUpIdeal.Gen.run_main m g
  · run_from Cert.AdamUpRefIdeal.Value.run m' g'
    · symm
      refine (dats m 0 c).arrAt_eq_of_covers 4 _ (by decide +kernel) fun t _ y => ?_
      blk_simp; rw [after0_4]; frame_out
      pointwise [k0_pay1]
      blk_point [iblk, V, place t]
    · symm
      refine (dats m 0 c).arrAt_eq_of_covers 5 _ (by decide +kernel) fun t _ y => ?_
      blk_simp; rw [after0_5]; frame_out
      pointwise [k0_pay1, k0_pay2, k0_pay3, k0_pay4]
      blk_point [iblk, V, place t]
    · symm
      refine (dats m 0 c).arrAt_eq_of_covers 6 _ (by decide +kernel) fun t _ y => ?_
      blk_simp; rw [after0_6]; frame_out
      pointwise [k0_pay1, k0_pay2]
      blk_point [iblk, V, place t]
    · symm
      refine (dats m 0 c).arrAt_eq_of_covers 7 _ (by decide +kernel) fun t _ y => ?_
      blk_simp; rw [after0_7]; frame_out
      pointwise [k0_pay1, k0_pay3]
      blk_point [iblk, V, place t]

/-- The reference runs to its end and leaves its arguments as they were. -/
theorem reference_frame : Cert.quiescent_AdamUpRefIdeal := fun m ρ _ =>
  (θ_run Cert.AdamUpRefIdeal.defs _ _).mono (fun r h => ⟨fun c => (h c).2.2.2.2, sem_eq_zero_of_no_sems (by decide) r.2⟩)
    (Cert.AdamUpRefIdeal.Value.run m ρ)

end Cert.AdamUpValue

end
-- ==== Proof.AdamOut.lean ====
/- One AdamW step of a shard of the weight of the output projection. -/
module

public import proofs.«01_k».proof.Defs
public import proofs.«01_k».proof.Proof.Gen.AdamOutIdeal.Value
public import proofs.«01_k».proof.Proof.Gen.AdamOutRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamOutValue

open Cert.AdamOutIdeal Cert.AdamOutIdeal.Gen

/-- Which block every window holds at step `t`. -/
theorem place : ∀ t : Fin cfg0.N, win0_0.index t = ![t.val % 2, t.val / 2] ∧ win0_1.index t = ![t.val / 2, t.val % 2, 0] ∧ win0_2.index t = ![t.val % 2, t.val / 2] ∧ win0_3.index t = ![t.val % 2, t.val / 2] ∧ win0_4.index t = ![t.val % 2, t.val / 2] ∧ win0_5.index t = ![t.val % 2, t.val / 2] ∧ win0_6.index t = ![t.val % 2, t.val / 2] ∧ win0_7.index t = ![t.val % 2, t.val / 2] :=
  (by decide +kernel : ∀ t : Fin grid0.N, _)

theorem algebraic : Cert.algebraic_AdamOutIdeal_AdamOutRefIdeal := by
  pair_intro
  · run_from Cert.AdamOutIdeal.Gen.run_main m g
  · run_from Cert.AdamOutRefIdeal.Value.run m' g'
    · symm
      refine (dats m 0 c).arrAt_eq_of_covers 4 _ (by decide +kernel) fun t _ y => ?_
      blk_simp; rw [after0_4]; frame_out
      pointwise [k0_pay1]
      blk_point [iblk, V, place t]
    · symm
      refine (dats m 0 c).arrAt_eq_of_covers 5 _ (by decide +kernel) fun t _ y => ?_
      blk_simp; rw [after0_5]; frame_out
      pointwise [k0_pay1, k0_pay2, k0_pay3, k0_pay4]
      blk_point [iblk, V, place t]
    · symm
      refine (dats m 0 c).arrAt_eq_of_covers 6 _ (by decide +kernel) fun t _ y => ?_
      blk_simp; rw [after0_6]; frame_out
      pointwise [k0_pay1, k0_pay2]
      blk_point [iblk, V, place t]
    · symm
      refine (dats m 0 c).arrAt_eq_of_covers 7 _ (by decide +kernel) fun t _ y => ?_
      blk_simp; rw [after0_7]; frame_out
      pointwise [k0_pay1, k0_pay3]
      blk_point [iblk, V, place t]

/-- The reference runs to its end and leaves its arguments as they were. -/
theorem reference_frame : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run m ρ)

end Cert.AdamOutValue

end
-- ==== Proof.AdamPs5.lean ====
/- One AdamW step of a shard of the weight of the branch projections. -/
module

public import proofs.«01_k».proof.Defs
public import proofs.«01_k».proof.Proof.Gen.AdamPs5Ideal.Value
public import proofs.«01_k».proof.Proof.Gen.AdamPs5RefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamPs5Value

open Cert.AdamPs5Ideal Cert.AdamPs5Ideal.Gen

/-- Which block every window holds at step `t`. -/
theorem place : ∀ t : Fin cfg0.N, win0_0.index t = ![t.val % 4, t.val / 4] ∧ win0_1.index t = ![t.val / 4, t.val % 4, 0] ∧ win0_2.index t = ![t.val % 4, t.val / 4] ∧ win0_3.index t = ![t.val % 4, t.val / 4] ∧ win0_4.index t = ![t.val % 4, t.val / 4] ∧ win0_5.index t = ![t.val % 4, t.val / 4] ∧ win0_6.index t = ![t.val % 4, t.val / 4] ∧ win0_7.index t = ![t.val % 4, t.val / 4] :=
  (by decide +kernel : ∀ t : Fin grid0.N, _)

theorem algebraic : Cert.algebraic_AdamPs5Ideal_AdamPs5RefIdeal := by
  pair_intro
  · run_from Cert.AdamPs5Ideal.Gen.run_main m g
  · run_from Cert.AdamPs5RefIdeal.Value.run m' g'
    · symm
      refine (dats m 0 c).arrAt_eq_of_covers 4 _ (by decide +kernel) fun t _ y => ?_
      blk_simp; rw [after0_4]; frame_out
      pointwise [k0_pay1]
      blk_point [iblk, V, place t]
    · symm
      refine (dats m 0 c).arrAt_eq_of_covers 5 _ (by decide +kernel) fun t _ y => ?_
      blk_simp; rw [after0_5]; frame_out
      pointwise [k0_pay1, k0_pay2, k0_pay3, k0_pay4]
      blk_point [iblk, V, place t]
    · symm
      refine (dats m 0 c).arrAt_eq_of_covers 6 _ (by decide +kernel) fun t _ y => ?_
      blk_simp; rw [after0_6]; frame_out
      pointwise [k0_pay1, k0_pay2]
      blk_point [iblk, V, place t]
    · symm
      refine (dats m 0 c).arrAt_eq_of_covers 7 _ (by decide +kernel) fun t _ y => ?_
      blk_simp; rw [after0_7]; frame_out
      pointwise [k0_pay1, k0_pay3]
      blk_point [iblk, V, place t]

/-- The reference runs to its end and leaves its arguments as they were. -/
theorem reference_frame : Cert.quiescent_AdamPs5RefIdeal := fun m ρ _ =>
  (θ_run Cert.AdamPs5RefIdeal.defs _ _).mono (fun r h => ⟨fun c => (h c).2.2.2.2, sem_eq_zero_of_no_sems (by decide) r.2⟩)
    (Cert.AdamPs5RefIdeal.Value.run m ρ)

end Cert.AdamPs5Value

end
-- ==== Proof.AdamGlu.lean ====
/- One AdamW step of a shard of the weight of the S5 gate. -/
module

public import proofs.«01_k».proof.Defs
public import proofs.«01_k».proof.Proof.Gen.AdamGluIdeal.Value
public import proofs.«01_k».proof.Proof.Gen.AdamGluRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamGluValue

open Cert.AdamGluIdeal Cert.AdamGluIdeal.Gen

/-- Which block every window holds at step `t`. -/
theorem place : ∀ t : Fin cfg0.N, win0_0.index t = ![0, t.val] ∧ win0_1.index t = ![t.val, 0, 0] ∧ win0_2.index t = ![0, t.val] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

theorem algebraic : Cert.algebraic_AdamGluIdeal_AdamGluRefIdeal := by
  pair_intro
  · run_from Cert.AdamGluIdeal.Gen.run_main m g
  · run_from Cert.AdamGluRefIdeal.Value.run m' g'
    · symm
      refine (dats m 0 c).arrAt_eq_of_covers 4 _ (by decide +kernel) fun t _ y => ?_
      blk_simp; rw [after0_4]; frame_out
      pointwise [k0_pay1]
      blk_point [iblk, V, place t]
    · symm
      refine (dats m 0 c).arrAt_eq_of_covers 5 _ (by decide +kernel) fun t _ y => ?_
      blk_simp; rw [after0_5]; frame_out
      pointwise [k0_pay1, k0_pay2, k0_pay3, k0_pay4]
      blk_point [iblk, V, place t]
    · symm
      refine (dats m 0 c).arrAt_eq_of_covers 6 _ (by decide +kernel) fun t _ y => ?_
      blk_simp; rw [after0_6]; frame_out
      pointwise [k0_pay1, k0_pay2]
      blk_point [iblk, V, place t]
    · symm
      refine (dats m 0 c).arrAt_eq_of_covers 7 _ (by decide +kernel) fun t _ y => ?_
      blk_simp; rw [after0_7]; frame_out
      pointwise [k0_pay1, k0_pay3]
      blk_point [iblk, V, place t]

/-- The reference runs to its end and leaves its arguments as they were. -/
theorem reference_frame : Cert.quiescent_AdamGluRefIdeal := fun m ρ _ =>
  (θ_run Cert.AdamGluRefIdeal.defs _ _).mono (fun r h => ⟨fun c => (h c).2.2.2.2, sem_eq_zero_of_no_sems (by decide) r.2⟩)
    (Cert.AdamGluRefIdeal.Value.run m ρ)

end Cert.AdamGluValue

end
-- ==== Proof.AdamIn.lean ====
/- One AdamW step of a shard of the weight of the input projection. -/
module

public import proofs.«01_k».proof.Defs
public import proofs.«01_k».proof.Proof.Gen.AdamInIdeal.Value
public import proofs.«01_k».proof.Proof.Gen.AdamInRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamInValue

open Cert.AdamInIdeal Cert.AdamInIdeal.Gen

/-- Which block every window holds at step `t`. -/
theorem place : ∀ t : Fin cfg0.N, win0_0.index t = ![t.val % 8, t.val / 8] ∧ win0_1.index t = ![t.val / 8, t.val % 8, 0] ∧ win0_2.index t = ![t.val % 8, t.val / 8] ∧ win0_3.index t = ![t.val % 8, t.val / 8] ∧ win0_4.index t = ![t.val % 8, t.val / 8] ∧ win0_5.index t = ![t.val % 8, t.val / 8] ∧ win0_6.index t = ![t.val % 8, t.val / 8] ∧ win0_7.index t = ![t.val % 8, t.val / 8] :=
  (by decide +kernel : ∀ t : Fin grid0.N, _)

theorem algebraic : Cert.algebraic_AdamInIdeal_AdamInRefIdeal := by
  pair_intro
  · run_from Cert.AdamInIdeal.Gen.run_main m g
  · run_from Cert.AdamInRefIdeal.Value.run m' g'
    · symm
      refine (dats m 0 c).arrAt_eq_of_covers 4 _ (by decide +kernel) fun t _ y => ?_
      blk_simp; rw [after0_4]; frame_out
      pointwise [k0_pay1]
      blk_point [iblk, V, place t]
    · symm
      refine (dats m 0 c).arrAt_eq_of_covers 5 _ (by decide +kernel) fun t _ y => ?_
      blk_simp; rw [after0_5]; frame_out
      pointwise [k0_pay1, k0_pay2, k0_pay3, k0_pay4]
      blk_point [iblk, V, place t]
    · symm
      refine (dats m 0 c).arrAt_eq_of_covers 6 _ (by decide +kernel) fun t _ y => ?_
      blk_simp; rw [after0_6]; frame_out
      pointwise [k0_pay1, k0_pay2]
      blk_point [iblk, V, place t]
    · symm
      refine (dats m 0 c).arrAt_eq_of_covers 7 _ (by decide +kernel) fun t _ y => ?_
      blk_simp; rw [after0_7]; frame_out
      pointwise [k0_pay1, k0_pay3]
      blk_point [iblk, V, place t]

/-- The reference runs to its end and leaves its arguments as they were. -/
theorem reference_frame : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run m ρ)

end Cert.AdamInValue

end
-- ==== Proof.Disc.lean ====
/- The discretisation of the S5 recurrence. -/
module

public import proofs.«01_k».proof.Defs
public import proofs.«01_k».proof.Proof.Gen.DiscIdeal.Value
public import proofs.«01_k».proof.Proof.Gen.DiscRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DiscValue

open Cert.DiscIdeal Cert.DiscIdeal.Gen

/-- Which block every window holds at step `t`. -/
theorem place : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem algebraic : Cert.algebraic_DiscIdeal_DiscRefIdeal := by
  pair_intro
  · run_from Cert.DiscIdeal.Gen.run_main m g
  · run_from Cert.DiscRefIdeal.Value.run m' g'
    · symm
      refine (dats m 0 c).arrAt_eq_of_covers 3 _ (by decide +kernel) fun t _ y => ?_
      blk_simp; rw [after0_3]; frame_out
      pointwise [k0_pay1, k0_pay2, k0_pay3, k0_pay4, k0_pay5, k0_pay6, k0_pay7, k0_pay8, k0_pay9]
      blk_point [iblk, V, place t]
    · symm
      refine (dats m 0 c).arrAt_eq_of_covers 4 _ (by decide +kernel) fun t _ y => ?_
      blk_simp; rw [after0_4]; frame_out
      pointwise [k0_pay1, k0_pay2, k0_pay3, k0_pay4, k0_pay5, k0_pay6, k0_pay7, k0_pay8, k0_pay9]
      blk_point [iblk, V, place t]
    · symm
      refine (dats m 0 c).arrAt_eq_of_covers 5 _ (by decide +kernel) fun t _ y => ?_
      blk_simp; rw [after0_5]; frame_out
      pointwise [k0_pay1, k0_pay2, k0_pay3, k0_pay4, k0_pay5, k0_pay6, k0_pay7, k0_pay8, k0_pay9]
      blk_point [iblk, V, place t]
    · symm
      refine (dats m 0 c).arrAt_eq_of_covers 6 _ (by decide +kernel) fun t _ y => ?_
      blk_simp; rw [after0_6]; frame_out
      pointwise [k0_pay1, k0_pay2, k0_pay3, k0_pay4, k0_pay5, k0_pay6, k0_pay7, k0_pay8, k0_pay9]
      blk_point [iblk, V, place t]

/-- The reference runs to its end and leaves its arguments as they were. -/
theorem reference_frame : Cert.quiescent_DiscRefIdeal := fun m ρ _ =>
  (θ_run Cert.DiscRefIdeal.defs _ _).mono (fun r h => ⟨fun c => (h c).2.2.2.2, sem_eq_zero_of_no_sems (by decide) r.2⟩)
    (Cert.DiscRefIdeal.Value.run m ρ)

end Cert.DiscValue

end
-- ==== Proof.Loss.lean ====
/- The loss head: the final norm, the squared error and its gradient. -/
module

public import proofs.«01_k».proof.Defs
public import proofs.«01_k».proof.Proof.Gen.LossIdeal.Value
public import proofs.«01_k».proof.Proof.Gen.LossRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossValue

open Cert.LossIdeal Cert.LossIdeal.Gen

/-- Which block every window holds at step `t`: row block `t`, except for the gain, the loss and the gain's gradient. -/
theorem place : ∀ t : Fin cfg0.N, win0_0.index t = ![t.val, 0] ∧ win0_1.index t = ![t.val, 0]
    ∧ win0_2.index t = ![0, 0] ∧ win0_3.index t = ![0, 0] ∧ win0_4.index t = ![t.val, 0]
    ∧ win0_5.index t = ![t.val, 0] ∧ win0_6.index t = ![0, 0] :=
  (by decide +kernel : ∀ t : Fin grid0.N, _)

/-- One half, as an extended real. -/
theorem half : Ideal.ofBits .f32 0x3F000000#32 = ((1 / 2 : ℝ) : EReal) := by
  simp [Ideal.ofBits, Ideal.ieee, -EReal.coe_mul, -EReal.coe_add]; norm_num

theorem two : Ideal.ofBits .f32 0x40000000#32 = ((2 : ℝ) : EReal) := by
  simp [Ideal.ofBits, Ideal.ieee, -EReal.coe_mul, -EReal.coe_add]; norm_num

theorem width : Ideal.ofBits .f32 0x45000000#32 = ((2048 : ℝ) : EReal) := by
  simp [Ideal.ofBits, Ideal.ieee, -EReal.coe_mul, -EReal.coe_add]; norm_num

theorem per_feature : Ideal.ofBits .f32 0x3A000000#32 = ((1 / 2048 : ℝ) : EReal) := by
  simp [Ideal.ofBits, Ideal.ieee, -EReal.coe_mul, -EReal.coe_add]; norm_num

/-- Half the derivative of a square, spread over the features, is the error over their number. -/
theorem spread (e : EReal) :
    Ideal.div (Ideal.ofBits .f32 0x3F000000#32) (Ideal.ofBits .f32 0x45000000#32)
        * (Ideal.ofBits .f32 0x40000000#32 * e) = e * Ideal.ofBits .f32 0x3A000000#32 := by
  rw [half, two, width, per_feature, ← mul_assoc, mul_comm e]
  congr 1
  have h : ((2048 : ℝ) : EReal) ≠ 0 := by norm_cast
  rw [Ideal.div, if_neg h, ← EReal.coe_inv, ← EReal.coe_mul, ← EReal.coe_mul]; norm_num

/-- A nonnegative real factor goes out of a finite sum of extended reals. -/
theorem factor_sum {n : ℕ} (c : EReal) (hn : 0 ≤ c) (ht : c ≠ ⊤) (f : Fin n → EReal) : ∑ s, c * f s = c * ∑ s, f s :=
  (map_sum ({ toFun := fun x => c * x, map_zero' := mul_zero c, map_add' := EReal.left_distrib_of_nonneg_of_ne_top hn ht } : EReal →+ EReal)
    f Finset.univ).symm

/-- Halving commutes with a finite sum of extended reals. -/
theorem half_sum {n : ℕ} (f : Fin n → EReal) :
    ∑ s, Ideal.ofBits .f32 0x3F000000#32 * f s = Ideal.ofBits .f32 0x3F000000#32 * ∑ s, f s :=
  factor_sum _ (by rw [half]; exact_mod_cast (by norm_num : (0 : ℝ) ≤ 1 / 2)) (by rw [half]; exact EReal.coe_ne_top _) f

/-- The sums start from zero. -/
theorem zero_fill (j) : k0_pay2 (F := Ideal) j = 0 := by pointwise [k0_pay2]
theorem zero_fill' (j) : k0_pay5 (F := Ideal) j = 0 := by pointwise [k0_pay5]

/-- Every step adds its row block's part. -/
theorem grow (part : FVec Ideal S1x1 .f32) (acc : Vec Ideal S1x128 .f32) (j) :
    k0_pay3 part acc j = acc j + part (ix2 0 0) := by
  pointwise [k0_pay3]
theorem grow' (part : FVec Ideal S1x2048 .f32) (acc : Vec Ideal S1x2048 .f32) (j) :
    k0_pay6 part acc j = acc j + part j := by
  pointwise [k0_pay6]

set_option maxHeartbeats 1000000 in
theorem algebraic : Cert.algebraic_LossIdeal_LossRefIdeal := by
  pair_intro
  · run_from Cert.LossIdeal.Value.run_blocks m g
  · refine (θ_run _ _ _).mono ?_ (Cert.LossRefIdeal.Value.run m' g')
    intro r hr c
    obtain ⟨h1, h2, h3, h4, h5, h6, h7⟩ := hr c
    obtain ⟨ha, hb, hd⟩ := hagree c
    unfold Cert.LossRefIdeal.Value.res_main_v48 at h2
    unfold Cert.LossRefIdeal.Value.res_main_v50 at h3
    simp only [ha, hb, hd] at h1 h2 h3 h4
    refine ⟨h1.trans (Eq.symm ?_), h2.trans (Eq.symm ?_), h3.trans (Eq.symm ?_), h4.trans (Eq.symm ?_), h5, h6, h7⟩
    · clear h1 h2 h3 h4 h5 h6 h7 hr
      refine (dats m 0 c).arrAt_eq_of_covers 3 _ (by decide +kernel) fun t hf y => ?_
      blk_simp
      rw [after0_3, Pipeline.eq_sum_fin_of_reset_step_apply_of_flush (fun n h => (outsAt0 m c n h).1) 16 (fun _ => 0)
        (fun s j => k0_pay11 (iblk m c 0 s) (iblk m c 1 s) (iblk m c 2 s) (ix2 0 0))
        (fun t h j => by rw [outsAt0_A m c t h h]; dsimp only; frame_out; rw [grow, zero_fill])
        (fun t h j => by rw [outsAt0_B m c t h h]; dsimp only; frame_out; rw [grow])
        t ((flush0_3 t).mp hf) _, zero_add]
      pointwise [k0_pay7, k0_pay8, k0_pay9, k0_pay10, k0_pay11]
      rw [half_sum]
      refine congrArg _ (Fin.sum_mul_add_congr fun s k hl => ?_)
      blk_point [iblk, V, place t, place ⟨_, Pipeline.run_point_lt_of_flush t ((flush0_3 t).mp hf) s⟩]
    · refine (dats m 0 c).arrAt_eq_of_covers 4 _ (by decide +kernel) fun t hf y => ?_
      blk_simp; rw [after0_4]
      have e : (outsAt0 m c t.val t.isLt).2.1 y = k0_pay1 (iblk m c 0 t) (k0_pay15 (iblk m c 0 t) (iblk m c 1 t) (iblk m c 2 t))
          (k0_pay16 (iblk m c 0 t) (iblk m c 1 t) (iblk m c 2 t)) y := by
        by_cases h : t.val % 16 = 0
        · rw [outsAt0_A m c t h h]; dsimp only; frame_out
        · rw [outsAt0_B m c t h h]; dsimp only; frame_out
      refine e.trans ?_
      clear e h1 h2 h3 h4 h5 h6 h7 hr
      pointwise [k0_pay1, k0_pay4, k0_pay7, k0_pay8, k0_pay9, k0_pay10, k0_pay12, k0_pay14, k0_pay15, k0_pay16]
      simp only [mul_one, spread]
      blk_point [iblk, V, place t]
    · refine (dats m 0 c).arrAt_eq_of_covers 5 _ (by decide +kernel) fun t hf y => ?_
      blk_simp; rw [after0_5]
      have e : (outsAt0 m c t.val t.isLt).2.2.1 y = k0_pay4 (iblk m c 0 t) (k0_pay15 (iblk m c 0 t) (iblk m c 1 t) (iblk m c 2 t))
          (k0_pay16 (iblk m c 0 t) (iblk m c 1 t) (iblk m c 2 t)) y := by
        by_cases h : t.val % 16 = 0
        · rw [outsAt0_A m c t h h]; dsimp only; frame_out
        · rw [outsAt0_B m c t h h]; dsimp only; frame_out
      refine e.trans ?_
      clear e h1 h2 h3 h4 h5 h6 h7 hr
      pointwise [k0_pay1, k0_pay4, k0_pay7, k0_pay8, k0_pay9, k0_pay10, k0_pay12, k0_pay14, k0_pay15, k0_pay16]
      simp only [mul_one, spread]
      blk_point [iblk, V, place t]
    · clear h1 h2 h3 h4 h5 h6 h7 hr
      refine (dats m 0 c).arrAt_eq_of_covers 6 _ (by decide +kernel) fun t hf y => ?_
      blk_simp
      rw [after0_6, Pipeline.eq_sum_fin_of_reset_step_apply_of_flush (fun n h => (outsAt0 m c n h).2.2.2) 16 (fun _ => 0)
        (fun s j => k0_pay13 (iblk m c 0 s) (iblk m c 1 s) (iblk m c 2 s) j)
        (fun t h j => by rw [outsAt0_A m c t h h]; dsimp only; frame_out; rw [grow', zero_fill'])
        (fun t h j => by rw [outsAt0_B m c t h h]; dsimp only; frame_out; rw [grow'])
        t ((flush0_6 t).mp hf) _, zero_add]
      pointwise [k0_pay7, k0_pay8, k0_pay9, k0_pay10, k0_pay12, k0_pay13]
      simp only [mul_one, spread]
      refine Fin.sum_mul_add_congr fun s k hl => ?_
      blk_point [iblk, V, place t, place ⟨_, Pipeline.run_point_lt_of_flush t ((flush0_6 t).mp hf) s⟩]

/-- The reference runs to its end and leaves its arguments as they were. -/
theorem reference_frame : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run m ρ)

end Cert.LossValue

end
-- ==== Proof.ConvFwd.lean ====
/- The causal convolution of the feed-forward rows, its gate applied. -/
module

public import proofs.«01_k».proof.Defs
public import proofs.«01_k».proof.Proof.Gen.ConvFwdIdeal.Value
public import proofs.«01_k».proof.Proof.Gen.ConvFwdRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvFwdValue

/-- One element of the convolution: the bias and three products. -/
def tap (b w₂ w₁ w₀ x₂ x₁ x₀ : EReal) : EReal := b + w₂ * x₂ + w₁ * x₁ + w₀ * x₀

theorem tap_congr {b w₂ w₁ w₀ x₂ x₁ x₀ b' w₂' w₁' w₀' x₂' x₁' x₀' : EReal} (hb : b = b') (h₂ : w₂ = w₂') (h₁ : w₁ = w₁') (h₀ : w₀ = w₀')
    (k₂ : x₂ = x₂') (k₁ : x₁ = x₁') (k₀ : x₀ = x₀') : tap b w₂ w₁ w₀ x₂ x₁ x₀ = tap b' w₂' w₁' w₀' x₂' x₁' x₀' := by
  rw [hb, h₂, h₁, h₀, k₂, k₁, k₀]

/-- The gated product. -/
def act (g v : EReal) : EReal := g * Ideal.div 1 (1 + Ideal.exp (-g)) * v

section

open Cert.ConvFwdRefIdeal Cert.ConvFwdRefIdeal.Gen

/-- The rows in their own column order, two zero rows before them. -/
def padded (u : FVec Ideal S4096x11264 .bf16) : FVec Ideal S4098x11264 .f32 :=
  concatenate S4098x11264 0 [⟨S2x11264, (broadcastInDim S2x11264 ![] bcast_S_S2x11264 (constant S_ .f32 0x00000000#32))⟩, ⟨S4096x11264, (shapeCast _ (transpose S4096x2x4x1408 [0, 2, 1, 3] (shapeCast _ (extf .f32 u bitsLt_bf16_f32) shapeCasts_S4096x11264_S4096x4x2x1408) transposes_S4096x4x2x1408_S4096x2x4x1408_0_2_1_3) shapeCasts_S4096x2x4x1408_S4096x11264)⟩] concatenates_S2x11264_S4096x11264_S4098x11264_d0

/-- The convolution of all rows. -/
def conv (u : FVec Ideal S4096x11264 .bf16) (w : FVec Ideal S3x11264 .f32) (b : FVec Ideal S1x11264 .f32) : FVec Ideal S4096x11264 .f32 :=
  addf (addf (addf (broadcastInDim S4096x11264 ![0, 1] bcast_S1x11264_S4096x11264_0_1 b) (mulf (broadcastInDim S4096x11264 ![0, 1] bcast_S1x11264_S4096x11264_0_1 (broadcastInDim S1x11264 ![1] bcast_S11264_S1x11264_1 (shapeCast _ (extractStridedSlice S1x11264 ![0, 0] w slices_S3x11264_S1x11264_0_0) shapeCasts_S1x11264_S11264))) (extractStridedSlice S4096x11264 ![0, 0] (padded u) slices_S4098x11264_S4096x11264_0_0))) (mulf (broadcastInDim S4096x11264 ![0, 1] bcast_S1x11264_S4096x11264_0_1 (broadcastInDim S1x11264 ![1] bcast_S11264_S1x11264_1 (shapeCast _ (extractStridedSlice S1x11264 ![1, 0] w slices_S3x11264_S1x11264_1_0) shapeCasts_S1x11264_S11264))) (extractStridedSlice S4096x11264 ![1, 0] (padded u) slices_S4098x11264_S4096x11264_1_0))) (mulf (broadcastInDim S4096x11264 ![0, 1] bcast_S1x11264_S4096x11264_0_1 (broadcastInDim S1x11264 ![1] bcast_S11264_S1x11264_1 (shapeCast _ (extractStridedSlice S1x11264 ![2, 0] w slices_S3x11264_S1x11264_2_0) shapeCasts_S1x11264_S11264))) (extractStridedSlice S4096x11264 ![2, 0] (padded u) slices_S4098x11264_S4096x11264_2_0))

/-- The gated product of all rows. -/
def rows (u : FVec Ideal S4096x11264 .bf16) (w : FVec Ideal S3x11264 .f32) (b : FVec Ideal S1x11264 .f32) : FVec Ideal S4096x5632 .bf16 :=
  truncf .bf16 (mulf (mulf (extractStridedSlice S4096x5632 ![0, 0] (conv u w b) slices_S4096x11264_S4096x5632_0_0) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extractStridedSlice S4096x5632 ![0, 0] (conv u w b) slices_S4096x11264_S4096x5632_0_0)))))) (extractStridedSlice S4096x5632 ![0, 5632] (conv u w b) slices_S4096x11264_S4096x5632_0_5632)) bitsLt_bf16_f32

/-- Where the column `C` stands among the columns of the weight's blocks. -/
abbrev spot (C : Fin 11264) : Fin 11264 := ⟨C.val / 1408 % 4 * 2816 + C.val / 5632 * 1408 + C.val % 1408, by omega⟩

variable (u : Vec Ideal S4096x11264 .bf16) (W : Vec Ideal S3x11264 .f32) (B : Vec Ideal S1x11264 .f32) (C : Fin 11264)

theorem padded_in (R : Fin 4098) (hR : 2 ≤ R.val) : padded u (ix2 R C) = u (ix2 ⟨R.val - 2, by omega⟩ (spot C)) := by
  pointwise [padded]
  exact dif_neg (by omega)

theorem padded_out (R : Fin 4098) (hR : R.val < 2) : padded u (ix2 R C) = 0 := by
  pointwise [padded]
  exact dif_pos hR

theorem conv_at (R : Fin 4096) : conv u W B (ix2 R C) = tap (B (ix2 0 C)) (W (ix2 0 C)) (W (ix2 1 C)) (W (ix2 2 C))
    (padded u (ix2 ⟨R.val, by omega⟩ C)) (padded u (ix2 ⟨1 + R.val, by omega⟩ C)) (padded u (ix2 ⟨2 + R.val, by omega⟩ C)) := by
  pointwise [conv, tap]

theorem rows_at (R : Fin 4096) (c : Fin 5632) : rows u W B (ix2 R c) = act (conv u W B (ix2 R ⟨c.val, by omega⟩)) (conv u W B (ix2 R ⟨5632 + c.val, by omega⟩)) := by
  pointwise [rows, act]

end

open Cert.ConvFwdIdeal Cert.ConvFwdIdeal.Gen

/-- Which block every window holds at step `t`: rows `t % 8`, columns `t / 8`. -/
theorem place : ∀ t : Fin cfg0.N, win0_0.index t = ![t.val % 8, 2 * (t.val / 8)] ∧ win0_1.index t = ![t.val % 8, 2 * (t.val / 8) + 1]
    ∧ win0_2.index t = ![32 * (t.val % 8) - 1, 2 * (t.val / 8)] ∧ win0_3.index t = ![32 * (t.val % 8) - 1, 2 * (t.val / 8) + 1]
    ∧ win0_4.index t = ![0, t.val / 8] ∧ win0_5.index t = ![0, 4 + t.val / 8] ∧ win0_6.index t = ![0, t.val / 8] ∧ win0_7.index t = ![0, 4 + t.val / 8]
    ∧ win0_8.index t = ![t.val % 8, t.val / 8] :=
  (by decide +kernel : ∀ t : Fin grid0.N, _)

/-- The row of blocks that step `t` works on. -/
theorem row : ∀ t : Fin cfg0.N, (grid0.coords t 1).val = t.val % 8 :=
  (by decide +kernel : ∀ t : Fin grid0.N, _)

/-- The tests on a row's number. -/
theorem tests : ∀ n : Fin 512, IntOp.cmpi .eq (BitVec.ofNat 32 n.val) 0#32 = (if n.val = 0 then 1#1 else 0#1)
    ∧ IntOp.cmpi .eq (BitVec.ofNat 32 n.val) 1#32 = (if n.val = 1 then 1#1 else 0#1)
    ∧ IntOp.cmpi .sge (BitVec.ofNat 32 n.val) 1#32 = (if 1 ≤ n.val then 1#1 else 0#1)
    ∧ IntOp.cmpi .sge (BitVec.ofNat 32 n.val) 2#32 = (if 2 ≤ n.val then 1#1 else 0#1) := by
  decide +kernel

/-- The test on a step's row of blocks. -/
theorem test : ∀ n : Fin 8, Scalar.cmpi .eq (BitVec.ofNat 32 n.val) 0#32 = (if n.val = 0 then 1#1 else 0#1) := by
  decide +kernel

theorem select_1 (a b : EReal) : Scalar.select 1#1 a b = a := rfl

theorem select_0 (a b : EReal) : Scalar.select 0#1 a b = b := rfl

/-- What a step stores. -/
abbrev outBlock (i : grid0.Coords) (x y : Vec Ideal S512x1408 .bf16) (h k : Vec Ideal S16x1408 .bf16) (w v : Vec Ideal S3x1408 .f32) (b d : Vec Ideal S1x1408 .f32) : Vec Ideal S512x1408 .bf16 :=
  k0_pay1 (k0_pay9 w b (k0_pay2 x) (k0_pay5 i h) (k0_pay6 i x h) k0_pay7 (k0_pay8 i x h)) v d (k0_pay10 y)
    (k0_pay12 (Scalar.cmpi .eq (BitVec.ofNat 32 (i 1).val) 0#32) k) (k0_pay13 (Scalar.cmpi .eq (BitVec.ofNat 32 (i 1).val) 0#32) k)
    (k0_pay14 (Scalar.cmpi .eq (BitVec.ofNat 32 (i 1).val) 0#32) y k) k0_pay15 k0_pay16

variable (i : grid0.Coords) (x y : Vec Ideal S512x1408 .bf16) (h k : Vec Ideal S16x1408 .bf16) (w v : Vec Ideal S3x1408 .f32) (b d : Vec Ideal S1x1408 .f32) (q : Fin 1408)

theorem block_in (r : Fin 512) (hr : 2 ≤ r.val) : outBlock i x y h k w v b d (ix2 r q) =
    act (tap (b (ix2 0 q)) (w (ix2 0 q)) (w (ix2 1 q)) (w (ix2 2 q)) (x (ix2 ⟨r.val - 2, by omega⟩ q)) (x (ix2 ⟨r.val - 1, by omega⟩ q)) (x (ix2 r q)))
      (tap (d (ix2 0 q)) (v (ix2 0 q)) (v (ix2 1 q)) (v (ix2 2 q)) (y (ix2 ⟨r.val - 2, by omega⟩ q)) (y (ix2 ⟨r.val - 1, by omega⟩ q)) (y (ix2 r q))) := by
  obtain ⟨t1, t2, t3, t4⟩ := tests r
  have e1 : (r.val + 512 - 1) % 512 = r.val - 1 := by omega
  have e2 : (r.val + 512 - 2) % 512 = r.val - 2 := by omega
  pointwise [k0_pay1, k0_pay2, k0_pay3, k0_pay4, k0_pay5, k0_pay6, k0_pay7, k0_pay8, k0_pay9, k0_pay10, k0_pay11, k0_pay12, k0_pay13, k0_pay14, k0_pay15, k0_pay16, act, tap, zero_sub, t1, t2, t3, t4]
  have f0 : ¬r.val = 0 := by omega
  have f1 : ¬r.val = 1 := by omega
  have f2 : 1 ≤ r.val := by omega
  simp only [if_neg f0, if_neg f1, if_pos f2, if_pos hr, select_1, select_0, e1, e2]

/-- Zero where step `i` works on the first rows, else `a`. -/
def halo (i : grid0.Coords) (a : EReal) : EReal := if (i 1).val = 0 then 0 else a

theorem block_1 : outBlock i x y h k w v b d (ix2 1 q) =
    act (tap (b (ix2 0 q)) (w (ix2 0 q)) (w (ix2 1 q)) (w (ix2 2 q)) (halo i (h (ix2 15 q))) (x (ix2 0 q)) (x (ix2 1 q)))
      (tap (d (ix2 0 q)) (v (ix2 0 q)) (v (ix2 1 q)) (v (ix2 2 q)) (halo i (k (ix2 15 q))) (y (ix2 0 q)) (y (ix2 1 q))) := by
  have z : Scalar.cmpi .eq (BitVec.ofNat 32 (i 1).val) 0#32 = (if (i 1).val = 0 then 1#1 else 0#1) := test (i 1)
  have c0 : IntOp.cmpi .eq 1#32 0#32 = 0#1 := by decide
  have c1 : IntOp.cmpi .sge 1#32 1#32 = 1#1 := by decide
  pointwise [k0_pay1, k0_pay2, k0_pay3, k0_pay4, k0_pay5, k0_pay6, k0_pay7, k0_pay8, k0_pay9, k0_pay10, k0_pay11, k0_pay12, k0_pay13, k0_pay14, k0_pay15, k0_pay16, act, tap, zero_sub, halo]
  simp only [z, c0, c1, select_1, select_0]
  split_ifs <;> simp only [select_1, select_0, mul_zero]

theorem block_0 : outBlock i x y h k w v b d (ix2 0 q) =
    act (tap (b (ix2 0 q)) (w (ix2 0 q)) (w (ix2 1 q)) (w (ix2 2 q)) (halo i (h (ix2 14 q))) (halo i (h (ix2 15 q))) (x (ix2 0 q)))
      (tap (d (ix2 0 q)) (v (ix2 0 q)) (v (ix2 1 q)) (v (ix2 2 q)) (halo i (k (ix2 14 q))) (halo i (k (ix2 15 q))) (y (ix2 0 q))) := by
  have z : Scalar.cmpi .eq (BitVec.ofNat 32 (i 1).val) 0#32 = (if (i 1).val = 0 then 1#1 else 0#1) := test (i 1)
  have c0 : IntOp.cmpi .eq 1#32 0#32 = 0#1 := by decide
  have c1 : IntOp.cmpi .sge 1#32 1#32 = 1#1 := by decide
  pointwise [k0_pay1, k0_pay2, k0_pay3, k0_pay4, k0_pay5, k0_pay6, k0_pay7, k0_pay8, k0_pay9, k0_pay10, k0_pay11, k0_pay12, k0_pay13, k0_pay14, k0_pay15, k0_pay16, act, tap, zero_sub, halo]
  simp only [z, c0, c1, select_1, select_0]
  split_ifs <;> simp only [select_1, select_0, mul_zero]

variable (m : (ℓ : Loc nD τ sig) → Buf (Elt Ideal) ℓ) (c : Dev nD) (t : Fin cfg0.N)

theorem halo_0 (a) (h : t.val % 8 = 0) : halo (grid0.coords t) a = 0 := if_pos ((row t).trans h)

theorem halo_1 (a) (h : ¬t.val % 8 = 0) : halo (grid0.coords t) a = a := if_neg fun e => h ((row t).symm.trans e)

theorem at_step (y : S512x1408.Idx) : outBlock (grid0.coords t) (iblk m c 0 t) (iblk m c 1 t) (iblk m c 2 t) (iblk m c 3 t) (iblk m c 4 t) (iblk m c 5 t) (iblk m c 6 t) (iblk m c 7 t) y
    = rows (m ((c.tc : Thread _ _).loc main_arg0)) (m ((c.tc : Thread _ _).loc main_arg1)) (m ((c.tc : Thread _ _).loc main_arg2)) (((View.whole main_v0).slice (win0_8.rect t)).emb y) := by
  have ht : t.val < 32 := t.isLt
  obtain ⟨r, q, rfl⟩ : ∃ (r : Fin 512) (q : Fin 1408), y = ix2 r q := ⟨y 0, y 1, by funext a; fin_cases a <;> rfl⟩
  have e : ((View.whole main_v0).slice (win0_8.rect t)).emb (ix2 r q)
      = ix2 (⟨t.val % 8 * 512 + r.val, by omega⟩ : Fin 4096) (⟨t.val / 8 * 1408 + q.val, by omega⟩ : Fin 5632) := by
    blk_point [place t]
  rw [e, rows_at, conv_at, conv_at]
  by_cases h2 : 2 ≤ r.val
  · rw [block_in _ _ _ _ _ _ _ _ _ _ r h2]
    repeat rw [padded_in _ _ _ (by dsimp only; omega)]
    refine congrArg₂ act (tap_congr ?_ ?_ ?_ ?_ ?_ ?_ ?_) (tap_congr ?_ ?_ ?_ ?_ ?_ ?_ ?_) <;> blk_point [iblk, V, place t]
  · by_cases h1 : r.val = 1
    · obtain rfl : r = 1 := Fin.ext h1
      rw [block_1]
      by_cases h : t.val % 8 = 0
      · rw [halo_0 t _ h, halo_0 t _ h]
        refine congrArg₂ act (tap_congr ?_ ?_ ?_ ?_ ?_ ?_ ?_) (tap_congr ?_ ?_ ?_ ?_ ?_ ?_ ?_) <;>
          first
          | exact (padded_out _ _ _ (by dsimp only; omega)).symm
          | (rw [padded_in _ _ _ (by dsimp only; omega)]; blk_point [iblk, V, place t])
          | blk_point [iblk, V, place t]
      · rw [halo_1 t _ h, halo_1 t _ h]
        repeat rw [padded_in _ _ _ (by dsimp only; omega)]
        refine congrArg₂ act (tap_congr ?_ ?_ ?_ ?_ ?_ ?_ ?_) (tap_congr ?_ ?_ ?_ ?_ ?_ ?_ ?_) <;> blk_point [iblk, V, place t]
    · obtain rfl : r = 0 := Fin.ext (show r.val = 0 by omega)
      rw [block_0]
      by_cases h : t.val % 8 = 0
      · rw [halo_0 t _ h, halo_0 t _ h, halo_0 t _ h, halo_0 t _ h]
        refine congrArg₂ act (tap_congr ?_ ?_ ?_ ?_ ?_ ?_ ?_) (tap_congr ?_ ?_ ?_ ?_ ?_ ?_ ?_) <;>
          first
          | exact (padded_out _ _ _ (by dsimp only; omega)).symm
          | (rw [padded_in _ _ _ (by dsimp only; omega)]; blk_point [iblk, V, place t])
          | blk_point [iblk, V, place t]
      · rw [halo_1 t _ h, halo_1 t _ h, halo_1 t _ h, halo_1 t _ h]
        repeat rw [padded_in _ _ _ (by dsimp only; omega)]
        refine congrArg₂ act (tap_congr ?_ ?_ ?_ ?_ ?_ ?_ ?_) (tap_congr ?_ ?_ ?_ ?_ ?_ ?_ ?_) <;> blk_point [iblk, V, place t]

theorem algebraic : Cert.algebraic_ConvFwdIdeal_ConvFwdRefIdeal := by
  pair_intro
  · run_from Cert.ConvFwdIdeal.Gen.run_main m g
  · refine (θ_run _ _ _).mono ?_ (Cert.ConvFwdRefIdeal.Value.run m' g')
    intro r hr c
    obtain ⟨h1, rest⟩ := hr c
    obtain ⟨ha, hb, hd⟩ := hagree c
    have e : Cert.ConvFwdRefIdeal.Value.res_main_v32 m' c = rows (m' ((c.tc : Thread _ _).loc Cert.ConvFwdRefIdeal.main_arg0))
      (m' ((c.tc : Thread _ _).loc Cert.ConvFwdRefIdeal.main_arg1)) (m' ((c.tc : Thread _ _).loc Cert.ConvFwdRefIdeal.main_arg2)) := rfl
    rw [e, ha, hb, hd] at h1
    refine ⟨h1.trans (Eq.symm ?_), rest⟩
    clear h1 hr rest ha hb hd e
    refine (dats m 0 c).arrAt_eq_of_covers 8 _ (by decide +kernel) fun t _ y => ?_
    blk_simp; rw [after0_8]; frame_out
    exact at_step m c t y
/-- The reference runs to its end and leaves its arguments as they were. -/
theorem reference_frame : Cert.quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run m ρ)

end Cert.ConvFwdValue

end
-- ==== Proof.GluFwd.lean ====
/- The S5 output gate. -/
module

public import proofs.«01_k».proof.Defs
public import proofs.«01_k».proof.Proof.Gen.GluFwdIdeal.Value
public import proofs.«01_k».proof.Proof.Gen.GluFwdRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluFwdValue

open Cert.GluFwdIdeal Cert.GluFwdIdeal.Gen

/-- The two orders in which gelu multiplies its half. -/
theorem fold_gelu (x a : EReal) : Ideal.ofBits .f32 0x3F000000#32 * x * a = x * (Ideal.ofBits .f32 0x3F000000#32 * a) := by
  rw [mul_comm _ x, mul_assoc]

/-- Which block every window holds at step `t`. -/
theorem place : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem algebraic : Cert.algebraic_GluFwdIdeal_GluFwdRefIdeal := by
  pair_intro
  · run_from Cert.GluFwdIdeal.Gen.run_main m g
  · run_from Cert.GluFwdRefIdeal.Value.run m' g'
    · symm
      refine (dats m 0 c).arrAt_eq_of_covers 3 _ (by decide +kernel) fun t _ y => ?_
      blk_simp; rw [after0_3]; frame_out
      pointwise [k0_pay1]
      simp only [zero_sub, fold_gelu]
      blk_point [iblk, V, place t]

/-- The reference runs to its end and leaves its arguments as they were. -/
theorem reference_frame : Cert.quiescent_GluFwdRefIdeal := fun m ρ _ =>
  (θ_run Cert.GluFwdRefIdeal.defs _ _).mono (fun r h => ⟨fun c => (h c).2, sem_eq_zero_of_no_sems (by decide) r.2⟩)
    (Cert.GluFwdRefIdeal.Value.run m ρ)

end Cert.GluFwdValue

end
-- ==== Proof.MergeFwd.lean ====
/- The merge of the two branches. -/
module

public import proofs.«01_k».proof.Defs
public import proofs.«01_k».proof.Proof.Gen.MergeFwdIdeal.Value
public import proofs.«01_k».proof.Proof.Gen.MergeFwdRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeFwdValue

open Cert.MergeFwdIdeal Cert.MergeFwdIdeal.Gen

/-- Which block every window holds at step `t`. -/
theorem place : ∀ t : Fin cfg0.N, win0_0.index t = ![t.val % 16, 5 + t.val / 16] ∧ win0_1.index t = ![t.val % 16, 7 + t.val / 16] ∧ win0_2.index t = ![t.val % 16, t.val / 16] ∧ win0_3.index t = ![t.val % 16, t.val / 16] ∧ win0_4.index t = ![t.val % 16, t.val / 16] :=
  (by decide +kernel : ∀ t : Fin grid0.N, _)

theorem algebraic : Cert.algebraic_MergeFwdIdeal_MergeFwdRefIdeal := by
  pair_intro
  · run_from Cert.MergeFwdIdeal.Gen.run_main m g
  · run_from Cert.MergeFwdRefIdeal.Value.run m' g'
    · symm
      refine (dats m 0 c).arrAt_eq_of_covers 4 _ (by decide +kernel) fun t _ y => ?_
      blk_simp; rw [after0_4]; frame_out
      pointwise [k0_pay1]
      simp only [zero_sub]
      blk_point [iblk, V, place t]

/-- The reference runs to its end and leaves its arguments as they were. -/
theorem reference_frame : Cert.quiescent_MergeFwdRefIdeal := fun m ρ _ =>
  (θ_run Cert.MergeFwdRefIdeal.defs _ _).mono (fun r h => ⟨fun c => (h c).2, sem_eq_zero_of_no_sems (by decide) r.2⟩)
    (Cert.MergeFwdRefIdeal.Value.run m ρ)

end Cert.MergeFwdValue

end
-- ==== Proof.RmsFwd.lean ====
/- The RMS norm. -/
module

public import proofs.«01_k».proof.Defs
public import proofs.«01_k».proof.Proof.Gen.RmsFwdIdeal.Value
public import proofs.«01_k».proof.Proof.Gen.RmsFwdRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RmsFwdValue

open Cert.RmsFwdIdeal Cert.RmsFwdIdeal.Gen

/-- Which block every window holds at step `t`. -/
theorem place : ∀ t : Fin cfg0.N, win0_0.index t = ![t.val, 0] ∧ win0_1.index t = ![0, 0] ∧ win0_2.index t = ![t.val, 0] :=
  (by decide +kernel : ∀ t : Fin grid0.N, _)

theorem algebraic : Cert.algebraic_RmsFwdIdeal_RmsFwdRefIdeal := by
  pair_intro
  · run_from Cert.RmsFwdIdeal.Gen.run_main m g
  · run_from Cert.RmsFwdRefIdeal.Value.run m' g'
    · symm
      refine (dats m 0 c).arrAt_eq_of_covers 2 _ (by decide +kernel) fun t _ y => ?_
      blk_simp; rw [after0_2]; frame_out
      pointwise [k0_pay1]
      blk_point [iblk, V, place t]

/-- The reference runs to its end and leaves its arguments as they were. -/
theorem reference_frame : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run m ρ)

end Cert.RmsFwdValue

end
-- ==== Proof.Ps5.lean ====
/- A branch projection.
   The grid walks over blocks of the result, and every step forms its block whole. -/
module

public import proofs.«01_k».proof.Defs
public import proofs.«01_k».proof.Proof.Gen.Ps5Ideal.Value
public import proofs.«01_k».proof.Proof.Gen.Ps5RefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ps5Value

open Cert.Ps5Ideal Cert.Ps5Ideal.Gen

/-- Which block every window holds at step `t`. -/
theorem place : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The running block starts from zero. -/
theorem start (j) : k0_pay1 (F := Ideal) j = 0 := by pointwise [k0_pay1]

/-- The product of the two blocks that a step holds. -/
def part (a : Vec Ideal S1024x1024 .bf16) (b : Vec Ideal S1x1024x512 .bf16) (j : S1024x512.Idx) : EReal :=
  ∑ k, a (ix2 (j 0) k) * b (ix3 0 k (j 1))

/-- Every step adds it. -/
theorem grow (acc) (a : Vec Ideal S1024x1024 .bf16) (b : Vec Ideal S1x1024x512 .bf16) (j) :
    k0_pay2 (F := Ideal) acc a b j = acc j + part a b j := by
  pointwise [k0_pay2, part]

theorem algebraic : Cert.algebraic_Ps5Ideal_Ps5RefIdeal := by
  pair_intro
  · run_from Cert.Ps5Ideal.Value.run_blocks m g
  · refine (θ_run _ _ _).mono ?_ (Cert.Ps5RefIdeal.Value.run m' g')
    intro r hr c
    obtain ⟨h1, h2, h3⟩ := hr c
    obtain ⟨ha, hb⟩ := hagree c
    simp only [ha, hb] at h1
    refine ⟨h1.trans (Eq.symm ?_), h2, h3⟩
    clear h1 h2 h3 hr
    refine (dats m 0 c).arrAt_eq_of_covers 2 _ (by decide +kernel) fun t hf y => ?_
    blk_simp
    rw [after0_2]
    dsimp only [outsAt0]
    frame_out
    rw [grow, start, zero_add]
    pointwise [part]
    refine Finset.sum_congr (M := EReal) rfl fun k _ => ?_
    blk_point [iblk, V, place t]

/-- The reference runs to its end and leaves its arguments as they were. -/
theorem reference_frame : Cert.quiescent_Ps5RefIdeal := fun m ρ _ =>
  (θ_run Cert.Ps5RefIdeal.defs _ _).mono (fun r h => ⟨fun c => (h c).2, sem_eq_zero_of_no_sems (by decide) r.2⟩)
    (Cert.Ps5RefIdeal.Value.run m ρ)

end Cert.Ps5Value

end
-- ==== Proof.Out.lean ====
/- The output projection and its residual.
   The grid walks over blocks of the result, and every step forms its block whole. -/
module

public import proofs.«01_k».proof.Defs
public import proofs.«01_k».proof.Proof.Gen.OutIdeal.Value
public import proofs.«01_k».proof.Proof.Gen.OutRefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutValue

open Cert.OutIdeal Cert.OutIdeal.Gen

/-- Which block every window holds at step `t`. -/
theorem place : ∀ t : Fin cfg0.N, win0_0.index t = ![t.val / 2, 0] ∧ win0_1.index t = ![0, t.val % 2] ∧ win0_3.index t = ![t.val / 2, t.val % 2] ∧ win0_2.index t = ![t.val / 2, t.val % 2] :=
  (by decide +kernel : ∀ t : Fin grid0.N, _)

/-- The running block starts from zero. -/
theorem start (j) : k0_pay1 (F := Ideal) j = 0 := by pointwise [k0_pay1]

/-- The product of the two blocks that a step holds. -/
def part (a : Vec Ideal S1024x2048 .bf16) (b : Vec Ideal S2048x1024 .bf16) (j : S1024x1024.Idx) : EReal :=
  ∑ k, a (ix2 (j 0) k) * b (ix2 k (j 1))

/-- Every step adds it. -/
theorem grow (acc) (a : Vec Ideal S1024x2048 .bf16) (b : Vec Ideal S2048x1024 .bf16) (j) :
    k0_pay2 (F := Ideal) acc a b j = acc j + part a b j := by
  pointwise [k0_pay2, part]

/-- The block stored is the running block plus the block of the residual. -/
theorem keep (acc) (r : Vec Ideal S1024x1024 .f32) (j) : k0_pay3 (F := Ideal) acc r j = r j + acc j := by
  pointwise [k0_pay3]; exact add_comm _ _

theorem algebraic : Cert.algebraic_OutIdeal_OutRefIdeal := by
  pair_intro
  · run_from Cert.OutIdeal.Value.run_blocks m g
  · refine (θ_run _ _ _).mono ?_ (Cert.OutRefIdeal.Value.run m' g')
    intro r hr c
    obtain ⟨h1, h2, h3, h4⟩ := hr c
    obtain ⟨ha, hb, hd⟩ := hagree c
    simp only [ha, hb, hd] at h1
    refine ⟨h1.trans (Eq.symm ?_), h2, h3, h4⟩
    clear h1 h2 h3 h4 hr
    refine (dats m 0 c).arrAt_eq_of_covers 3 _ (by decide +kernel) fun t hf y => ?_
    blk_simp
    rw [after0_3]
    dsimp only [outsAt0]
    frame_out
    rw [keep, grow, start, zero_add]
    pointwise [part]
    refine congrArg₂ (· + ·) (by blk_point [iblk, V, place t]) (Finset.sum_congr (M := EReal) rfl fun k _ => ?_)
    blk_point [iblk, V, place t]

/-- The reference runs to its end and leaves its arguments as they were. -/
theorem reference_frame : Cert.quiescent_OutRefIdeal := fun m ρ _ =>
  (θ_run Cert.OutRefIdeal.defs _ _).mono (fun r h => ⟨fun c => (h c).2, sem_eq_zero_of_no_sems (by decide) r.2⟩)
    (Cert.OutRefIdeal.Value.run m ρ)

end Cert.OutValue

end
-- ==== Proof.Down.lean ====
/- The down projection and its residual.
   The grid walks over blocks of the result and, innermost, over blocks of the contracted axis; the sum over those
   blocks and within each is the one long sum of the plain product. -/
module

public import proofs.«01_k».proof.Defs
public import proofs.«01_k».proof.Proof.Gen.DownIdeal.Value
public import proofs.«01_k».proof.Proof.Gen.DownRefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownValue

open Cert.DownIdeal Cert.DownIdeal.Gen

/-- Which block every window holds at step `t`. -/
theorem place : ∀ t : Fin cfg0.N, win0_0.index t = ![t.val / 4, t.val % 2] ∧ win0_1.index t = ![t.val % 2, t.val / 2 % 2] ∧ win0_3.index t = ![t.val / 4, t.val / 2 % 2] ∧ win0_2.index t = ![t.val / 4, t.val / 2 % 2] :=
  (by decide +kernel : ∀ t : Fin grid0.N, _)

/-- The running block starts from zero. -/
theorem start (j) : k0_pay1 (F := Ideal) j = 0 := by pointwise [k0_pay1]

/-- The product of the two blocks that a step holds. -/
def part (a : Vec Ideal S1024x2816 .bf16) (b : Vec Ideal S2816x1024 .bf16) (j : S1024x1024.Idx) : EReal :=
  ∑ k, a (ix2 (j 0) k) * b (ix2 k (j 1))

/-- Every step adds it. -/
theorem grow (acc) (a : Vec Ideal S1024x2816 .bf16) (b : Vec Ideal S2816x1024 .bf16) (j) :
    k0_pay2 (F := Ideal) acc a b j = acc j + part a b j := by
  pointwise [k0_pay2, part]

/-- The running block plus the block of the residual. -/
def both (r acc : Vec Ideal S1024x1024 .f32) (j : S1024x1024.Idx) : EReal := r j + acc j

/-- It is what the last step stores. -/
theorem keep (acc) (r : Vec Ideal S1024x1024 .f32) (j) : k0_pay3 (F := Ideal) acc r j = both r acc j := by
  pointwise [k0_pay3, both]; exact add_comm _ _

variable (m : (ℓ : Loc nD τ sig) → Buf (Elt Ideal) ℓ) (c : Dev nD)

/-- What the running block holds after the first step of a run, -/
theorem outsAt_first (t : Fin cfg0.N) (h : t.val % 2 = 0) (j) :
    (outsAt0 m c t.val t.isLt).2 j = 0 + part (iblk m c 0 t) (iblk m c 1 t) j := by
  rw [outsAt0_A m c t h (by omega)]; dsimp only; frame_out; rw [grow, start]

/-- after a later step, -/
theorem outsAt_next (t : Fin cfg0.N) (h : ¬t.val % 2 = 0) (j) :
    (outsAt0 m c t.val t.isLt).2 j = (outsAt0 m c (t.val - 1) (Nat.lt_of_le_of_lt (Nat.sub_le _ _) t.isLt)).2 j
      + part (iblk m c 0 t) (iblk m c 1 t) j := by
  rw [outsAt0_B m c t h (by omega)]; dsimp only; frame_out; rw [grow, read_unread_whole]

/-- and what the result's block holds after the last. -/
theorem outsAt_last (t : Fin cfg0.N) (h : t.val % 2 = 1) (j) :
    (outsAt0 m c t.val t.isLt).1 j = both (iblk m c 2 t) (outsAt0 m c t.val t.isLt).2 j := by
  rw [outsAt0_B m c t (by omega) h]; dsimp only; frame_out; rw [keep]

theorem algebraic : Cert.algebraic_DownIdeal_DownRefIdeal := by
  pair_intro
  · run_from Cert.DownIdeal.Value.run_blocks m g
  · refine (θ_run _ _ _).mono ?_ (Cert.DownRefIdeal.Value.run m' g')
    intro r hr c
    obtain ⟨h1, h2, h3, h4⟩ := hr c
    obtain ⟨ha, hb, hd⟩ := hagree c
    simp only [ha, hb, hd] at h1
    refine ⟨h1.trans (Eq.symm ?_), h2, h3, h4⟩
    clear h1 h2 h3 h4 hr
    refine (dats m 0 c).arrAt_eq_of_covers 3 _ (by decide +kernel) fun t hf y => ?_
    blk_simp
    rw [after0_3]
    have hl := (flush0_3 t).mp hf
    rw [outsAt_last m c t hl, both, Pipeline.eq_sum_fin_of_reset_step_apply_of_flush (fun n h => (outsAt0 m c n h).2) 2 (fun _ => 0)
      (fun s j => part (iblk m c 0 s) (iblk m c 1 s) j)
      (fun t h j => outsAt_first m c t h j) (fun t h j => outsAt_next m c t h j) t hl _, zero_add]
    pointwise [part]
    refine congrArg₂ (· + ·) (by blk_point [iblk, V, place t]) (Fin.sum_mul_add_congr fun s k hk => ?_)
    blk_point [iblk, V, place t, place ⟨_, Pipeline.run_point_lt_of_flush t hl s⟩]

/-- The reference runs to its end and leaves its arguments as they were. -/
theorem reference_frame : Cert.quiescent_DownRefIdeal := fun m ρ _ =>
  (θ_run Cert.DownRefIdeal.defs _ _).mono (fun r h => ⟨fun c => (h c).2, sem_eq_zero_of_no_sems (by decide) r.2⟩)
    (Cert.DownRefIdeal.Value.run m ρ)

end Cert.DownValue

end
-- ==== Proof.Up.lean ====
/- The up projection.
   The grid walks over blocks of the result, and every step forms its block whole. -/
module

public import proofs.«01_k».proof.Defs
public import proofs.«01_k».proof.Proof.Gen.UpIdeal.Value
public import proofs.«01_k».proof.Proof.Gen.UpRefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpValue

open Cert.UpIdeal Cert.UpIdeal.Gen

/-- Which block every window holds at step `t`. -/
theorem place : ∀ t : Fin cfg0.N, win0_0.index t = ![t.val / 8, 0] ∧ win0_1.index t = ![t.val % 8 / 2, 0, t.val % 8 % 2] ∧ win0_2.index t = ![t.val / 8, 2 * (t.val % 8 % 4) + t.val % 8 / 4] :=
  (by decide +kernel : ∀ t : Fin grid0.N, _)

/-- The running block starts from zero. -/
theorem start (j) : k0_pay1 (F := Ideal) j = 0 := by pointwise [k0_pay1]

/-- The product of the two blocks that a step holds. -/
def part (a : Vec Ideal S1024x2048 .bf16) (b : Vec Ideal S1x2048x1408 .bf16) (j : S1024x1408.Idx) : EReal :=
  ∑ k, a (ix2 (j 0) k) * b (ix3 0 k (j 1))

/-- Every step adds it. -/
theorem grow (acc) (a : Vec Ideal S1024x2048 .bf16) (b : Vec Ideal S1x2048x1408 .bf16) (j) :
    k0_pay2 (F := Ideal) acc a b j = acc j + part a b j := by
  pointwise [k0_pay2, part]

/-- The running block is stored as it stands. -/
theorem keep (acc) (j) : k0_pay3 (F := Ideal) acc j = acc (j) := by pointwise [k0_pay3]

theorem algebraic : Cert.algebraic_UpIdeal_UpRefIdeal := by
  pair_intro
  · run_from Cert.UpIdeal.Value.run_blocks m g
  · refine (θ_run _ _ _).mono ?_ (Cert.UpRefIdeal.Value.run m' g')
    intro r hr c
    obtain ⟨h1, h2, h3⟩ := hr c
    obtain ⟨ha, hb⟩ := hagree c
    simp only [ha, hb] at h1
    refine ⟨h1.trans (Eq.symm ?_), h2, h3⟩
    clear h1 h2 h3 hr
    refine (dats m 0 c).arrAt_eq_of_covers 2 _ (by decide +kernel) fun t hf y => ?_
    blk_simp
    rw [after0_2]
    dsimp only [outsAt0]
    frame_out
    rw [keep, grow, start, zero_add]
    pointwise [part]
    refine Finset.sum_congr (M := EReal) rfl fun k _ => ?_
    blk_point [iblk, V, place t]
    all_goals
      have hn : t.val % 8 < 8 := by omega
      generalize t.val % 8 = n at hn ⊢
      interval_cases n <;> omega

/-- The reference runs to its end and leaves its arguments as they were. -/
theorem reference_frame : Cert.quiescent_UpRefIdeal := fun m ρ _ =>
  (θ_run Cert.UpRefIdeal.defs _ _).mono (fun r h => ⟨fun c => (h c).2, sem_eq_zero_of_no_sems (by decide) r.2⟩)
    (Cert.UpRefIdeal.Value.run m ρ)

end Cert.UpValue

end
-- ==== Proof.Dh1.lean ====
/- The gradient of the input projection in its argument.
   The grid walks over blocks of the result and, innermost, over blocks of the contracted axis; the sum over those
   blocks and within each is the one long sum of the plain product. -/
module

public import proofs.«01_k».proof.Defs
public import proofs.«01_k».proof.Proof.Gen.Dh1Ideal.Value
public import proofs.«01_k».proof.Proof.Gen.Dh1RefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dh1Value

open Cert.Dh1Ideal Cert.Dh1Ideal.Gen

/-- Which block every window holds at step `t`. -/
theorem place : ∀ t : Fin cfg0.N, win0_0.index t = ![t.val / 8, t.val % 4] ∧ win0_1.index t = ![t.val % 4, t.val / 4 % 2, 0] ∧ win0_2.index t = ![t.val / 8, t.val / 4 % 2] :=
  (by decide +kernel : ∀ t : Fin grid0.N, _)

/-- The running block starts from zero. -/
theorem start (j) : k0_pay1 (F := Ideal) j = 0 := by pointwise [k0_pay1]

/-- The product of the two blocks that a step holds. -/
def part (a : Vec Ideal S1024x2304 .bf16) (b : Vec Ideal S1x1024x2304 .bf16) (j : S1024x1024.Idx) : EReal :=
  ∑ k, a (ix2 (j 0) k) * b (ix3 0 (j 1) k)

/-- Every step adds it. -/
theorem grow (acc) (a : Vec Ideal S1024x2304 .bf16) (b : Vec Ideal S1x1024x2304 .bf16) (j) :
    k0_pay2 (F := Ideal) acc a b j = acc j + part a b j := by
  pointwise [k0_pay2, part]

/-- The running block is stored as it stands. -/
theorem keep (acc) (j) : k0_pay3 (F := Ideal) acc j = acc (j) := by pointwise [k0_pay3]

variable (m : (ℓ : Loc nD τ sig) → Buf (Elt Ideal) ℓ) (c : Dev nD)

/-- What the running block holds after the first step of a run, -/
theorem outsAt_first (t : Fin cfg0.N) (h : t.val % 4 = 0) (j) :
    (outsAt0 m c t.val t.isLt).2 j = 0 + part (iblk m c 0 t) (iblk m c 1 t) j := by
  rw [outsAt0_A m c t h (by omega)]; dsimp only; frame_out; rw [grow, start]

/-- after a later step, -/
theorem outsAt_next (t : Fin cfg0.N) (h : ¬t.val % 4 = 0) (j) :
    (outsAt0 m c t.val t.isLt).2 j = (outsAt0 m c (t.val - 1) (Nat.lt_of_le_of_lt (Nat.sub_le _ _) t.isLt)).2 j
      + part (iblk m c 0 t) (iblk m c 1 t) j := by
  by_cases hl : t.val % 4 = 3
  · rw [outsAt0_C m c t h hl]; dsimp only; frame_out; rw [grow, read_unread_whole]
  · rw [outsAt0_B m c t h hl]; dsimp only; frame_out; rw [grow, read_unread_whole]

/-- and what the result's block holds after the last. -/
theorem outsAt_last (t : Fin cfg0.N) (h : t.val % 4 = 3) (j) :
    (outsAt0 m c t.val t.isLt).1 j = (outsAt0 m c t.val t.isLt).2 (j) := by
  rw [outsAt0_C m c t (by omega) h]; dsimp only; frame_out; rw [keep]

theorem algebraic : Cert.algebraic_Dh1Ideal_Dh1RefIdeal := by
  pair_intro
  · run_from Cert.Dh1Ideal.Value.run_blocks m g
  · refine (θ_run _ _ _).mono ?_ (Cert.Dh1RefIdeal.Value.run m' g')
    intro r hr c
    obtain ⟨h1, h2, h3⟩ := hr c
    obtain ⟨ha, hb⟩ := hagree c
    simp only [ha, hb] at h1
    refine ⟨h1.trans (Eq.symm ?_), h2, h3⟩
    clear h1 h2 h3 hr
    refine (dats m 0 c).arrAt_eq_of_covers 2 _ (by decide +kernel) fun t hf y => ?_
    blk_simp
    rw [after0_2]
    have hl := (flush0_2 t).mp hf
    rw [outsAt_last m c t hl, Pipeline.eq_sum_fin_of_reset_step_apply_of_flush (fun n h => (outsAt0 m c n h).2) 4 (fun _ => 0)
      (fun s j => part (iblk m c 0 s) (iblk m c 1 s) j)
      (fun t h j => outsAt_first m c t h j) (fun t h j => outsAt_next m c t h j) t hl _, zero_add]
    pointwise [part]
    refine Fin.sum_mul_add_congr fun s k hk => ?_
    blk_point [iblk, V, place t, place ⟨_, Pipeline.run_point_lt_of_flush t hl s⟩]

/-- The reference runs to its end and leaves its arguments as they were. -/
theorem reference_frame : Cert.quiescent_Dh1RefIdeal := fun m ρ _ =>
  (θ_run Cert.Dh1RefIdeal.defs _ _).mono (fun r h => ⟨fun c => (h c).2, sem_eq_zero_of_no_sems (by decide) r.2⟩)
    (Cert.Dh1RefIdeal.Value.run m ρ)

end Cert.Dh1Value

end
-- ==== Proof.GwIn.lean ====
/- The gradient of the input projection in its weight.
   The grid walks over blocks of the result and, innermost, over blocks of the contracted axis; the sum over those
   blocks and within each is the one long sum of the plain product. -/
module

public import proofs.«01_k».proof.Defs
public import proofs.«01_k».proof.Proof.Gen.GwInIdeal.Value
public import proofs.«01_k».proof.Proof.Gen.GwInRefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GwInValue

open Cert.GwInIdeal Cert.GwInIdeal.Gen

/-- Which block every window holds at step `t`. -/
theorem place : ∀ t : Fin cfg0.N, win0_0.index t = ![t.val % 2, t.val / 16] ∧ win0_1.index t = ![t.val % 2, t.val / 2 % 8] ∧ win0_2.index t = ![t.val / 2 % 8 % 2, t.val / 2 % 8 / 2, t.val / 16, 0] :=
  (by decide +kernel : ∀ t : Fin grid0.N, _)

/-- The running block starts from zero. -/
theorem start (j) : k0_pay1 (F := Ideal) j = 0 := by pointwise [k0_pay1]

/-- The product of the two blocks that a step holds. -/
def part (a : Vec Ideal S2048x1024 .bf16) (b : Vec Ideal S2048x1152 .bf16) (j : S1024x1152.Idx) : EReal :=
  ∑ k, a (ix2 k (j 0)) * b (ix2 k (j 1))

/-- Every step adds it. -/
theorem grow (acc) (a : Vec Ideal S2048x1024 .bf16) (b : Vec Ideal S2048x1152 .bf16) (j) :
    k0_pay2 (F := Ideal) acc a b j = acc j + part a b j := by
  pointwise [k0_pay2, part]

/-- The running block is stored as it stands. -/
theorem keep (acc) (j) : k0_pay3 (F := Ideal) acc j = acc (ix2 (j 2) (j 3)) := by pointwise [k0_pay3]

variable (m : (ℓ : Loc nD τ sig) → Buf (Elt Ideal) ℓ) (c : Dev nD)

/-- What the running block holds after the first step of a run, -/
theorem outsAt_first (t : Fin cfg0.N) (h : t.val % 2 = 0) (j) :
    (outsAt0 m c t.val t.isLt).2 j = 0 + part (iblk m c 0 t) (iblk m c 1 t) j := by
  rw [outsAt0_A m c t h (by omega)]; dsimp only; frame_out; rw [grow, start]

/-- after a later step, -/
theorem outsAt_next (t : Fin cfg0.N) (h : ¬t.val % 2 = 0) (j) :
    (outsAt0 m c t.val t.isLt).2 j = (outsAt0 m c (t.val - 1) (Nat.lt_of_le_of_lt (Nat.sub_le _ _) t.isLt)).2 j
      + part (iblk m c 0 t) (iblk m c 1 t) j := by
  rw [outsAt0_B m c t h (by omega)]; dsimp only; frame_out; rw [grow, read_unread_whole]

/-- and what the result's block holds after the last. -/
theorem outsAt_last (t : Fin cfg0.N) (h : t.val % 2 = 1) (j) :
    (outsAt0 m c t.val t.isLt).1 j = (outsAt0 m c t.val t.isLt).2 (ix2 (j 2) (j 3)) := by
  rw [outsAt0_B m c t (by omega) h]; dsimp only; frame_out; rw [keep]

theorem algebraic : Cert.algebraic_GwInIdeal_GwInRefIdeal := by
  pair_intro
  · run_from Cert.GwInIdeal.Value.run_blocks m g
  · refine (θ_run _ _ _).mono ?_ (Cert.GwInRefIdeal.Value.run m' g')
    intro r hr c
    obtain ⟨h1, h2, h3⟩ := hr c
    obtain ⟨ha, hb⟩ := hagree c
    simp only [ha, hb] at h1
    refine ⟨h1.trans (Eq.symm ?_), h2, h3⟩
    clear h1 h2 h3 hr
    refine (dats m 0 c).arrAt_eq_of_covers 2 _ (by decide +kernel) fun t hf y => ?_
    blk_simp
    rw [after0_2]
    have hl := (flush0_2 t).mp hf
    rw [outsAt_last m c t hl, Pipeline.eq_sum_fin_of_reset_step_apply_of_flush (fun n h => (outsAt0 m c n h).2) 2 (fun _ => 0)
      (fun s j => part (iblk m c 0 s) (iblk m c 1 s) j)
      (fun t h j => outsAt_first m c t h j) (fun t h j => outsAt_next m c t h j) t hl _, zero_add]
    pointwise [part]
    refine Fin.sum_mul_add_congr fun s k hk => ?_
    rw [mul_comm]
    blk_point [iblk, V, place t, place ⟨_, Pipeline.run_point_lt_of_flush t hl s⟩]

/-- The reference runs to its end and leaves its arguments as they were. -/
theorem reference_frame : Cert.quiescent_GwInRefIdeal := fun m ρ _ =>
  (θ_run Cert.GwInRefIdeal.defs _ _).mono (fun r h => ⟨fun c => (h c).2, sem_eq_zero_of_no_sems (by decide) r.2⟩)
    (Cert.GwInRefIdeal.Value.run m ρ)

end Cert.GwInValue

end
-- ==== Proof.GwPs5.lean ====
/- The gradient of a branch projection in its weight.
   The grid walks over blocks of the result, and every step forms its block whole. -/
module

public import proofs.«01_k».proof.Defs
public import proofs.«01_k».proof.Proof.Gen.GwPs5Ideal.Value
public import proofs.«01_k».proof.Proof.Gen.GwPs5RefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GwPs5Value

open Cert.GwPs5Ideal Cert.GwPs5Ideal.Gen

/-- Which block every window holds at step `t`. -/
theorem place : ∀ t : Fin cfg0.N, win0_0.index t = ![0, 0] ∧ win0_1.index t = ![0, t.val % 8] ∧ win0_2.index t = ![t.val % 8 % 2, t.val % 8 / 2, 0, 0] :=
  (by decide +kernel : ∀ t : Fin grid0.N, _)

/-- The running block starts from zero. -/
theorem start (j) : k0_pay1 (F := Ideal) j = 0 := by pointwise [k0_pay1]

/-- The product of the two blocks that a step holds. -/
def part (a : Vec Ideal S4096x1024 .bf16) (b : Vec Ideal S4096x256 .bf16) (j : S1024x256.Idx) : EReal :=
  ∑ k, a (ix2 k (j 0)) * b (ix2 k (j 1))

/-- Every step adds it. -/
theorem grow (acc) (a : Vec Ideal S4096x1024 .bf16) (b : Vec Ideal S4096x256 .bf16) (j) :
    k0_pay2 (F := Ideal) acc a b j = acc j + part a b j := by
  pointwise [k0_pay2, part]

/-- The running block is stored as it stands. -/
theorem keep (acc) (j) : k0_pay3 (F := Ideal) acc j = acc (ix2 (j 2) (j 3)) := by pointwise [k0_pay3]

theorem algebraic : Cert.algebraic_GwPs5Ideal_GwPs5RefIdeal := by
  pair_intro
  · run_from Cert.GwPs5Ideal.Value.run_blocks m g
  · refine (θ_run _ _ _).mono ?_ (Cert.GwPs5RefIdeal.Value.run m' g')
    intro r hr c
    obtain ⟨h1, h2, h3⟩ := hr c
    obtain ⟨ha, hb⟩ := hagree c
    simp only [ha, hb] at h1
    refine ⟨h1.trans (Eq.symm ?_), h2, h3⟩
    clear h1 h2 h3 hr
    refine (dats m 0 c).arrAt_eq_of_covers 2 _ (by decide +kernel) fun t hf y => ?_
    blk_simp
    rw [after0_2]
    dsimp only [outsAt0]
    frame_out
    rw [keep, grow, start, zero_add]
    pointwise [part]
    refine Finset.sum_congr (M := EReal) rfl fun k _ => ?_
    rw [mul_comm]
    blk_point [iblk, V, place t]

/-- The reference runs to its end and leaves its arguments as they were. -/
theorem reference_frame : Cert.quiescent_GwPs5RefIdeal := fun m ρ _ =>
  (θ_run Cert.GwPs5RefIdeal.defs _ _).mono (fun r h => ⟨fun c => (h c).2, sem_eq_zero_of_no_sems (by decide) r.2⟩)
    (Cert.GwPs5RefIdeal.Value.run m ρ)

end Cert.GwPs5Value

end
-- ==== Proof.Dz.lean ====
/- The gradient of a branch projection in its argument.
   The grid walks over blocks of the result and, innermost, over blocks of the contracted axis; the sum over those
   blocks and within each is the one long sum of the plain product. -/
module

public import proofs.«01_k».proof.Defs
public import proofs.«01_k».proof.Proof.Gen.DzIdeal.Value
public import proofs.«01_k».proof.Proof.Gen.DzRefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DzValue

open Cert.DzIdeal Cert.DzIdeal.Gen

/-- Which block every window holds at step `t`. -/
theorem place : ∀ t : Fin cfg0.N, win0_0.index t = ![t.val / 4, t.val % 4] ∧ win0_1.index t = ![t.val % 4, 0, 0] ∧ win0_2.index t = ![t.val / 4, 0] :=
  (by decide +kernel : ∀ t : Fin grid0.N, _)

/-- The running block starts from zero. -/
theorem start (j) : k0_pay1 (F := Ideal) j = 0 := by pointwise [k0_pay1]

/-- The product of the two blocks that a step holds. -/
def part (a : Vec Ideal S1024x512 .bf16) (b : Vec Ideal S1x1024x512 .bf16) (j : S1024x1024.Idx) : EReal :=
  ∑ k, a (ix2 (j 0) k) * b (ix3 0 (j 1) k)

/-- Every step adds it. -/
theorem grow (acc) (a : Vec Ideal S1024x512 .bf16) (b : Vec Ideal S1x1024x512 .bf16) (j) :
    k0_pay2 (F := Ideal) acc a b j = acc j + part a b j := by
  pointwise [k0_pay2, part]

/-- The running block is stored as it stands. -/
theorem keep (acc) (j) : k0_pay3 (F := Ideal) acc j = acc (j) := by pointwise [k0_pay3]

variable (m : (ℓ : Loc nD τ sig) → Buf (Elt Ideal) ℓ) (c : Dev nD)

/-- What the running block holds after the first step of a run, -/
theorem outsAt_first (t : Fin cfg0.N) (h : t.val % 4 = 0) (j) :
    (outsAt0 m c t.val t.isLt).2 j = 0 + part (iblk m c 0 t) (iblk m c 1 t) j := by
  rw [outsAt0_A m c t h (by omega)]; dsimp only; frame_out; rw [grow, start]

/-- after a later step, -/
theorem outsAt_next (t : Fin cfg0.N) (h : ¬t.val % 4 = 0) (j) :
    (outsAt0 m c t.val t.isLt).2 j = (outsAt0 m c (t.val - 1) (Nat.lt_of_le_of_lt (Nat.sub_le _ _) t.isLt)).2 j
      + part (iblk m c 0 t) (iblk m c 1 t) j := by
  by_cases hl : t.val % 4 = 3
  · rw [outsAt0_C m c t h hl]; dsimp only; frame_out; rw [grow, read_unread_whole]
  · rw [outsAt0_B m c t h hl]; dsimp only; frame_out; rw [grow, read_unread_whole]

/-- and what the result's block holds after the last. -/
theorem outsAt_last (t : Fin cfg0.N) (h : t.val % 4 = 3) (j) :
    (outsAt0 m c t.val t.isLt).1 j = (outsAt0 m c t.val t.isLt).2 (j) := by
  rw [outsAt0_C m c t (by omega) h]; dsimp only; frame_out; rw [keep]

theorem algebraic : Cert.algebraic_DzIdeal_DzRefIdeal := by
  pair_intro
  · run_from Cert.DzIdeal.Value.run_blocks m g
  · refine (θ_run _ _ _).mono ?_ (Cert.DzRefIdeal.Value.run m' g')
    intro r hr c
    obtain ⟨h1, h2, h3⟩ := hr c
    obtain ⟨ha, hb⟩ := hagree c
    simp only [ha, hb] at h1
    refine ⟨h1.trans (Eq.symm ?_), h2, h3⟩
    clear h1 h2 h3 hr
    refine (dats m 0 c).arrAt_eq_of_covers 2 _ (by decide +kernel) fun t hf y => ?_
    blk_simp
    rw [after0_2]
    have hl := (flush0_2 t).mp hf
    rw [outsAt_last m c t hl, Pipeline.eq_sum_fin_of_reset_step_apply_of_flush (fun n h => (outsAt0 m c n h).2) 4 (fun _ => 0)
      (fun s j => part (iblk m c 0 s) (iblk m c 1 s) j)
      (fun t h j => outsAt_first m c t h j) (fun t h j => outsAt_next m c t h j) t hl _, zero_add]
    pointwise [part]
    refine Fin.sum_mul_add_congr fun s k hk => ?_
    blk_point [iblk, V, place t, place ⟨_, Pipeline.run_point_lt_of_flush t hl s⟩]

/-- The reference runs to its end and leaves its arguments as they were. -/
theorem reference_frame : Cert.quiescent_DzRefIdeal := fun m ρ _ =>
  (θ_run Cert.DzRefIdeal.defs _ _).mono (fun r h => ⟨fun c => (h c).2, sem_eq_zero_of_no_sems (by decide) r.2⟩)
    (Cert.DzRefIdeal.Value.run m ρ)

end Cert.DzValue

end
-- ==== Proof.GwOut.lean ====
/- The gradient of the output projection in its weight.
   The grid walks over blocks of the result, and every step forms its block whole. -/
module

public import proofs.«01_k».proof.Defs
public import proofs.«01_k».proof.Proof.Gen.GwOutIdeal.Value
public import proofs.«01_k».proof.Proof.Gen.GwOutRefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GwOutValue

open Cert.GwOutIdeal Cert.GwOutIdeal.Gen

/-- Which block every window holds at step `t`. -/
theorem place : ∀ t : Fin cfg0.N, win0_0.index t = ![0, t.val / 2] ∧ win0_1.index t = ![0, t.val % 2] ∧ win0_2.index t = ![t.val % 2, t.val / 2, 0, 0] :=
  (by decide +kernel : ∀ t : Fin grid0.N, _)

/-- The running block starts from zero. -/
theorem start (j) : k0_pay1 (F := Ideal) j = 0 := by pointwise [k0_pay1]

/-- The product of the two blocks that a step holds. -/
def part (a : Vec Ideal S4096x512 .bf16) (b : Vec Ideal S4096x1024 .bf16) (j : S512x1024.Idx) : EReal :=
  ∑ k, a (ix2 k (j 0)) * b (ix2 k (j 1))

/-- Every step adds it. -/
theorem grow (acc) (a : Vec Ideal S4096x512 .bf16) (b : Vec Ideal S4096x1024 .bf16) (j) :
    k0_pay2 (F := Ideal) acc a b j = acc j + part a b j := by
  pointwise [k0_pay2, part]

/-- The running block is stored as it stands. -/
theorem keep (acc) (j) : k0_pay3 (F := Ideal) acc j = acc (ix2 (j 2) (j 3)) := by pointwise [k0_pay3]

theorem algebraic : Cert.algebraic_GwOutIdeal_GwOutRefIdeal := by
  pair_intro
  · run_from Cert.GwOutIdeal.Value.run_blocks m g
  · refine (θ_run _ _ _).mono ?_ (Cert.GwOutRefIdeal.Value.run m' g')
    intro r hr c
    obtain ⟨h1, h2, h3⟩ := hr c
    obtain ⟨ha, hb⟩ := hagree c
    simp only [ha, hb] at h1
    refine ⟨h1.trans (Eq.symm ?_), h2, h3⟩
    clear h1 h2 h3 hr
    refine (dats m 0 c).arrAt_eq_of_covers 2 _ (by decide +kernel) fun t hf y => ?_
    blk_simp
    rw [after0_2]
    dsimp only [outsAt0]
    frame_out
    rw [keep, grow, start, zero_add]
    pointwise [part]
    refine Finset.sum_congr (M := EReal) rfl fun k _ => ?_
    rw [mul_comm]
    blk_point [iblk, V, place t]

/-- The reference runs to its end and leaves its arguments as they were. -/
theorem reference_frame : Cert.quiescent_GwOutRefIdeal := fun m ρ _ =>
  (θ_run Cert.GwOutRefIdeal.defs _ _).mono (fun r h => ⟨fun c => (h c).2, sem_eq_zero_of_no_sems (by decide) r.2⟩)
    (Cert.GwOutRefIdeal.Value.run m ρ)

end Cert.GwOutValue

end
-- ==== Proof.Dmerged.lean ====
/- The gradient of the output projection in its argument.
   The grid walks over blocks of the result, and every step forms its block whole. -/
module

public import proofs.«01_k».proof.Defs
public import proofs.«01_k».proof.Proof.Gen.DmergedIdeal.Value
public import proofs.«01_k».proof.Proof.Gen.DmergedRefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DmergedValue

open Cert.DmergedIdeal Cert.DmergedIdeal.Gen

/-- Which block every window holds at step `t`. -/
theorem place : ∀ t : Fin cfg0.N, win0_0.index t = ![t.val / 2, 0] ∧ win0_1.index t = ![t.val % 2, 0] ∧ win0_2.index t = ![t.val / 2, t.val % 2] :=
  (by decide +kernel : ∀ t : Fin grid0.N, _)

/-- The running block starts from zero. -/
theorem start (j) : k0_pay1 (F := Ideal) j = 0 := by pointwise [k0_pay1]

/-- The product of the two blocks that a step holds. -/
def part (a : Vec Ideal S1024x2048 .bf16) (b : Vec Ideal S1024x2048 .bf16) (j : S1024x1024.Idx) : EReal :=
  ∑ k, a (ix2 (j 0) k) * b (ix2 (j 1) k)

/-- Every step adds it. -/
theorem grow (acc) (a : Vec Ideal S1024x2048 .bf16) (b : Vec Ideal S1024x2048 .bf16) (j) :
    k0_pay2 (F := Ideal) acc a b j = acc j + part a b j := by
  pointwise [k0_pay2, part]

/-- The running block is stored as it stands. -/
theorem keep (acc) (j) : k0_pay3 (F := Ideal) acc j = acc (j) := by pointwise [k0_pay3]

theorem algebraic : Cert.algebraic_DmergedIdeal_DmergedRefIdeal := by
  pair_intro
  · run_from Cert.DmergedIdeal.Value.run_blocks m g
  · refine (θ_run _ _ _).mono ?_ (Cert.DmergedRefIdeal.Value.run m' g')
    intro r hr c
    obtain ⟨h1, h2, h3⟩ := hr c
    obtain ⟨ha, hb⟩ := hagree c
    simp only [ha, hb] at h1
    refine ⟨h1.trans (Eq.symm ?_), h2, h3⟩
    clear h1 h2 h3 hr
    refine (dats m 0 c).arrAt_eq_of_covers 2 _ (by decide +kernel) fun t hf y => ?_
    blk_simp
    rw [after0_2]
    dsimp only [outsAt0]
    frame_out
    rw [keep, grow, start, zero_add]
    pointwise [part]
    refine Finset.sum_congr (M := EReal) rfl fun k _ => ?_
    blk_point [iblk, V, place t]

/-- The reference runs to its end and leaves its arguments as they were. -/
theorem reference_frame : Cert.quiescent_DmergedRefIdeal := fun m ρ _ =>
  (θ_run Cert.DmergedRefIdeal.defs _ _).mono (fun r h => ⟨fun c => (h c).2, sem_eq_zero_of_no_sems (by decide) r.2⟩)
    (Cert.DmergedRefIdeal.Value.run m ρ)

end Cert.DmergedValue

end
-- ==== Proof.GwUp.lean ====
/- The gradient of the up projection in its weight.
   The grid walks over blocks of the result and, innermost, over blocks of the contracted axis; the sum over those
   blocks and within each is the one long sum of the plain product. -/
module

public import proofs.«01_k».proof.Defs
public import proofs.«01_k».proof.Proof.Gen.GwUpIdeal.Value
public import proofs.«01_k».proof.Proof.Gen.GwUpRefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GwUpValue

open Cert.GwUpIdeal Cert.GwUpIdeal.Gen

/-- Which block every window holds at step `t`. -/
theorem place : ∀ t : Fin cfg0.N, win0_0.index t = ![t.val % 2, t.val / 16] ∧ win0_1.index t = ![t.val % 2, 2 * (t.val / 2 % 8 % 4) + t.val / 2 % 8 / 4] ∧ win0_2.index t = ![t.val / 2 % 8 % 2, t.val / 2 % 8 / 2, t.val / 16, 0] :=
  (by decide +kernel : ∀ t : Fin grid0.N, _)

/-- The running block starts from zero. -/
theorem start (j) : k0_pay1 (F := Ideal) j = 0 := by pointwise [k0_pay1]

/-- The product of the two blocks that a step holds. -/
def part (a : Vec Ideal S2048x1024 .bf16) (b : Vec Ideal S2048x1408 .bf16) (j : S1024x1408.Idx) : EReal :=
  ∑ k, a (ix2 k (j 0)) * b (ix2 k (j 1))

/-- Every step adds it. -/
theorem grow (acc) (a : Vec Ideal S2048x1024 .bf16) (b : Vec Ideal S2048x1408 .bf16) (j) :
    k0_pay2 (F := Ideal) acc a b j = acc j + part a b j := by
  pointwise [k0_pay2, part]

/-- The running block is stored as it stands. -/
theorem keep (acc) (j) : k0_pay3 (F := Ideal) acc j = acc (ix2 (j 2) (j 3)) := by pointwise [k0_pay3]

variable (m : (ℓ : Loc nD τ sig) → Buf (Elt Ideal) ℓ) (c : Dev nD)

/-- What the running block holds after the first step of a run, -/
theorem outsAt_first (t : Fin cfg0.N) (h : t.val % 2 = 0) (j) :
    (outsAt0 m c t.val t.isLt).2 j = 0 + part (iblk m c 0 t) (iblk m c 1 t) j := by
  rw [outsAt0_A m c t h (by omega)]; dsimp only; frame_out; rw [grow, start]

/-- after a later step, -/
theorem outsAt_next (t : Fin cfg0.N) (h : ¬t.val % 2 = 0) (j) :
    (outsAt0 m c t.val t.isLt).2 j = (outsAt0 m c (t.val - 1) (Nat.lt_of_le_of_lt (Nat.sub_le _ _) t.isLt)).2 j
      + part (iblk m c 0 t) (iblk m c 1 t) j := by
  rw [outsAt0_B m c t h (by omega)]; dsimp only; frame_out; rw [grow, read_unread_whole]

/-- and what the result's block holds after the last. -/
theorem outsAt_last (t : Fin cfg0.N) (h : t.val % 2 = 1) (j) :
    (outsAt0 m c t.val t.isLt).1 j = (outsAt0 m c t.val t.isLt).2 (ix2 (j 2) (j 3)) := by
  rw [outsAt0_B m c t (by omega) h]; dsimp only; frame_out; rw [keep]

theorem algebraic : Cert.algebraic_GwUpIdeal_GwUpRefIdeal := by
  pair_intro
  · run_from Cert.GwUpIdeal.Value.run_blocks m g
  · refine (θ_run _ _ _).mono ?_ (Cert.GwUpRefIdeal.Value.run m' g')
    intro r hr c
    obtain ⟨h1, h2, h3⟩ := hr c
    obtain ⟨ha, hb⟩ := hagree c
    simp only [ha, hb] at h1
    refine ⟨h1.trans (Eq.symm ?_), h2, h3⟩
    clear h1 h2 h3 hr
    refine (dats m 0 c).arrAt_eq_of_covers 2 _ (by decide +kernel) fun t hf y => ?_
    blk_simp
    rw [after0_2]
    have hl := (flush0_2 t).mp hf
    rw [outsAt_last m c t hl, Pipeline.eq_sum_fin_of_reset_step_apply_of_flush (fun n h => (outsAt0 m c n h).2) 2 (fun _ => 0)
      (fun s j => part (iblk m c 0 s) (iblk m c 1 s) j)
      (fun t h j => outsAt_first m c t h j) (fun t h j => outsAt_next m c t h j) t hl _, zero_add]
    pointwise [part]
    refine Fin.sum_mul_add_congr fun s k hk => ?_
    rw [mul_comm]
    blk_point [iblk, V, place t, place ⟨_, Pipeline.run_point_lt_of_flush t hl s⟩]

/-- The reference runs to its end and leaves its arguments as they were. -/
theorem reference_frame : Cert.quiescent_GwUpRefIdeal := fun m ρ _ =>
  (θ_run Cert.GwUpRefIdeal.defs _ _).mono (fun r h => ⟨fun c => (h c).2, sem_eq_zero_of_no_sems (by decide) r.2⟩)
    (Cert.GwUpRefIdeal.Value.run m ρ)

end Cert.GwUpValue

end
-- ==== Proof.Dh2.lean ====
/- The gradient of the up projection in its argument.
   The grid walks over blocks of the result and, innermost, over blocks of the contracted axis; the sum over those
   blocks and within each is the one long sum of the plain product. -/
module

public import proofs.«01_k».proof.Defs
public import proofs.«01_k».proof.Proof.Gen.Dh2Ideal.Value
public import proofs.«01_k».proof.Proof.Gen.Dh2RefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dh2Value

open Cert.Dh2Ideal Cert.Dh2Ideal.Gen

/-- Which block every window holds at step `t`. -/
theorem place : ∀ t : Fin cfg0.N, win0_0.index t = ![t.val / 16, 2 * (t.val % 8 % 4) + t.val % 8 / 4] ∧ win0_1.index t = ![t.val % 8 / 2, t.val / 8 % 2, t.val % 8 % 2] ∧ win0_2.index t = ![t.val / 16, t.val / 8 % 2] :=
  (by decide +kernel : ∀ t : Fin grid0.N, _)

/-- The running block starts from zero. -/
theorem start (j) : k0_pay1 (F := Ideal) j = 0 := by pointwise [k0_pay1]

/-- The product of the two blocks that a step holds. -/
def part (a : Vec Ideal S1024x1408 .bf16) (b : Vec Ideal S1x1024x1408 .bf16) (j : S1024x1024.Idx) : EReal :=
  ∑ k, a (ix2 (j 0) k) * b (ix3 0 (j 1) k)

/-- Every step adds it. -/
theorem grow (acc) (a : Vec Ideal S1024x1408 .bf16) (b : Vec Ideal S1x1024x1408 .bf16) (j) :
    k0_pay2 (F := Ideal) acc a b j = acc j + part a b j := by
  pointwise [k0_pay2, part]

/-- The running block is stored as it stands. -/
theorem keep (acc) (j) : k0_pay3 (F := Ideal) acc j = acc (j) := by pointwise [k0_pay3]

variable (m : (ℓ : Loc nD τ sig) → Buf (Elt Ideal) ℓ) (c : Dev nD)

/-- What the running block holds after the first step of a run, -/
theorem outsAt_first (t : Fin cfg0.N) (h : t.val % 8 = 0) (j) :
    (outsAt0 m c t.val t.isLt).2 j = 0 + part (iblk m c 0 t) (iblk m c 1 t) j := by
  rw [outsAt0_A m c t h (by omega)]; dsimp only; frame_out; rw [grow, start]

/-- after a later step, -/
theorem outsAt_next (t : Fin cfg0.N) (h : ¬t.val % 8 = 0) (j) :
    (outsAt0 m c t.val t.isLt).2 j = (outsAt0 m c (t.val - 1) (Nat.lt_of_le_of_lt (Nat.sub_le _ _) t.isLt)).2 j
      + part (iblk m c 0 t) (iblk m c 1 t) j := by
  by_cases hl : t.val % 8 = 7
  · rw [outsAt0_C m c t h hl]; dsimp only; frame_out; rw [grow, read_unread_whole]
  · rw [outsAt0_B m c t h hl]; dsimp only; frame_out; rw [grow, read_unread_whole]

/-- and what the result's block holds after the last. -/
theorem outsAt_last (t : Fin cfg0.N) (h : t.val % 8 = 7) (j) :
    (outsAt0 m c t.val t.isLt).1 j = (outsAt0 m c t.val t.isLt).2 (j) := by
  rw [outsAt0_C m c t (by omega) h]; dsimp only; frame_out; rw [keep]

theorem algebraic : Cert.algebraic_Dh2Ideal_Dh2RefIdeal := by
  pair_intro
  · run_from Cert.Dh2Ideal.Value.run_blocks m g
  · refine (θ_run _ _ _).mono ?_ (Cert.Dh2RefIdeal.Value.run m' g')
    intro r hr c
    obtain ⟨h1, h2, h3⟩ := hr c
    obtain ⟨ha, hb⟩ := hagree c
    simp only [ha, hb] at h1
    refine ⟨h1.trans (Eq.symm ?_), h2, h3⟩
    clear h1 h2 h3 hr
    refine (dats m 0 c).arrAt_eq_of_covers 2 _ (by decide +kernel) fun t hf y => ?_
    blk_simp
    rw [after0_2]
    have hl := (flush0_2 t).mp hf
    rw [outsAt_last m c t hl, Pipeline.eq_sum_fin_of_reset_step_apply_of_flush (fun n h => (outsAt0 m c n h).2) 8 (fun _ => 0)
      (fun s j => part (iblk m c 0 s) (iblk m c 1 s) j)
      (fun t h j => outsAt_first m c t h j) (fun t h j => outsAt_next m c t h j) t hl _, zero_add]
    pointwise [part]
    refine Fin.sum_mul_add_congr fun s k hk => ?_
    blk_point [iblk, V, place t, place ⟨_, Pipeline.run_point_lt_of_flush t hl s⟩]

/-- The reference runs to its end and leaves its arguments as they were. -/
theorem reference_frame : Cert.quiescent_Dh2RefIdeal := fun m ρ _ =>
  (θ_run Cert.Dh2RefIdeal.defs _ _).mono (fun r h => ⟨fun c => (h c).2, sem_eq_zero_of_no_sems (by decide) r.2⟩)
    (Cert.Dh2RefIdeal.Value.run m ρ)

end Cert.Dh2Value

end
-- ==== Proof.GwDown.lean ====
/- The gradient of the down projection in its weight.
   The grid walks over blocks of the result and, innermost, over blocks of the contracted axis; the sum over those
   blocks and within each is the one long sum of the plain product. -/
module

public import proofs.«01_k».proof.Defs
public import proofs.«01_k».proof.Proof.Gen.GwDownIdeal.Value
public import proofs.«01_k».proof.Proof.Gen.GwDownRefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GwDownValue

open Cert.GwDownIdeal Cert.GwDownIdeal.Gen

/-- Which block every window holds at step `t`. -/
theorem place : ∀ t : Fin cfg0.N, win0_0.index t = ![t.val % 2, t.val / 4] ∧ win0_1.index t = ![t.val % 2, t.val / 2 % 2] ∧ win0_2.index t = ![t.val / 2 % 2, t.val / 4, 0, 0] :=
  (by decide +kernel : ∀ t : Fin grid0.N, _)

/-- The running block starts from zero. -/
theorem start (j) : k0_pay1 (F := Ideal) j = 0 := by pointwise [k0_pay1]

/-- The product of the two blocks that a step holds. -/
def part (a : Vec Ideal S2048x1408 .bf16) (b : Vec Ideal S2048x1024 .bf16) (j : S1408x1024.Idx) : EReal :=
  ∑ k, a (ix2 k (j 0)) * b (ix2 k (j 1))

/-- Every step adds it. -/
theorem grow (acc) (a : Vec Ideal S2048x1408 .bf16) (b : Vec Ideal S2048x1024 .bf16) (j) :
    k0_pay2 (F := Ideal) acc a b j = acc j + part a b j := by
  pointwise [k0_pay2, part]

/-- The running block is stored as it stands. -/
theorem keep (acc) (j) : k0_pay3 (F := Ideal) acc j = acc (ix2 (j 2) (j 3)) := by pointwise [k0_pay3]

variable (m : (ℓ : Loc nD τ sig) → Buf (Elt Ideal) ℓ) (c : Dev nD)

/-- What the running block holds after the first step of a run, -/
theorem outsAt_first (t : Fin cfg0.N) (h : t.val % 2 = 0) (j) :
    (outsAt0 m c t.val t.isLt).2 j = 0 + part (iblk m c 0 t) (iblk m c 1 t) j := by
  rw [outsAt0_A m c t h (by omega)]; dsimp only; frame_out; rw [grow, start]

/-- after a later step, -/
theorem outsAt_next (t : Fin cfg0.N) (h : ¬t.val % 2 = 0) (j) :
    (outsAt0 m c t.val t.isLt).2 j = (outsAt0 m c (t.val - 1) (Nat.lt_of_le_of_lt (Nat.sub_le _ _) t.isLt)).2 j
      + part (iblk m c 0 t) (iblk m c 1 t) j := by
  rw [outsAt0_B m c t h (by omega)]; dsimp only; frame_out; rw [grow, read_unread_whole]

/-- and what the result's block holds after the last. -/
theorem outsAt_last (t : Fin cfg0.N) (h : t.val % 2 = 1) (j) :
    (outsAt0 m c t.val t.isLt).1 j = (outsAt0 m c t.val t.isLt).2 (ix2 (j 2) (j 3)) := by
  rw [outsAt0_B m c t (by omega) h]; dsimp only; frame_out; rw [keep]

theorem algebraic : Cert.algebraic_GwDownIdeal_GwDownRefIdeal := by
  pair_intro
  · run_from Cert.GwDownIdeal.Value.run_blocks m g
  · refine (θ_run _ _ _).mono ?_ (Cert.GwDownRefIdeal.Value.run m' g')
    intro r hr c
    obtain ⟨h1, h2, h3⟩ := hr c
    obtain ⟨ha, hb⟩ := hagree c
    simp only [ha, hb] at h1
    refine ⟨h1.trans (Eq.symm ?_), h2, h3⟩
    clear h1 h2 h3 hr
    refine (dats m 0 c).arrAt_eq_of_covers 2 _ (by decide +kernel) fun t hf y => ?_
    blk_simp
    rw [after0_2]
    have hl := (flush0_2 t).mp hf
    rw [outsAt_last m c t hl, Pipeline.eq_sum_fin_of_reset_step_apply_of_flush (fun n h => (outsAt0 m c n h).2) 2 (fun _ => 0)
      (fun s j => part (iblk m c 0 s) (iblk m c 1 s) j)
      (fun t h j => outsAt_first m c t h j) (fun t h j => outsAt_next m c t h j) t hl _, zero_add]
    pointwise [part]
    refine Fin.sum_mul_add_congr fun s k hk => ?_
    rw [mul_comm]
    blk_point [iblk, V, place t, place ⟨_, Pipeline.run_point_lt_of_flush t hl s⟩]

/-- The reference runs to its end and leaves its arguments as they were. -/
theorem reference_frame : Cert.quiescent_GwDownRefIdeal := fun m ρ _ =>
  (θ_run Cert.GwDownRefIdeal.defs _ _).mono (fun r h => ⟨fun c => (h c).2, sem_eq_zero_of_no_sems (by decide) r.2⟩)
    (Cert.GwDownRefIdeal.Value.run m ρ)

end Cert.GwDownValue

end
-- ==== Proof.Dact.lean ====
/- The gradient of the down projection in its argument.
   The grid walks over blocks of the result, and every step forms its block whole. -/
module

public import proofs.«01_k».proof.Defs
public import proofs.«01_k».proof.Proof.Gen.DactIdeal.Value
public import proofs.«01_k».proof.Proof.Gen.DactRefIdeal.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DactValue

open Cert.DactIdeal Cert.DactIdeal.Gen

/-- Which block every window holds at step `t`. -/
theorem place : ∀ t : Fin cfg0.N, win0_0.index t = ![t.val / 4, 0] ∧ win0_1.index t = ![t.val % 4, 0] ∧ win0_2.index t = ![t.val / 4, t.val % 4] :=
  (by decide +kernel : ∀ t : Fin grid0.N, _)

/-- The running block starts from zero. -/
theorem start (j) : k0_pay1 (F := Ideal) j = 0 := by pointwise [k0_pay1]

/-- The product of the two blocks that a step holds. -/
def part (a : Vec Ideal S1024x2048 .bf16) (b : Vec Ideal S1408x2048 .bf16) (j : S1024x1408.Idx) : EReal :=
  ∑ k, a (ix2 (j 0) k) * b (ix2 (j 1) k)

/-- Every step adds it. -/
theorem grow (acc) (a : Vec Ideal S1024x2048 .bf16) (b : Vec Ideal S1408x2048 .bf16) (j) :
    k0_pay2 (F := Ideal) acc a b j = acc j + part a b j := by
  pointwise [k0_pay2, part]

/-- The running block is stored as it stands. -/
theorem keep (acc) (j) : k0_pay3 (F := Ideal) acc j = acc (j) := by pointwise [k0_pay3]

theorem algebraic : Cert.algebraic_DactIdeal_DactRefIdeal := by
  pair_intro
  · run_from Cert.DactIdeal.Value.run_blocks m g
  · refine (θ_run _ _ _).mono ?_ (Cert.DactRefIdeal.Value.run m' g')
    intro r hr c
    obtain ⟨h1, h2, h3⟩ := hr c
    obtain ⟨ha, hb⟩ := hagree c
    simp only [ha, hb] at h1
    refine ⟨h1.trans (Eq.symm ?_), h2, h3⟩
    clear h1 h2 h3 hr
    refine (dats m 0 c).arrAt_eq_of_covers 2 _ (by decide +kernel) fun t hf y => ?_
    blk_simp
    rw [after0_2]
    dsimp only [outsAt0]
    frame_out
    rw [keep, grow, start, zero_add]
    pointwise [part]
    refine Finset.sum_congr (M := EReal) rfl fun k _ => ?_
    blk_point [iblk, V, place t]

/-- The reference runs to its end and leaves its arguments as they were. -/
theorem reference_frame : Cert.quiescent_DactRefIdeal := fun m ρ _ =>
  (θ_run Cert.DactRefIdeal.defs _ _).mono (fun r h => ⟨fun c => (h c).2, sem_eq_zero_of_no_sems (by decide) r.2⟩)
    (Cert.DactRefIdeal.Value.run m ρ)

end Cert.DactValue

end
-- ==== Proof.Norm.lean ====
/- The gradient of the RMS norm -/
module

public import proofs.«01_k».proof.Defs
public import proofs.«01_k».proof.Proof.Gen.NormIdeal.Value
public import proofs.«01_k».proof.Proof.Gen.NormRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormValue

open Cert.NormIdeal Cert.NormIdeal.Gen

/-- Which block every window holds at step `t`: row block `t`, except for the gain and its gradient. -/
theorem place : ∀ t : Fin cfg0.N, win0_0.index t = ![t.val, 0] ∧ win0_1.index t = ![0, 0]
    ∧ win0_2.index t = ![t.val, 0] ∧ win0_3.index t = ![t.val, 0] ∧ win0_4.index t = ![t.val, 0]
    ∧ win0_5.index t = ![t.val, 0] ∧ win0_6.index t = ![0, 0] :=
  (by decide +kernel : ∀ t : Fin grid0.N, _)

/-- The gain's gradient starts from zero. -/
theorem zero_fill (j) : k0_pay2 (F := Ideal) j = 0 := by pointwise [k0_pay2]

/-- Every step adds its row block's part to the gain's gradient. -/
theorem grow (part : FVec Ideal S1x2048 .f32) (acc : Vec Ideal S1x2048 .f32) (j) : k0_pay3 part acc j = acc j + part j := by
  pointwise [k0_pay3]

set_option maxHeartbeats 1000000 in
theorem algebraic : Cert.algebraic_NormIdeal_NormRefIdeal := by
  pair_intro
  · run_from Cert.NormIdeal.Value.run_blocks m g
  · refine (θ_run _ _ _).mono ?_ (Cert.NormRefIdeal.Value.run m' g')
    intro r hr c
    obtain ⟨h1, h2, h3, h4, h5, h6, h7⟩ := hr c
    obtain ⟨ha, hb, hd, he⟩ := hagree c
    simp only [ha, hb, hd, he] at h1 h2 h3
    refine ⟨h1.trans (Eq.symm ?_), h2.trans (Eq.symm ?_), h3.trans (Eq.symm ?_), h4, h5, h6, h7⟩
    · refine (dats m 0 c).arrAt_eq_of_covers 4 _ (by decide +kernel) fun t hf y => ?_
      blk_simp; rw [after0_4]
      have e : (outsAt0 m c t.val t.isLt).1 y = k0_pay8 (iblk m c 0 t) (iblk m c 1 t) (iblk m c 2 t) (iblk m c 3 t) y := by
        by_cases h : t.val % 16 = 0
        · rw [outsAt0_A m c t h]; dsimp only; frame_out
        · rw [outsAt0_B m c t h]; dsimp only; frame_out
      refine e.trans ?_
      clear e h1 h2 h3 h4 h5 h6 h7 hr
      pointwise [k0_pay4, k0_pay5, k0_pay6, k0_pay8]
      blk_point [iblk, V, place t]
    · refine (dats m 0 c).arrAt_eq_of_covers 5 _ (by decide +kernel) fun t hf y => ?_
      blk_simp; rw [after0_5]
      have e : (outsAt0 m c t.val t.isLt).2.1 y = k0_pay1 (k0_pay8 (iblk m c 0 t) (iblk m c 1 t) (iblk m c 2 t) (iblk m c 3 t)) y := by
        by_cases h : t.val % 16 = 0
        · rw [outsAt0_A m c t h]; dsimp only; frame_out
        · rw [outsAt0_B m c t h]; dsimp only; frame_out
      refine e.trans ?_
      clear e h1 h2 h3 h4 h5 h6 h7 hr
      pointwise [k0_pay1, k0_pay4, k0_pay5, k0_pay6, k0_pay8]
      blk_point [iblk, V, place t]
    · clear h1 h2 h3 h4 h5 h6 h7 hr
      refine (dats m 0 c).arrAt_eq_of_covers 6 _ (by decide +kernel) fun t hf y => ?_
      blk_simp
      rw [after0_6, Pipeline.eq_sum_fin_of_reset_step_apply_of_flush (fun n h => (outsAt0 m c n h).2.2) 16 (fun _ => 0)
        (fun s j => k0_pay7 (iblk m c 0 s) (iblk m c 2 s) j)
        (fun t h j => by rw [outsAt0_A m c t h]; dsimp only; frame_out; rw [grow, zero_fill])
        (fun t h j => by rw [outsAt0_B m c t h]; dsimp only; frame_out; rw [grow])
        t ((flush0_6 t).mp hf) _, zero_add]
      pointwise [k0_pay4, k0_pay5, k0_pay6, k0_pay7]
      refine Fin.sum_mul_add_congr fun s k hl => ?_
      blk_point [iblk, V, place t, place ⟨_, Pipeline.run_point_lt_of_flush t ((flush0_6 t).mp hf) s⟩]

/-- The reference runs to its end and leaves its arguments as they were. -/
theorem reference_frame : Cert.quiescent_NormRefIdeal := fun m ρ _ =>
  (θ_run Cert.NormRefIdeal.defs _ _).mono (fun r h => ⟨fun c => (h c).2.2.2, sem_eq_zero_of_no_sems (by decide) r.2⟩)
    (Cert.NormRefIdeal.Value.run m ρ)

end Cert.NormValue

end
-- ==== Proof.Glu.lean ====
/- The gradient of the S5 output gate. -/
module

public import proofs.«01_k».proof.Defs
public import proofs.«01_k».proof.Proof.Gen.GluIdeal.Value
public import proofs.«01_k».proof.Proof.Gen.GluRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluValue

open Cert.GluIdeal Cert.GluIdeal.Gen

/-- `tanh` of the cubic that the tanh form of gelu takes. -/
def th (x : EReal) : EReal :=
  Ideal.tanh (Ideal.ofBits .f32 0x3F4C422A#32 * (x + Ideal.ofBits .f32 0x3D372713#32 * (x * x * x)))

/-- gelu, tanh form. -/
def gelu (x : EReal) : EReal := Ideal.ofBits .f32 0x3F000000#32 * x * (1 + th x)

/-- The gate: the logistic function of one row of `gelu Y` against one column of the weight, plus the bias. -/
def gate (Y W : Fin 1024 → EReal) (b : EReal) : EReal :=
  Ideal.div 1 (1 + Ideal.exp (-(∑ k, gelu (Y k) * W k + b)))

/-- The cotangent of the gate's argument, from the cotangent `d` of the output, gelu's argument `y` and the gate `s`. -/
def dgate (d y s : EReal) : EReal := d * gelu y * s * (1 - s)

theorem fold_th (x : EReal) :
    Ideal.tanh (Ideal.ofBits .f32 0x3F4C422A#32 * (x + Ideal.ofBits .f32 0x3D372713#32 * (x * x * x))) = th x := rfl

theorem fold_gelu (x : EReal) : x * (Ideal.ofBits .f32 0x3F000000#32 * (1 + th x)) = gelu x := by
  rw [gelu, mul_left_comm, mul_assoc]

theorem fold_gelu' (x : EReal) : Ideal.ofBits .f32 0x3F000000#32 * x * (1 + th x) = gelu x := rfl

theorem fold_dgate (d y s : EReal) : gelu y * d * (s * (1 - s)) = dgate d y s := by
  rw [dgate, mul_comm d, mul_assoc (gelu y * d)]

theorem fold_gate (Y W : Fin 1024 → EReal) (b : EReal) :
  Ideal.div 1 (1 + Ideal.exp (-(∑ k, gelu (Y k) * W k + b))) = gate Y W b := rfl

theorem pay_gate (v0 : Vec Ideal S256x1024 .f32) (v2 : Vec Ideal S1024x1024 .bf16) (v3 : Vec Ideal S1x1024 .f32) (y) :
    k0_pay8 v0 v2 v3 y = gate (fun k => v0 (ix2 (y 0) k)) (fun k => v2 (ix2 k (y 1))) (v3 (ix2 0 (y 1))) := by
  pointwise [k0_pay2, k0_pay3, k0_pay4, k0_pay6, k0_pay7, k0_pay8]
  rw [zero_sub]; rfl

theorem pay_dgate (v0 : Vec Ideal S256x1024 .f32) (v1 : Vec Ideal S256x1024 .bf16) (v2 : Vec Ideal S1024x1024 .bf16)
    (v3 : Vec Ideal S1x1024 .f32) (y) :
    k0_pay9 v0 v1 v2 v3 y = dgate (v1 y) (v0 y) (k0_pay8 v0 v2 v3 y) := by
  pointwise [k0_pay1, k0_pay2, k0_pay3, k0_pay4, k0_pay6, k0_pay7, k0_pay9]; rfl

theorem three : Ideal.ofBits .f32 0x40400000#32 = 1 + 1 + 1 := by
  rw [show (1 : EReal) = ((1 : ℝ) : EReal) by norm_cast, ← EReal.coe_add, ← EReal.coe_add]
  simp [Ideal.ofBits, Ideal.ieee, -EReal.coe_mul, -EReal.coe_add]; norm_num

/-- Three times an extended real is its sum with itself twice, infinities included. -/
theorem three_mul' (a : EReal) : Ideal.ofBits .f32 0x40400000#32 * a = a + a + a := by
  have h1 : (0 : EReal) ≤ 1 := zero_le_one
  rw [three, EReal.right_distrib_of_nonneg (add_nonneg h1 h1) h1, EReal.right_distrib_of_nonneg h1 h1, one_mul]

/-- The derivative of gelu at `y` applied to the cotangent `g`. -/
def dgelu (g y : EReal) : EReal :=
  g * (Ideal.ofBits .f32 0x3F000000#32 * (1 + th y)) +
      Ideal.ofBits .f32 0x3F4C422A#32 * (Ideal.ofBits .f32 0x3F000000#32 * (y * g) * ((1 + th y) * (1 - th y))) +
    Ideal.ofBits .f32 0x3D372713#32 *
        (Ideal.ofBits .f32 0x3F4C422A#32 * (Ideal.ofBits .f32 0x3F000000#32 * (y * g) * ((1 + th y) * (1 - th y)))) *
      (Ideal.ofBits .f32 0x40400000#32 * (y * y))

theorem fold_dgelu (g y : EReal) :
    g * (Ideal.ofBits .f32 0x3F000000#32 * (1 + th y)) +
      Ideal.ofBits .f32 0x3F4C422A#32 * (Ideal.ofBits .f32 0x3F000000#32 * (y * g) * ((1 + th y) * (1 - th y))) +
    Ideal.ofBits .f32 0x3D372713#32 *
        (Ideal.ofBits .f32 0x3F4C422A#32 * (Ideal.ofBits .f32 0x3F000000#32 * (y * g) * ((1 + th y) * (1 - th y)))) *
      (Ideal.ofBits .f32 0x40400000#32 * (y * y)) = dgelu g y := rfl

/-- The kernel differentiates the cube as a product of three factors, term by term. -/
theorem dgelu_terms (g y h p : EReal) (hp : p = Ideal.ofBits .f32 0x3F4C422A#32 *
      (Ideal.ofBits .f32 0x3F000000#32 * y * g * ((1 + th y) * (1 - th y)))) :
    p + y * y * (Ideal.ofBits .f32 0x3D372713#32 * p) + y * (Ideal.ofBits .f32 0x3D372713#32 * p * y)
        + Ideal.ofBits .f32 0x3D372713#32 * p * y * y + Ideal.ofBits .f32 0x3F000000#32 * (g * (1 + th y))
      = dgelu g y := by
  rw [dgelu, ← mul_assoc (Ideal.ofBits .f32 0x3F000000#32) y g, ← hp]
  generalize Ideal.ofBits .f32 0x3D372713#32 * p = q
  rw [mul_left_comm q, three_mul', mul_left_comm g, mul_comm (y * y) q, mul_left_comm y q y, mul_assoc q y y]
  generalize q * (y * y) = a
  generalize Ideal.ofBits .f32 0x3F000000#32 * (g * (1 + th y)) = b
  rw [add_comm _ b]
  simp only [add_assoc]

theorem pay_dy (v0 : Vec Ideal S256x1024 .f32) (v1 : Vec Ideal S256x1024 .bf16) (v2 : Vec Ideal S1024x1024 .bf16)
    (s d : FVec Ideal S256x1024 .f32) (y) :
    k0_pay10 v0 v2 (k0_pay1 v1) (k0_pay2 v0) (k0_pay3 v0) (k0_pay5 v0) (k0_pay6 v0) s d y
      = dgelu (v1 y * s y + ∑ k, d (ix2 (y 0) k) * v2 (ix2 (y 1) k)) (v0 y) := by
  pointwise [k0_pay1, k0_pay2, k0_pay3, k0_pay4, k0_pay5, k0_pay6, k0_pay10]
  exact dgelu_terms _ _ 0 _ rfl

/-- The weight's gradient and the bias's start from zero. -/
theorem zero_fill_w (j) : k0_pay11 (F := Ideal) j = 0 := by pointwise [k0_pay11]
theorem zero_fill_b (j) : k0_pay13 (F := Ideal) j = 0 := by pointwise [k0_pay13]

theorem grow_w (z d : FVec Ideal S256x1024 .f32) (acc : Vec Ideal S1024x1024 .f32) (j) :
    k0_pay12 z d acc j = acc j + ∑ k : Fin 256, z (ix2 k (j 0)) * d (ix2 k (j 1)) := by
  pointwise [k0_pay12]

theorem grow_b (d : FVec Ideal S256x1024 .f32) (acc : Vec Ideal S1x1024 .f32) (j) :
    k0_pay14 d acc j = acc j + ∑ k : Fin 256, d (ix2 k (j 1)) := by
  pointwise [k0_pay14]

theorem pay_gelu (v0 : Vec Ideal S256x1024 .f32) (y) : k0_pay7 v0 y = gelu (v0 y) := by
  pointwise [k0_pay2, k0_pay3, k0_pay4, k0_pay6, k0_pay7]; rfl

/-- Which block every window holds at step `t`: row block `t`, except for the weight, the bias and their gradients. -/
theorem place : ∀ t : Fin cfg0.N, win0_0.index t = ![t.val, 0] ∧ win0_1.index t = ![t.val, 0]
    ∧ win0_2.index t = ![0, 0] ∧ win0_3.index t = ![0, 0] ∧ win0_4.index t = ![t.val, 0]
    ∧ win0_5.index t = ![0, 0] ∧ win0_6.index t = ![0, 0] :=
  (by decide +kernel : ∀ t : Fin grid0.N, _)

set_option maxHeartbeats 1000000 in
theorem algebraic : Cert.algebraic_GluIdeal_GluRefIdeal := by
  pair_intro
  · run_from Cert.GluIdeal.Value.run_blocks m g
  · refine (θ_run _ _ _).mono ?_ (Cert.GluRefIdeal.Value.run m' g')
    intro r hr c
    obtain ⟨h1, h2, h3, h4, h5, h6, h7⟩ := hr c
    obtain ⟨ha, hb, hd, he⟩ := hagree c
    unfold Cert.GluRefIdeal.Value.res_main_v56 at h1
    simp only [ha, hb, hd, he] at h1 h2 h3
    refine ⟨h1.trans (Eq.symm ?_), h2.trans (Eq.symm ?_), h3.trans (Eq.symm ?_), h4, h5, h6, h7⟩
    · clear h1 h2 h3 h4 h5 h6 h7 hr
      refine (dats m 0 c).arrAt_eq_of_covers 4 _ (by decide +kernel) fun t hf y => ?_
      blk_simp; rw [after0_4]
      have e : (outsAt0 m c t.val t.isLt).1 y = k0_pay10 (iblk m c 0 t) (iblk m c 2 t) (k0_pay1 (iblk m c 1 t))
          (k0_pay2 (iblk m c 0 t)) (k0_pay3 (iblk m c 0 t)) (k0_pay5 (iblk m c 0 t)) (k0_pay6 (iblk m c 0 t))
          (k0_pay8 (iblk m c 0 t) (iblk m c 2 t) (iblk m c 3 t))
          (k0_pay9 (iblk m c 0 t) (iblk m c 1 t) (iblk m c 2 t) (iblk m c 3 t)) y := by
        by_cases h : t.val % 16 = 0
        · rw [outsAt0_A m c t h h]; dsimp only; frame_out
        · rw [outsAt0_B m c t h h]; dsimp only; frame_out
      refine e.trans ((pay_dy _ _ _ _ _ y).trans ?_)
      simp only [pay_dgate, pay_gate]
      pointwise
      simp only [fold_th]
      simp only [fold_gelu]
      simp only [fold_gate, fold_dgate]
      simp only [fold_dgelu]
      blk_point [iblk, V, place t]
    · clear h1 h2 h3 h4 h5 h6 h7 hr
      refine (dats m 0 c).arrAt_eq_of_covers 5 _ (by decide +kernel) fun t hf y => ?_
      blk_simp
      rw [after0_5, Pipeline.eq_sum_fin_of_reset_step_apply_of_flush (fun n h => (outsAt0 m c n h).2.1) 16 (fun _ => 0)
        (fun s j => ∑ k : Fin 256, k0_pay7 (iblk m c 0 s) (ix2 k (j 0))
          * k0_pay9 (iblk m c 0 s) (iblk m c 1 s) (iblk m c 2 s) (iblk m c 3 s) (ix2 k (j 1)))
        (fun t h j => by rw [outsAt0_A m c t h h]; dsimp only; frame_out; rw [grow_w, zero_fill_w])
        (fun t h j => by rw [outsAt0_B m c t h h]; dsimp only; frame_out; rw [grow_w])
        t ((flush0_5 t).mp hf) _, zero_add]
      simp only [pay_dgate, pay_gate, pay_gelu]
      pointwise
      simp only [fold_th]
      simp only [fold_gelu]
      simp only [fold_gate, fold_dgate]
      refine Fin.sum_mul_add_congr fun s k hl => ?_
      rw [mul_comm]
      blk_point [iblk, V, place t, place ⟨_, Pipeline.run_point_lt_of_flush t ((flush0_5 t).mp hf) s⟩]
    · clear h1 h2 h3 h4 h5 h6 h7 hr
      refine (dats m 0 c).arrAt_eq_of_covers 6 _ (by decide +kernel) fun t hf y => ?_
      blk_simp
      rw [after0_6, Pipeline.eq_sum_fin_of_reset_step_apply_of_flush (fun n h => (outsAt0 m c n h).2.2) 16 (fun _ => 0)
        (fun s j => ∑ k : Fin 256,
          k0_pay9 (iblk m c 0 s) (iblk m c 1 s) (iblk m c 2 s) (iblk m c 3 s) (ix2 k (j 1)))
        (fun t h j => by rw [outsAt0_A m c t h h]; dsimp only; frame_out; rw [grow_b, zero_fill_b])
        (fun t h j => by rw [outsAt0_B m c t h h]; dsimp only; frame_out; rw [grow_b])
        t ((flush0_6 t).mp hf) _, zero_add]
      simp only [pay_dgate, pay_gate]
      pointwise
      simp only [fold_th]
      simp only [fold_gelu]
      simp only [fold_gate, fold_dgate]
      refine Fin.sum_mul_add_congr fun s k hl => ?_
      blk_point [iblk, V, place t, place ⟨_, Pipeline.run_point_lt_of_flush t ((flush0_6 t).mp hf) s⟩]

/-- The reference runs to its end and leaves its arguments as they were. -/
theorem reference_frame : Cert.quiescent_GluRefIdeal := fun m ρ _ =>
  (θ_run Cert.GluRefIdeal.defs _ _).mono (fun r h => ⟨fun c => (h c).2.2.2, sem_eq_zero_of_no_sems (by decide) r.2⟩)
    (Cert.GluRefIdeal.Value.run m ρ)

end Cert.GluValue

end
-- ==== Proof.Merge.lean ====
/- The gradient of the two merge gates: each result array of the kernel is, entry by entry, what the
   reference's derivative is at that entry. -/
module

public import proofs.«01_k».proof.Defs
public import proofs.«01_k».proof.Proof.Gen.MergeIdeal.Frame
public import proofs.«01_k».proof.Proof.Gen.MergeRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeValue

open Cert.MergeIdeal Cert.MergeIdeal.Gen

/-- Which block every window holds at step `t`: row block `t % 16`, column block `t / 16`; the two gate
    windows read the projection from columns 5120 and 7168 on. -/
theorem place : ∀ t : Fin cfg0.N, win0_0.index t = ![t.val % 16, 5 + t.val / 16]
    ∧ win0_1.index t = ![t.val % 16, 7 + t.val / 16]
    ∧ win0_2.index t = ![t.val % 16, t.val / 16] ∧ win0_3.index t = ![t.val % 16, t.val / 16]
    ∧ win0_4.index t = ![t.val % 16, t.val / 16] ∧ win0_5.index t = ![t.val % 16, t.val / 16]
    ∧ win0_6.index t = ![t.val % 16, t.val / 16] ∧ win0_7.index t = ![t.val % 16, t.val / 16]
    ∧ win0_8.index t = ![t.val % 16, t.val / 16] :=
  (by decide +kernel : ∀ t : Fin grid0.N, _)

theorem algebraic : Cert.algebraic_MergeIdeal_MergeRefIdeal := by
  pair_intro
  · run_from Cert.MergeIdeal.Gen.run_main m g
  · run_from Cert.MergeRefIdeal.Value.run m' g'
    · symm
      refine (dats m 0 c).arrAt_eq_of_covers 5 _ (by decide +kernel) fun t _ y => ?_
      blk_simp; rw [after0_5]; frame_out
      pointwise [k0_pay3, k0_pay4, k0_pay8]
      simp only [zero_sub, mul_assoc]
      blk_point [iblk, V, place t]

    · symm
      refine (dats m 0 c).arrAt_eq_of_covers 6 _ (by decide +kernel) fun t _ y => ?_
      blk_simp; rw [after0_6]; frame_out
      pointwise [k0_pay3, k0_pay5, k0_pay9]
      simp only [zero_sub, mul_assoc]
      blk_point [iblk, V, place t]

    · symm
      refine (dats m 0 c).arrAt_eq_of_covers 7 _ (by decide +kernel) fun t _ y => ?_
      blk_simp; rw [after0_7]; frame_out
      pointwise [k0_pay1, k0_pay3, k0_pay4, k0_pay6]
      simp only [zero_sub, mul_assoc]
      blk_point [iblk, V, place t]

    · symm
      refine (dats m 0 c).arrAt_eq_of_covers 8 _ (by decide +kernel) fun t _ y => ?_
      blk_simp; rw [after0_8]; frame_out
      pointwise [k0_pay2, k0_pay3, k0_pay5, k0_pay7]
      simp only [zero_sub, mul_assoc]
      blk_point [iblk, V, place t]

/-- The reference runs to its end and leaves its arguments as they were. -/
theorem reference_frame : Cert.quiescent_MergeRefIdeal := fun m ρ _ =>
  (θ_run Cert.MergeRefIdeal.defs _ _).mono (fun r h => ⟨fun c => (h c).2.2.2.2, sem_eq_zero_of_no_sems (by decide) r.2⟩)
    (Cert.MergeRefIdeal.Value.run m ρ)

end Cert.MergeValue

end
-- ==== Proof.lean ====
/- The claims: every kernel of this directory runs to its end without a fault and leaves its arguments as they
   were, so do its ideal reading and its reference, and the ideal readings of kernel and reference compute the
   same results, those of `Conv` of finite arguments. The frames are the generated ones; each value claim is proved in the module of its kernel. -/
module

public import proofs.«01_k».proof.Proof.Conv
public import proofs.«01_k».proof.Proof.SumNorm
public import proofs.«01_k».proof.Proof.SumSmall
public import proofs.«01_k».proof.Proof.Bounds
public import proofs.«01_k».proof.Proof.AdamConv
public import proofs.«01_k».proof.Proof.AdamDown
public import proofs.«01_k».proof.Proof.AdamUp
public import proofs.«01_k».proof.Proof.AdamOut
public import proofs.«01_k».proof.Proof.AdamPs5
public import proofs.«01_k».proof.Proof.AdamGlu
public import proofs.«01_k».proof.Proof.AdamIn
public import proofs.«01_k».proof.Proof.Disc
public import proofs.«01_k».proof.Proof.Loss
public import proofs.«01_k».proof.Proof.ConvFwd
public import proofs.«01_k».proof.Proof.GluFwd
public import proofs.«01_k».proof.Proof.MergeFwd
public import proofs.«01_k».proof.Proof.RmsFwd
public import proofs.«01_k».proof.Proof.Ps5
public import proofs.«01_k».proof.Proof.Out
public import proofs.«01_k».proof.Proof.Down
public import proofs.«01_k».proof.Proof.Up
public import proofs.«01_k».proof.Proof.Dh1
public import proofs.«01_k».proof.Proof.GwIn
public import proofs.«01_k».proof.Proof.GwPs5
public import proofs.«01_k».proof.Proof.Dz
public import proofs.«01_k».proof.Proof.GwOut
public import proofs.«01_k».proof.Proof.Dmerged
public import proofs.«01_k».proof.Proof.GwUp
public import proofs.«01_k».proof.Proof.Dh2
public import proofs.«01_k».proof.Proof.GwDown
public import proofs.«01_k».proof.Proof.Dact
public import proofs.«01_k».proof.Proof.Norm
public import proofs.«01_k».proof.Proof.Glu
public import proofs.«01_k».proof.Proof.Merge
public import proofs.«01_k».proof.Proof.Gen.ConvRefIdeal.Run
public import proofs.«01_k».proof.Proof.Gen.ConvIdeal.Value
public import proofs.«01_k».proof.Proof.Gen.SumNormRefIdeal.Run
public import proofs.«01_k».proof.Proof.Gen.SumNormIdeal.Value
public import proofs.«01_k».proof.Proof.Gen.SumSmallRefIdeal.Run
public import proofs.«01_k».proof.Proof.Gen.SumSmallIdeal.Value
public import proofs.«01_k».proof.Proof.Gen.BoundsRefIdeal.Run
public import proofs.«01_k».proof.Proof.Gen.BoundsIdeal.Value
public import proofs.«01_k».proof.Proof.Gen.AdamConvRefIdeal.Run
public import proofs.«01_k».proof.Proof.Gen.AdamConvIdeal.Value
public import proofs.«01_k».proof.Proof.Gen.AdamDownRefIdeal.Run
public import proofs.«01_k».proof.Proof.Gen.AdamDownIdeal.Value
public import proofs.«01_k».proof.Proof.Gen.AdamUpRefIdeal.Run
public import proofs.«01_k».proof.Proof.Gen.AdamUpIdeal.Value
public import proofs.«01_k».proof.Proof.Gen.AdamOutRefIdeal.Run
public import proofs.«01_k».proof.Proof.Gen.AdamOutIdeal.Value
public import proofs.«01_k».proof.Proof.Gen.AdamPs5RefIdeal.Run
public import proofs.«01_k».proof.Proof.Gen.AdamPs5Ideal.Value
public import proofs.«01_k».proof.Proof.Gen.AdamGluRefIdeal.Run
public import proofs.«01_k».proof.Proof.Gen.AdamGluIdeal.Value
public import proofs.«01_k».proof.Proof.Gen.AdamInRefIdeal.Run
public import proofs.«01_k».proof.Proof.Gen.AdamInIdeal.Value
public import proofs.«01_k».proof.Proof.Gen.DiscRefIdeal.Run
public import proofs.«01_k».proof.Proof.Gen.DiscIdeal.Value
public import proofs.«01_k».proof.Proof.Gen.LossRefIdeal.Run
public import proofs.«01_k».proof.Proof.Gen.LossIdeal.Value
public import proofs.«01_k».proof.Proof.Gen.ConvFwdRefIdeal.Run
public import proofs.«01_k».proof.Proof.Gen.ConvFwdIdeal.Value
public import proofs.«01_k».proof.Proof.Gen.GluFwdRefIdeal.Run
public import proofs.«01_k».proof.Proof.Gen.GluFwdIdeal.Value
public import proofs.«01_k».proof.Proof.Gen.MergeFwdRefIdeal.Run
public import proofs.«01_k».proof.Proof.Gen.MergeFwdIdeal.Value
public import proofs.«01_k».proof.Proof.Gen.RmsFwdRefIdeal.Run
public import proofs.«01_k».proof.Proof.Gen.RmsFwdIdeal.Value
public import proofs.«01_k».proof.Proof.Gen.Ps5RefIdeal.Run
public import proofs.«01_k».proof.Proof.Gen.Ps5Ideal.Value
public import proofs.«01_k».proof.Proof.Gen.OutRefIdeal.Run
public import proofs.«01_k».proof.Proof.Gen.OutIdeal.Value
public import proofs.«01_k».proof.Proof.Gen.DownRefIdeal.Run
public import proofs.«01_k».proof.Proof.Gen.DownIdeal.Value
public import proofs.«01_k».proof.Proof.Gen.UpRefIdeal.Run
public import proofs.«01_k».proof.Proof.Gen.UpIdeal.Value
public import proofs.«01_k».proof.Proof.Gen.Dh1RefIdeal.Run
public import proofs.«01_k».proof.Proof.Gen.Dh1Ideal.Value
public import proofs.«01_k».proof.Proof.Gen.GwInRefIdeal.Run
public import proofs.«01_k».proof.Proof.Gen.GwInIdeal.Value
public import proofs.«01_k».proof.Proof.Gen.GwPs5RefIdeal.Run
public import proofs.«01_k».proof.Proof.Gen.GwPs5Ideal.Value
public import proofs.«01_k».proof.Proof.Gen.DzRefIdeal.Run
public import proofs.«01_k».proof.Proof.Gen.DzIdeal.Value
public import proofs.«01_k».proof.Proof.Gen.GwOutRefIdeal.Run
public import proofs.«01_k».proof.Proof.Gen.GwOutIdeal.Value
public import proofs.«01_k».proof.Proof.Gen.DmergedRefIdeal.Run
public import proofs.«01_k».proof.Proof.Gen.DmergedIdeal.Value
public import proofs.«01_k».proof.Proof.Gen.GwUpRefIdeal.Run
public import proofs.«01_k».proof.Proof.Gen.GwUpIdeal.Value
public import proofs.«01_k».proof.Proof.Gen.Dh2RefIdeal.Run
public import proofs.«01_k».proof.Proof.Gen.Dh2Ideal.Value
public import proofs.«01_k».proof.Proof.Gen.GwDownRefIdeal.Run
public import proofs.«01_k».proof.Proof.Gen.GwDownIdeal.Value
public import proofs.«01_k».proof.Proof.Gen.DactRefIdeal.Run
public import proofs.«01_k».proof.Proof.Gen.DactIdeal.Value
public import proofs.«01_k».proof.Proof.Gen.NormRefIdeal.Run
public import proofs.«01_k».proof.Proof.Gen.NormIdeal.Value
public import proofs.«01_k».proof.Proof.Gen.GluRefIdeal.Run
public import proofs.«01_k».proof.Proof.Gen.GluIdeal.Value
public import proofs.«01_k».proof.Proof.Gen.MergeRefIdeal.Run
public import proofs.«01_k».proof.Proof.Gen.MergeIdeal.Value
public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactRefIdeal
public import proofs.«01_k».proof.Proof.Gen.GwDown
public import proofs.«01_k».proof.Proof.Gen.GwDown.Skeleton
public import proofs.«01_k».proof.Proof.Gen.GwDown.Launch
public import proofs.«01_k».proof.Proof.Gen.GwDown.Points
public import proofs.«01_k».proof.Proof.Gen.GwDown.Frame
public import proofs.«01_k».proof.Proof.Gen.GwDownIdeal
public import proofs.«01_k».proof.Proof.Gen.GwDownIdeal.Skeleton
public import proofs.«01_k».proof.Proof.Gen.GwDownIdeal.Launch
public import proofs.«01_k».proof.Proof.Gen.GwDownIdeal.Points
public import proofs.«01_k».proof.Proof.Gen.GwDownIdeal.Frame
public import proofs.«01_k».proof.Proof.Gen.GwDownRefIdeal
public import proofs.«01_k».proof.Proof.Gen.Dh2
public import proofs.«01_k».proof.Proof.Gen.Dh2.Skeleton
public import proofs.«01_k».proof.Proof.Gen.Dh2.Launch
public import proofs.«01_k».proof.Proof.Gen.Dh2.Points
public import proofs.«01_k».proof.Proof.Gen.Dh2.Frame
public import proofs.«01_k».proof.Proof.Gen.Dh2Ideal
public import proofs.«01_k».proof.Proof.Gen.Dh2Ideal.Skeleton
public import proofs.«01_k».proof.Proof.Gen.Dh2Ideal.Launch
public import proofs.«01_k».proof.Proof.Gen.Dh2Ideal.Points
public import proofs.«01_k».proof.Proof.Gen.Dh2Ideal.Frame
public import proofs.«01_k».proof.Proof.Gen.Dh2RefIdeal
public import proofs.«01_k».proof.Proof.Gen.GwUp
public import proofs.«01_k».proof.Proof.Gen.GwUp.Skeleton
public import proofs.«01_k».proof.Proof.Gen.GwUp.Launch
public import proofs.«01_k».proof.Proof.Gen.GwUp.Points
public import proofs.«01_k».proof.Proof.Gen.GwUp.Frame
public import proofs.«01_k».proof.Proof.Gen.GwUpIdeal
public import proofs.«01_k».proof.Proof.Gen.GwUpIdeal.Skeleton
public import proofs.«01_k».proof.Proof.Gen.GwUpIdeal.Launch
public import proofs.«01_k».proof.Proof.Gen.GwUpIdeal.Points
public import proofs.«01_k».proof.Proof.Gen.GwUpIdeal.Frame
public import proofs.«01_k».proof.Proof.Gen.GwUpRefIdeal
public import proofs.«01_k».proof.Proof.Gen.Dmerged
public import proofs.«01_k».proof.Proof.Gen.Dmerged.Skeleton
public import proofs.«01_k».proof.Proof.Gen.Dmerged.Launch
public import proofs.«01_k».proof.Proof.Gen.Dmerged.Points
public import proofs.«01_k».proof.Proof.Gen.Dmerged.Frame
public import proofs.«01_k».proof.Proof.Gen.DmergedIdeal
public import proofs.«01_k».proof.Proof.Gen.DmergedIdeal.Skeleton
public import proofs.«01_k».proof.Proof.Gen.DmergedIdeal.Launch
public import proofs.«01_k».proof.Proof.Gen.DmergedIdeal.Points
public import proofs.«01_k».proof.Proof.Gen.DmergedIdeal.Frame
public import proofs.«01_k».proof.Proof.Gen.DmergedRefIdeal
public import proofs.«01_k».proof.Proof.Gen.GwOut
public import proofs.«01_k».proof.Proof.Gen.GwOut.Skeleton
public import proofs.«01_k».proof.Proof.Gen.GwOut.Launch
public import proofs.«01_k».proof.Proof.Gen.GwOut.Points
public import proofs.«01_k».proof.Proof.Gen.GwOut.Frame
public import proofs.«01_k».proof.Proof.Gen.GwOutIdeal
public import proofs.«01_k».proof.Proof.Gen.GwOutIdeal.Skeleton
public import proofs.«01_k».proof.Proof.Gen.GwOutIdeal.Launch
public import proofs.«01_k».proof.Proof.Gen.GwOutIdeal.Points
public import proofs.«01_k».proof.Proof.Gen.GwOutIdeal.Frame
public import proofs.«01_k».proof.Proof.Gen.GwOutRefIdeal
public import proofs.«01_k».proof.Proof.Gen.Dz
public import proofs.«01_k».proof.Proof.Gen.Dz.Skeleton
public import proofs.«01_k».proof.Proof.Gen.Dz.Launch
public import proofs.«01_k».proof.Proof.Gen.Dz.Points
public import proofs.«01_k».proof.Proof.Gen.Dz.Frame
public import proofs.«01_k».proof.Proof.Gen.DzIdeal
public import proofs.«01_k».proof.Proof.Gen.DzIdeal.Skeleton
public import proofs.«01_k».proof.Proof.Gen.DzIdeal.Launch
public import proofs.«01_k».proof.Proof.Gen.DzIdeal.Points
public import proofs.«01_k».proof.Proof.Gen.DzIdeal.Frame
public import proofs.«01_k».proof.Proof.Gen.DzRefIdeal
public import proofs.«01_k».proof.Proof.Gen.GwPs5
public import proofs.«01_k».proof.Proof.Gen.GwPs5.Skeleton
public import proofs.«01_k».proof.Proof.Gen.GwPs5.Launch
public import proofs.«01_k».proof.Proof.Gen.GwPs5.Points
public import proofs.«01_k».proof.Proof.Gen.GwPs5.Frame
public import proofs.«01_k».proof.Proof.Gen.GwPs5Ideal
public import proofs.«01_k».proof.Proof.Gen.GwPs5Ideal.Skeleton
public import proofs.«01_k».proof.Proof.Gen.GwPs5Ideal.Launch
public import proofs.«01_k».proof.Proof.Gen.GwPs5Ideal.Points
public import proofs.«01_k».proof.Proof.Gen.GwPs5Ideal.Frame
public import proofs.«01_k».proof.Proof.Gen.GwPs5RefIdeal
public import proofs.«01_k».proof.Proof.Gen.GwIn
public import proofs.«01_k».proof.Proof.Gen.GwIn.Skeleton
public import proofs.«01_k».proof.Proof.Gen.GwIn.Launch
public import proofs.«01_k».proof.Proof.Gen.GwIn.Points
public import proofs.«01_k».proof.Proof.Gen.GwIn.Frame
public import proofs.«01_k».proof.Proof.Gen.GwInIdeal
public import proofs.«01_k».proof.Proof.Gen.GwInIdeal.Skeleton
public import proofs.«01_k».proof.Proof.Gen.GwInIdeal.Launch
public import proofs.«01_k».proof.Proof.Gen.GwInIdeal.Points
public import proofs.«01_k».proof.Proof.Gen.GwInIdeal.Frame
public import proofs.«01_k».proof.Proof.Gen.GwInRefIdeal
public import proofs.«01_k».proof.Proof.Gen.Dh1
public import proofs.«01_k».proof.Proof.Gen.Dh1.Skeleton
public import proofs.«01_k».proof.Proof.Gen.Dh1.Launch
public import proofs.«01_k».proof.Proof.Gen.Dh1.Points
public import proofs.«01_k».proof.Proof.Gen.Dh1.Frame
public import proofs.«01_k».proof.Proof.Gen.Dh1Ideal
public import proofs.«01_k».proof.Proof.Gen.Dh1Ideal.Skeleton
public import proofs.«01_k».proof.Proof.Gen.Dh1Ideal.Launch
public import proofs.«01_k».proof.Proof.Gen.Dh1Ideal.Points
public import proofs.«01_k».proof.Proof.Gen.Dh1Ideal.Frame
public import proofs.«01_k».proof.Proof.Gen.Dh1RefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Ps5
public import proofs.«01_k».proof.Proof.Gen.Ps5.Skeleton
public import proofs.«01_k».proof.Proof.Gen.Ps5.Launch
public import proofs.«01_k».proof.Proof.Gen.Ps5.Points
public import proofs.«01_k».proof.Proof.Gen.Ps5.Frame
public import proofs.«01_k».proof.Proof.Gen.Ps5Ideal
public import proofs.«01_k».proof.Proof.Gen.Ps5Ideal.Skeleton
public import proofs.«01_k».proof.Proof.Gen.Ps5Ideal.Launch
public import proofs.«01_k».proof.Proof.Gen.Ps5Ideal.Points
public import proofs.«01_k».proof.Proof.Gen.Ps5Ideal.Frame
public import proofs.«01_k».proof.Proof.Gen.Ps5RefIdeal
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdRefIdeal
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.GluFwd
public import proofs.«01_k».proof.Proof.Gen.GluFwd.Skeleton
public import proofs.«01_k».proof.Proof.Gen.GluFwd.Launch
public import proofs.«01_k».proof.Proof.Gen.GluFwd.Points
public import proofs.«01_k».proof.Proof.Gen.GluFwd.Frame
public import proofs.«01_k».proof.Proof.Gen.GluFwdIdeal
public import proofs.«01_k».proof.Proof.Gen.GluFwdIdeal.Skeleton
public import proofs.«01_k».proof.Proof.Gen.GluFwdIdeal.Launch
public import proofs.«01_k».proof.Proof.Gen.GluFwdIdeal.Points
public import proofs.«01_k».proof.Proof.Gen.GluFwdIdeal.Frame
public import proofs.«01_k».proof.Proof.Gen.GluFwdRefIdeal
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Disc
public import proofs.«01_k».proof.Proof.Gen.Disc.Skeleton
public import proofs.«01_k».proof.Proof.Gen.Disc.Launch
public import proofs.«01_k».proof.Proof.Gen.Disc.Points
public import proofs.«01_k».proof.Proof.Gen.Disc.Frame
public import proofs.«01_k».proof.Proof.Gen.DiscIdeal
public import proofs.«01_k».proof.Proof.Gen.DiscIdeal.Skeleton
public import proofs.«01_k».proof.Proof.Gen.DiscIdeal.Launch
public import proofs.«01_k».proof.Proof.Gen.DiscIdeal.Points
public import proofs.«01_k».proof.Proof.Gen.DiscIdeal.Frame
public import proofs.«01_k».proof.Proof.Gen.DiscRefIdeal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamGlu
public import proofs.«01_k».proof.Proof.Gen.AdamGlu.Skeleton
public import proofs.«01_k».proof.Proof.Gen.AdamGlu.Launch
public import proofs.«01_k».proof.Proof.Gen.AdamGlu.Points
public import proofs.«01_k».proof.Proof.Gen.AdamGlu.Frame
public import proofs.«01_k».proof.Proof.Gen.AdamGluIdeal
public import proofs.«01_k».proof.Proof.Gen.AdamGluIdeal.Skeleton
public import proofs.«01_k».proof.Proof.Gen.AdamGluIdeal.Launch
public import proofs.«01_k».proof.Proof.Gen.AdamGluIdeal.Points
public import proofs.«01_k».proof.Proof.Gen.AdamGluIdeal.Frame
public import proofs.«01_k».proof.Proof.Gen.AdamGluRefIdeal
public import proofs.«01_k».proof.Proof.Gen.AdamPs5
public import proofs.«01_k».proof.Proof.Gen.AdamPs5.Skeleton
public import proofs.«01_k».proof.Proof.Gen.AdamPs5.Launch
public import proofs.«01_k».proof.Proof.Gen.AdamPs5.Points
public import proofs.«01_k».proof.Proof.Gen.AdamPs5.Frame
public import proofs.«01_k».proof.Proof.Gen.AdamPs5Ideal
public import proofs.«01_k».proof.Proof.Gen.AdamPs5Ideal.Skeleton
public import proofs.«01_k».proof.Proof.Gen.AdamPs5Ideal.Launch
public import proofs.«01_k».proof.Proof.Gen.AdamPs5Ideal.Points
public import proofs.«01_k».proof.Proof.Gen.AdamPs5Ideal.Frame
public import proofs.«01_k».proof.Proof.Gen.AdamPs5RefIdeal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvRefIdeal
public import proofs.«01_k».proof.Proof.Gen.Bounds
public import proofs.«01_k».proof.Proof.Gen.Bounds.Skeleton
public import proofs.«01_k».proof.Proof.Gen.Bounds.Launch
public import proofs.«01_k».proof.Proof.Gen.Bounds.Points
public import proofs.«01_k».proof.Proof.Gen.Bounds.Frame
public import proofs.«01_k».proof.Proof.Gen.BoundsIdeal
public import proofs.«01_k».proof.Proof.Gen.BoundsIdeal.Skeleton
public import proofs.«01_k».proof.Proof.Gen.BoundsIdeal.Launch
public import proofs.«01_k».proof.Proof.Gen.BoundsIdeal.Points
public import proofs.«01_k».proof.Proof.Gen.BoundsIdeal.Frame
public import proofs.«01_k».proof.Proof.Gen.BoundsRefIdeal
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.SumNorm
public import proofs.«01_k».proof.Proof.Gen.SumNorm.Skeleton
public import proofs.«01_k».proof.Proof.Gen.SumNorm.Launch
public import proofs.«01_k».proof.Proof.Gen.SumNorm.Points
public import proofs.«01_k».proof.Proof.Gen.SumNorm.Frame
public import proofs.«01_k».proof.Proof.Gen.SumNormIdeal
public import proofs.«01_k».proof.Proof.Gen.SumNormIdeal.Skeleton
public import proofs.«01_k».proof.Proof.Gen.SumNormIdeal.Launch
public import proofs.«01_k».proof.Proof.Gen.SumNormIdeal.Points
public import proofs.«01_k».proof.Proof.Gen.SumNormIdeal.Frame
public import proofs.«01_k».proof.Proof.Gen.SumNormRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Pre_finite
public import Idealize.ShloMosaic.Adequacy
public import Idealize.ShloMosaic.Init

@[expose] public section

noncomputable section

namespace Cert.Proof

open Idealize.ShloMosaic Idealize.SL.Sem Cert.Merge

theorem claim : Cert.Claim := ⟨Cert.Merge.Gen.facts,
  Cert.MergeIdeal.Gen.facts,
  Cert.MergeRefIdeal.Gen.facts,
  Cert.Glu.Gen.facts,
  Cert.GluIdeal.Gen.facts,
  Cert.GluRefIdeal.Gen.facts,
  Cert.Norm.Gen.facts,
  Cert.NormIdeal.Gen.facts,
  Cert.NormRefIdeal.Gen.facts,
  Cert.Dact.Gen.facts,
  Cert.DactIdeal.Gen.facts,
  Cert.DactRefIdeal.Gen.facts,
  Cert.GwDown.Gen.facts,
  Cert.GwDownIdeal.Gen.facts,
  Cert.GwDownRefIdeal.Gen.facts,
  Cert.Dh2.Gen.facts,
  Cert.Dh2Ideal.Gen.facts,
  Cert.Dh2RefIdeal.Gen.facts,
  Cert.GwUp.Gen.facts,
  Cert.GwUpIdeal.Gen.facts,
  Cert.GwUpRefIdeal.Gen.facts,
  Cert.Dmerged.Gen.facts,
  Cert.DmergedIdeal.Gen.facts,
  Cert.DmergedRefIdeal.Gen.facts,
  Cert.GwOut.Gen.facts,
  Cert.GwOutIdeal.Gen.facts,
  Cert.GwOutRefIdeal.Gen.facts,
  Cert.Dz.Gen.facts,
  Cert.DzIdeal.Gen.facts,
  Cert.DzRefIdeal.Gen.facts,
  Cert.GwPs5.Gen.facts,
  Cert.GwPs5Ideal.Gen.facts,
  Cert.GwPs5RefIdeal.Gen.facts,
  Cert.GwIn.Gen.facts,
  Cert.GwInIdeal.Gen.facts,
  Cert.GwInRefIdeal.Gen.facts,
  Cert.Dh1.Gen.facts,
  Cert.Dh1Ideal.Gen.facts,
  Cert.Dh1RefIdeal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.Out.Gen.facts,
  Cert.OutIdeal.Gen.facts,
  Cert.OutRefIdeal.Gen.facts,
  Cert.Ps5.Gen.facts,
  Cert.Ps5Ideal.Gen.facts,
  Cert.Ps5RefIdeal.Gen.facts,
  Cert.RmsFwd.Gen.facts,
  Cert.RmsFwdIdeal.Gen.facts,
  Cert.RmsFwdRefIdeal.Gen.facts,
  Cert.MergeFwd.Gen.facts,
  Cert.MergeFwdIdeal.Gen.facts,
  Cert.MergeFwdRefIdeal.Gen.facts,
  Cert.GluFwd.Gen.facts,
  Cert.GluFwdIdeal.Gen.facts,
  Cert.GluFwdRefIdeal.Gen.facts,
  Cert.ConvFwd.Gen.facts,
  Cert.ConvFwdIdeal.Gen.facts,
  Cert.ConvFwdRefIdeal.Gen.facts,
  Cert.Loss.Gen.facts,
  Cert.LossIdeal.Gen.facts,
  Cert.LossRefIdeal.Gen.facts,
  Cert.Disc.Gen.facts,
  Cert.DiscIdeal.Gen.facts,
  Cert.DiscRefIdeal.Gen.facts,
  Cert.AdamIn.Gen.facts,
  Cert.AdamInIdeal.Gen.facts,
  Cert.AdamInRefIdeal.Gen.facts,
  Cert.AdamGlu.Gen.facts,
  Cert.AdamGluIdeal.Gen.facts,
  Cert.AdamGluRefIdeal.Gen.facts,
  Cert.AdamPs5.Gen.facts,
  Cert.AdamPs5Ideal.Gen.facts,
  Cert.AdamPs5RefIdeal.Gen.facts,
  Cert.AdamOut.Gen.facts,
  Cert.AdamOutIdeal.Gen.facts,
  Cert.AdamOutRefIdeal.Gen.facts,
  Cert.AdamUp.Gen.facts,
  Cert.AdamUpIdeal.Gen.facts,
  Cert.AdamUpRefIdeal.Gen.facts,
  Cert.AdamDown.Gen.facts,
  Cert.AdamDownIdeal.Gen.facts,
  Cert.AdamDownRefIdeal.Gen.facts,
  Cert.AdamConv.Gen.facts,
  Cert.AdamConvIdeal.Gen.facts,
  Cert.AdamConvRefIdeal.Gen.facts,
  Cert.Bounds.Gen.facts,
  Cert.BoundsIdeal.Gen.facts,
  Cert.BoundsRefIdeal.Gen.facts,
  Cert.SumSmall.Gen.facts,
  Cert.SumSmallIdeal.Gen.facts,
  Cert.SumSmallRefIdeal.Gen.facts,
  Cert.SumNorm.Gen.facts,
  Cert.SumNormIdeal.Gen.facts,
  Cert.SumNormRefIdeal.Gen.facts,
  Cert.Conv.Gen.facts,
  Cert.ConvIdeal.Gen.facts,
  Cert.ConvRefIdeal.Gen.facts,
  Cert.Pre_finite.Gen.facts,
  fun m ρ _ => Cert.Merge.Gen.frame m ρ,
  fun m ρ _ => Cert.MergeIdeal.Gen.frame m ρ,
  Cert.MergeValue.reference_frame,
  fun m ρ _ => Cert.Glu.Gen.frame m ρ,
  fun m ρ _ => Cert.GluIdeal.Gen.frame m ρ,
  Cert.GluValue.reference_frame,
  fun m ρ _ => Cert.Norm.Gen.frame m ρ,
  fun m ρ _ => Cert.NormIdeal.Gen.frame m ρ,
  Cert.NormValue.reference_frame,
  fun m ρ _ => Cert.Dact.Gen.frame m ρ,
  fun m ρ _ => Cert.DactIdeal.Gen.frame m ρ,
  Cert.DactValue.reference_frame,
  fun m ρ _ => Cert.GwDown.Gen.frame m ρ,
  fun m ρ _ => Cert.GwDownIdeal.Gen.frame m ρ,
  Cert.GwDownValue.reference_frame,
  fun m ρ _ => Cert.Dh2.Gen.frame m ρ,
  fun m ρ _ => Cert.Dh2Ideal.Gen.frame m ρ,
  Cert.Dh2Value.reference_frame,
  fun m ρ _ => Cert.GwUp.Gen.frame m ρ,
  fun m ρ _ => Cert.GwUpIdeal.Gen.frame m ρ,
  Cert.GwUpValue.reference_frame,
  fun m ρ _ => Cert.Dmerged.Gen.frame m ρ,
  fun m ρ _ => Cert.DmergedIdeal.Gen.frame m ρ,
  Cert.DmergedValue.reference_frame,
  fun m ρ _ => Cert.GwOut.Gen.frame m ρ,
  fun m ρ _ => Cert.GwOutIdeal.Gen.frame m ρ,
  Cert.GwOutValue.reference_frame,
  fun m ρ _ => Cert.Dz.Gen.frame m ρ,
  fun m ρ _ => Cert.DzIdeal.Gen.frame m ρ,
  Cert.DzValue.reference_frame,
  fun m ρ _ => Cert.GwPs5.Gen.frame m ρ,
  fun m ρ _ => Cert.GwPs5Ideal.Gen.frame m ρ,
  Cert.GwPs5Value.reference_frame,
  fun m ρ _ => Cert.GwIn.Gen.frame m ρ,
  fun m ρ _ => Cert.GwInIdeal.Gen.frame m ρ,
  Cert.GwInValue.reference_frame,
  fun m ρ _ => Cert.Dh1.Gen.frame m ρ,
  fun m ρ _ => Cert.Dh1Ideal.Gen.frame m ρ,
  Cert.Dh1Value.reference_frame,
  fun m ρ _ => Cert.Up.Gen.frame m ρ,
  fun m ρ _ => Cert.UpIdeal.Gen.frame m ρ,
  Cert.UpValue.reference_frame,
  fun m ρ _ => Cert.Down.Gen.frame m ρ,
  fun m ρ _ => Cert.DownIdeal.Gen.frame m ρ,
  Cert.DownValue.reference_frame,
  fun m ρ _ => Cert.Out.Gen.frame m ρ,
  fun m ρ _ => Cert.OutIdeal.Gen.frame m ρ,
  Cert.OutValue.reference_frame,
  fun m ρ _ => Cert.Ps5.Gen.frame m ρ,
  fun m ρ _ => Cert.Ps5Ideal.Gen.frame m ρ,
  Cert.Ps5Value.reference_frame,
  fun m ρ _ => Cert.RmsFwd.Gen.frame m ρ,
  fun m ρ _ => Cert.RmsFwdIdeal.Gen.frame m ρ,
  Cert.RmsFwdValue.reference_frame,
  fun m ρ _ => Cert.MergeFwd.Gen.frame m ρ,
  fun m ρ _ => Cert.MergeFwdIdeal.Gen.frame m ρ,
  Cert.MergeFwdValue.reference_frame,
  fun m ρ _ => Cert.GluFwd.Gen.frame m ρ,
  fun m ρ _ => Cert.GluFwdIdeal.Gen.frame m ρ,
  Cert.GluFwdValue.reference_frame,
  fun m ρ _ => Cert.ConvFwd.Gen.frame m ρ,
  fun m ρ _ => Cert.ConvFwdIdeal.Gen.frame m ρ,
  Cert.ConvFwdValue.reference_frame,
  fun m ρ _ => Cert.Loss.Gen.frame m ρ,
  fun m ρ _ => Cert.LossIdeal.Gen.frame m ρ,
  Cert.LossValue.reference_frame,
  fun m ρ _ => Cert.Disc.Gen.frame m ρ,
  fun m ρ _ => Cert.DiscIdeal.Gen.frame m ρ,
  Cert.DiscValue.reference_frame,
  fun m ρ _ => Cert.AdamIn.Gen.frame m ρ,
  fun m ρ _ => Cert.AdamInIdeal.Gen.frame m ρ,
  Cert.AdamInValue.reference_frame,
  fun m ρ _ => Cert.AdamGlu.Gen.frame m ρ,
  fun m ρ _ => Cert.AdamGluIdeal.Gen.frame m ρ,
  Cert.AdamGluValue.reference_frame,
  fun m ρ _ => Cert.AdamPs5.Gen.frame m ρ,
  fun m ρ _ => Cert.AdamPs5Ideal.Gen.frame m ρ,
  Cert.AdamPs5Value.reference_frame,
  fun m ρ _ => Cert.AdamOut.Gen.frame m ρ,
  fun m ρ _ => Cert.AdamOutIdeal.Gen.frame m ρ,
  Cert.AdamOutValue.reference_frame,
  fun m ρ _ => Cert.AdamUp.Gen.frame m ρ,
  fun m ρ _ => Cert.AdamUpIdeal.Gen.frame m ρ,
  Cert.AdamUpValue.reference_frame,
  fun m ρ _ => Cert.AdamDown.Gen.frame m ρ,
  fun m ρ _ => Cert.AdamDownIdeal.Gen.frame m ρ,
  Cert.AdamDownValue.reference_frame,
  fun m ρ _ => Cert.AdamConv.Gen.frame m ρ,
  fun m ρ _ => Cert.AdamConvIdeal.Gen.frame m ρ,
  Cert.AdamConvValue.reference_frame,
  fun m ρ _ => Cert.Bounds.Gen.frame m ρ,
  fun m ρ _ => Cert.BoundsIdeal.Gen.frame m ρ,
  Cert.BoundsValue.reference_frame,
  fun m ρ _ => Cert.SumSmall.Gen.frame m ρ,
  fun m ρ _ => Cert.SumSmallIdeal.Gen.frame m ρ,
  Cert.SumSmallValue.reference_frame,
  fun m ρ _ => Cert.SumNorm.Gen.frame m ρ,
  fun m ρ _ => Cert.SumNormIdeal.Gen.frame m ρ,
  Cert.SumNormValue.reference_frame,
  fun m ρ _ => Cert.Conv.Gen.frame m ρ,
  fun m ρ _ => Cert.ConvIdeal.Gen.frame m ρ,
  Cert.ConvValue.ideal_frame_finite,
  Cert.ConvValue.reference_frame,
  Cert.ConvValue.reference_frame_finite,
  trivial,
  Cert.MergeValue.algebraic,
  trivial,
  Cert.GluValue.algebraic,
  trivial,
  Cert.NormValue.algebraic,
  trivial,
  Cert.DactValue.algebraic,
  trivial,
  Cert.GwDownValue.algebraic,
  trivial,
  Cert.Dh2Value.algebraic,
  trivial,
  Cert.GwUpValue.algebraic,
  trivial,
  Cert.DmergedValue.algebraic,
  trivial,
  Cert.GwOutValue.algebraic,
  trivial,
  Cert.DzValue.algebraic,
  trivial,
  Cert.GwPs5Value.algebraic,
  trivial,
  Cert.GwInValue.algebraic,
  trivial,
  Cert.Dh1Value.algebraic,
  trivial,
  Cert.UpValue.algebraic,
  trivial,
  Cert.DownValue.algebraic,
  trivial,
  Cert.OutValue.algebraic,
  trivial,
  Cert.Ps5Value.algebraic,
  trivial,
  Cert.RmsFwdValue.algebraic,
  trivial,
  Cert.MergeFwdValue.algebraic,
  trivial,
  Cert.GluFwdValue.algebraic,
  trivial,
  Cert.ConvFwdValue.algebraic,
  trivial,
  Cert.LossValue.algebraic,
  trivial,
  Cert.DiscValue.algebraic,
  trivial,
  Cert.AdamInValue.algebraic,
  trivial,
  Cert.AdamGluValue.algebraic,
  trivial,
  Cert.AdamPs5Value.algebraic,
  trivial,
  Cert.AdamOutValue.algebraic,
  trivial,
  Cert.AdamUpValue.algebraic,
  trivial,
  Cert.AdamDownValue.algebraic,
  trivial,
  Cert.AdamConvValue.algebraic,
  trivial,
  Cert.BoundsValue.algebraic,
  trivial,
  Cert.SumSmallValue.algebraic,
  trivial,
  Cert.SumNormValue.algebraic,
  trivial,
  Cert.ConvValue.algebraic⟩

end Cert.Proof

end
